-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCReferenceIdeal (m : (ℓ : Loc Cert.OutCReferenceIdeal.nD Cert.OutCReferenceIdeal.τ Cert.OutCReferenceIdeal.sig) → Buf (Elt Ideal) ℓ) : Prop :=
  True

def Pre_OutAB (m : (ℓ : Loc Cert.OutAB.nD Cert.OutAB.τ Cert.OutAB.sig) → Buf (Elt Bits) ℓ) : Prop :=
  True

def Pre_OutABIdeal (m : (ℓ : Loc Cert.OutABIdeal.nD Cert.OutABIdeal.τ Cert.OutABIdeal.sig) → Buf (Elt Ideal) ℓ) : Prop :=
  True

def Pre_OutABReferenceIdeal (m : (ℓ : Loc Cert.OutABReferenceIdeal.nD Cert.OutABReferenceIdeal.τ Cert.OutABReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ r.2.sem = fun _ => 0)

def quiescent_OutCReferenceIdeal [hOutCReferenceIdeal : Cert.OutCReferenceIdeal.Facts] : Prop :=
  ∀ (m : (ℓ : Loc Cert.OutCReferenceIdeal.nD Cert.OutCReferenceIdeal.τ Cert.OutCReferenceIdeal.sig) → Buf (Elt Ideal) ℓ) (g : Dev Cert.OutCReferenceIdeal.nD → PrngReg), Pre_OutCReferenceIdeal m →
    θ_run (Cert.OutCReferenceIdeal.defs (F := Ideal)) (onTc (τ := Cert.OutCReferenceIdeal.τ) (Cert.OutCReferenceIdeal.main (F := Ideal))) ⟨m, fun _ => 0, g⟩ (fun r => (∀ c : Dev Cert.OutCReferenceIdeal.nD,
      r.2.mem ((c.tc : Thread Cert.OutCReferenceIdeal.nD Cert.OutCReferenceIdeal.τ).loc Cert.OutCReferenceIdeal.main_arg0) = m ((c.tc : Thread Cert.OutCReferenceIdeal.nD Cert.OutCReferenceIdeal.τ).loc Cert.OutCReferenceIdeal.main_arg0)
      ∧ r.2.mem ((c.tc : Thread Cert.OutCReferenceIdeal.nD Cert.OutCReferenceIdeal.τ).loc Cert.OutCReferenceIdeal.main_arg1) = m ((c.tc : Thread Cert.OutCReferenceIdeal.nD Cert.OutCReferenceIdeal.τ).loc Cert.OutCReferenceIdeal.main_arg1)
      ∧ r.2.mem ((c.tc : Thread Cert.OutCReferenceIdeal.nD Cert.OutCReferenceIdeal.τ).loc Cert.OutCReferenceIdeal.main_arg2) = m ((c.tc : Thread Cert.OutCReferenceIdeal.nD Cert.OutCReferenceIdeal.τ).loc Cert.OutCReferenceIdeal.main_arg2))
      ∧ r.2.sem = fun _ => 0)

def quiescent_OutAB [hOutAB : Cert.OutAB.Facts] : Prop :=
  ∀ (m : (ℓ : Loc Cert.OutAB.nD Cert.OutAB.τ Cert.OutAB.sig) → Buf (Elt Bits) ℓ) (g : Dev Cert.OutAB.nD → PrngReg), Pre_OutAB m →
    θ_run (Cert.OutAB.defs (F := Bits)) (onTc (τ := Cert.OutAB.τ) (Cert.OutAB.main (F := Bits))) ⟨m, fun _ => 0, g⟩ (fun r => (∀ c : Dev Cert.OutAB.nD,
      r.2.mem ((c.tc : Thread Cert.OutAB.nD Cert.OutAB.τ).loc Cert.OutAB.main_arg0) = m ((c.tc : Thread Cert.OutAB.nD Cert.OutAB.τ).loc Cert.OutAB.main_arg0)
      ∧ r.2.mem ((c.tc : Thread Cert.OutAB.nD Cert.OutAB.τ).loc Cert.OutAB.main_arg1) = m ((c.tc : Thread Cert.OutAB.nD Cert.OutAB.τ).loc Cert.OutAB.main_arg1)
      ∧ r.2.mem ((c.tc : Thread Cert.OutAB.nD Cert.OutAB.τ).loc Cert.OutAB.main_arg2) = m ((c.tc : Thread Cert.OutAB.nD Cert.OutAB.τ).loc Cert.OutAB.main_arg2)
      ∧ r.2.mem ((c.tc : Thread Cert.OutAB.nD Cert.OutAB.τ).loc Cert.OutAB.main_arg3) = m ((c.tc : Thread Cert.OutAB.nD Cert.OutAB.τ).loc Cert.OutAB.main_arg3))
      ∧ r.2.sem = fun _ => 0)

def quiescent_OutABIdeal [hOutABIdeal : Cert.OutABIdeal.Facts] : Prop :=
  ∀ (m : (ℓ : Loc Cert.OutABIdeal.nD Cert.OutABIdeal.τ Cert.OutABIdeal.sig) → Buf (Elt Ideal) ℓ) (g : Dev Cert.OutABIdeal.nD → PrngReg), Pre_OutABIdeal m →
    θ_run (Cert.OutABIdeal.defs (F := Ideal)) (onTc (τ := Cert.OutABIdeal.τ) (Cert.OutABIdeal.main (F := Ideal))) ⟨m, fun _ => 0, g⟩ (fun r => (∀ c : Dev Cert.OutABIdeal.nD,
      r.2.mem ((c.tc : Thread Cert.OutABIdeal.nD Cert.OutABIdeal.τ).loc Cert.OutABIdeal.main_arg0) = m ((c.tc : Thread Cert.OutABIdeal.nD Cert.OutABIdeal.τ).loc Cert.OutABIdeal.main_arg0)
      ∧ r.2.mem ((c.tc : Thread Cert.OutABIdeal.nD Cert.OutABIdeal.τ).loc Cert.OutABIdeal.main_arg1) = m ((c.tc : Thread Cert.OutABIdeal.nD Cert.OutABIdeal.τ).loc Cert.OutABIdeal.main_arg1)
      ∧ r.2.mem ((c.tc : Thread Cert.OutABIdeal.nD Cert.OutABIdeal.τ).loc Cert.OutABIdeal.main_arg2) = m ((c.tc : Thread Cert.OutABIdeal.nD Cert.OutABIdeal.τ).loc Cert.OutABIdeal.main_arg2)
      ∧ r.2.mem ((c.tc : Thread Cert.OutABIdeal.nD Cert.OutABIdeal.τ).loc Cert.OutABIdeal.main_arg3) = m ((c.tc : Thread Cert.OutABIdeal.nD Cert.OutABIdeal.τ).loc Cert.OutABIdeal.main_arg3))
      ∧ r.2.sem = fun _ => 0)

def quiescent_OutABReferenceIdeal [hOutABReferenceIdeal : Cert.OutABReferenceIdeal.Facts] : Prop :=
  ∀ (m : (ℓ : Loc Cert.OutABReferenceIdeal.nD Cert.OutABReferenceIdeal.τ Cert.OutABReferenceIdeal.sig) → Buf (Elt Ideal) ℓ) (g : Dev Cert.OutABReferenceIdeal.nD → PrngReg), Pre_OutABReferenceIdeal m →
    θ_run (Cert.OutABReferenceIdeal.defs (F := Ideal)) (onTc (τ := Cert.OutABReferenceIdeal.τ) (Cert.OutABReferenceIdeal.main (F := Ideal))) ⟨m, fun _ => 0, g⟩ (fun r => (∀ c : Dev Cert.OutABReferenceIdeal.nD,
      r.2.mem ((c.tc : Thread Cert.OutABReferenceIdeal.nD Cert.OutABReferenceIdeal.τ).loc Cert.OutABReferenceIdeal.main_arg0) = m ((c.tc : Thread Cert.OutABReferenceIdeal.nD Cert.OutABReferenceIdeal.τ).loc Cert.OutABReferenceIdeal.main_arg0)
      ∧ r.2.mem ((c.tc : Thread Cert.OutABReferenceIdeal.nD Cert.OutABReferenceIdeal.τ).loc Cert.OutABReferenceIdeal.main_arg1) = m ((c.tc : Thread Cert.OutABReferenceIdeal.nD Cert.OutABReferenceIdeal.τ).loc Cert.OutABReferenceIdeal.main_arg1)
      ∧ r.2.mem ((c.tc : Thread Cert.OutABReferenceIdeal.nD Cert.OutABReferenceIdeal.τ).loc Cert.OutABReferenceIdeal.main_arg2) = m ((c.tc : Thread Cert.OutABReferenceIdeal.nD Cert.OutABReferenceIdeal.τ).loc Cert.OutABReferenceIdeal.main_arg2)
      ∧ r.2.mem ((c.tc : Thread Cert.OutABReferenceIdeal.nD Cert.OutABReferenceIdeal.τ).loc Cert.OutABReferenceIdeal.main_arg3) = m ((c.tc : Thread Cert.OutABReferenceIdeal.nD Cert.OutABReferenceIdeal.τ).loc Cert.OutABReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v9_0)) (v1 : (c : Dev Cert.UpIdeal.nD) → Buf (Elt Ideal) ((c.tc : Thread Cert.UpIdeal.nD Cert.UpIdeal.τ).loc Cert.UpIdeal.main_v9_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v9_0) = v0 c
          ∧ r.2.mem ((c.tc : Thread Cert.UpIdeal.nD Cert.UpIdeal.τ).loc Cert.UpIdeal.main_v9_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v23) = v0 c
          ∧ r.2.mem ((c.tc : Thread Cert.UpReferenceIdeal.nD Cert.UpReferenceIdeal.τ).loc Cert.UpReferenceIdeal.main_v28) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0_0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v2)) (v1 : (c : Dev Cert.FinalIdeal.nD) → Buf (Elt Ideal) ((c.tc : Thread Cert.FinalIdeal.nD Cert.FinalIdeal.τ).loc Cert.FinalIdeal.main_v5)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_v5) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v13) = v0 c
          ∧ r.2.mem ((c.tc : Thread Cert.FinalReferenceIdeal.nD Cert.FinalReferenceIdeal.τ).loc Cert.FinalReferenceIdeal.main_v27) = v1 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2))

def preserves_Heads_HeadsIdeal : Prop :=
  True

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)
      ∧ m' ((c.tc : Thread Cert.HeadsReferenceIdeal.nD Cert.HeadsReferenceIdeal.τ).loc Cert.HeadsReferenceIdeal.main_arg3) = m ((c.tc : Thread Cert.HeadsIdeal.nD Cert.HeadsIdeal.τ).loc Cert.HeadsIdeal.main_arg3)) →
    ∃ (v0 : (c : Dev Cert.HeadsIdeal.nD) → Buf (Elt Ideal) ((c.tc : Thread Cert.HeadsIdeal.nD Cert.HeadsIdeal.τ).loc Cert.HeadsIdeal.main_v5)) (v1 : (c : Dev Cert.HeadsIdeal.nD) → Buf (Elt Ideal) ((c.tc : Thread Cert.HeadsIdeal.nD Cert.HeadsIdeal.τ).loc Cert.HeadsIdeal.main_v13)) (v2 : (c : Dev Cert.HeadsIdeal.nD) → Buf (Elt Ideal) ((c.tc : Thread Cert.HeadsIdeal.nD Cert.HeadsIdeal.τ).loc Cert.HeadsIdeal.main_v16)) (v3 : (c : Dev Cert.HeadsIdeal.nD) → Buf (Elt Ideal) ((c.tc : Thread Cert.HeadsIdeal.nD Cert.HeadsIdeal.τ).loc Cert.HeadsIdeal.main_v17)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v5) = v0 c
          ∧ r.2.mem ((c.tc : Thread Cert.HeadsIdeal.nD Cert.HeadsIdeal.τ).loc Cert.HeadsIdeal.main_v13) = v1 c
          ∧ r.2.mem ((c.tc : Thread Cert.HeadsIdeal.nD Cert.HeadsIdeal.τ).loc Cert.HeadsIdeal.main_v16) = v2 c
          ∧ r.2.mem ((c.tc : Thread Cert.HeadsIdeal.nD Cert.HeadsIdeal.τ).loc Cert.HeadsIdeal.main_v17) = v3 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v44) = v0 c
          ∧ r.2.mem ((c.tc : Thread Cert.HeadsReferenceIdeal.nD Cert.HeadsReferenceIdeal.τ).loc Cert.HeadsReferenceIdeal.main_v47) = v1 c
          ∧ r.2.mem ((c.tc : Thread Cert.HeadsReferenceIdeal.nD Cert.HeadsReferenceIdeal.τ).loc Cert.HeadsReferenceIdeal.main_v52) = v2 c
          ∧ r.2.mem ((c.tc : Thread Cert.HeadsReferenceIdeal.nD Cert.HeadsReferenceIdeal.τ).loc Cert.HeadsReferenceIdeal.main_v57) = v3 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2)
          ∧ r.2.mem ((c.tc : Thread Cert.HeadsReferenceIdeal.nD Cert.HeadsReferenceIdeal.τ).loc Cert.HeadsReferenceIdeal.main_arg3) = m' ((c.tc : Thread Cert.HeadsReferenceIdeal.nD Cert.HeadsReferenceIdeal.τ).loc Cert.HeadsReferenceIdeal.main_arg3))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)
      ∧ m' ((c.tc : Thread Cert.RowsReferenceIdeal.nD Cert.RowsReferenceIdeal.τ).loc Cert.RowsReferenceIdeal.main_arg2) = m ((c.tc : Thread Cert.RowsIdeal.nD Cert.RowsIdeal.τ).loc Cert.RowsIdeal.main_arg2)
      ∧ m' ((c.tc : Thread Cert.RowsReferenceIdeal.nD Cert.RowsReferenceIdeal.τ).loc Cert.RowsReferenceIdeal.main_arg3) = m ((c.tc : Thread Cert.RowsIdeal.nD Cert.RowsIdeal.τ).loc Cert.RowsIdeal.main_arg3)) →
    ∃ (v0 : (c : Dev Cert.RowsIdeal.nD) → Buf (Elt Ideal) ((c.tc : Thread Cert.RowsIdeal.nD Cert.RowsIdeal.τ).loc Cert.RowsIdeal.main_v20)) (v1 : (c : Dev Cert.RowsIdeal.nD) → Buf (Elt Ideal) ((c.tc : Thread Cert.RowsIdeal.nD Cert.RowsIdeal.τ).loc Cert.RowsIdeal.main_v23)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v20) = v0 c
          ∧ r.2.mem ((c.tc : Thread Cert.RowsIdeal.nD Cert.RowsIdeal.τ).loc Cert.RowsIdeal.main_v23) = v1 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v46) = v0 c
          ∧ r.2.mem ((c.tc : Thread Cert.RowsReferenceIdeal.nD Cert.RowsReferenceIdeal.τ).loc Cert.RowsReferenceIdeal.main_v51) = v1 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)) →
    ∃ (v0 : (c : Dev Cert.MixerIdeal.nD) → Buf (Elt Ideal) ((c.tc : Thread Cert.MixerIdeal.nD Cert.MixerIdeal.τ).loc Cert.MixerIdeal.main_v14)) (v1 : (c : Dev Cert.MixerIdeal.nD) → Buf (Elt Ideal) ((c.tc : Thread Cert.MixerIdeal.nD Cert.MixerIdeal.τ).loc Cert.MixerIdeal.main_v33)) (v2 : (c : Dev Cert.MixerIdeal.nD) → Buf (Elt Ideal) ((c.tc : Thread Cert.MixerIdeal.nD Cert.MixerIdeal.τ).loc Cert.MixerIdeal.main_v49)) (v3 : (c : Dev Cert.MixerIdeal.nD) → Buf (Elt Ideal) ((c.tc : Thread Cert.MixerIdeal.nD Cert.MixerIdeal.τ).loc Cert.MixerIdeal.main_v52)) (v4 : (c : Dev Cert.MixerIdeal.nD) → Buf (Elt Ideal) ((c.tc : Thread Cert.MixerIdeal.nD Cert.MixerIdeal.τ).loc Cert.MixerIdeal.main_v55)) (v5 : (c : Dev Cert.MixerIdeal.nD) → Buf (Elt Ideal) ((c.tc : Thread Cert.MixerIdeal.nD Cert.MixerIdeal.τ).loc Cert.MixerIdeal.main_v58)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v14) = v0 c
          ∧ r.2.mem ((c.tc : Thread Cert.MixerIdeal.nD Cert.MixerIdeal.τ).loc Cert.MixerIdeal.main_v33) = v1 c
          ∧ r.2.mem ((c.tc : Thread Cert.MixerIdeal.nD Cert.MixerIdeal.τ).loc Cert.MixerIdeal.main_v49) = v2 c
          ∧ r.2.mem ((c.tc : Thread Cert.MixerIdeal.nD Cert.MixerIdeal.τ).loc Cert.MixerIdeal.main_v52) = v3 c
          ∧ r.2.mem ((c.tc : Thread Cert.MixerIdeal.nD Cert.MixerIdeal.τ).loc Cert.MixerIdeal.main_v55) = v4 c
          ∧ r.2.mem ((c.tc : Thread Cert.MixerIdeal.nD Cert.MixerIdeal.τ).loc Cert.MixerIdeal.main_v58) = v5 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v93) = v0 c
          ∧ r.2.mem ((c.tc : Thread Cert.MixerReferenceIdeal.nD Cert.MixerReferenceIdeal.τ).loc Cert.MixerReferenceIdeal.main_v195) = v1 c
          ∧ r.2.mem ((c.tc : Thread Cert.MixerReferenceIdeal.nD Cert.MixerReferenceIdeal.τ).loc Cert.MixerReferenceIdeal.main_v206) = v2 c
          ∧ r.2.mem ((c.tc : Thread Cert.MixerReferenceIdeal.nD Cert.MixerReferenceIdeal.τ).loc Cert.MixerReferenceIdeal.main_v209) = v3 c
          ∧ r.2.mem ((c.tc : Thread Cert.MixerReferenceIdeal.nD Cert.MixerReferenceIdeal.τ).loc Cert.MixerReferenceIdeal.main_v212) = v4 c
          ∧ r.2.mem ((c.tc : Thread Cert.MixerReferenceIdeal.nD Cert.MixerReferenceIdeal.τ).loc Cert.MixerReferenceIdeal.main_v215) = v5 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3))

def preserves_OutC_OutCIdeal : Prop :=
  True

def algebraic_OutCIdeal_OutCReferenceIdeal [hOutCIdeal : Cert.OutCIdeal.Facts] [hOutCReferenceIdeal : Cert.OutCReferenceIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCReferenceIdeal.nD Cert.OutCReferenceIdeal.τ Cert.OutCReferenceIdeal.sig) → Buf (Elt Ideal) ℓ) (g' : Dev Cert.OutCReferenceIdeal.nD → PrngReg), Pre_OutCIdeal m →
    (∀ c : Dev Cert.OutCIdeal.nD,
      m' ((c.tc : Thread Cert.OutCReferenceIdeal.nD Cert.OutCReferenceIdeal.τ).loc Cert.OutCReferenceIdeal.main_arg0) = m ((c.tc : Thread Cert.OutCIdeal.nD Cert.OutCIdeal.τ).loc Cert.OutCIdeal.main_arg0)
      ∧ m' ((c.tc : Thread Cert.OutCReferenceIdeal.nD Cert.OutCReferenceIdeal.τ).loc Cert.OutCReferenceIdeal.main_arg1) = m ((c.tc : Thread Cert.OutCIdeal.nD Cert.OutCIdeal.τ).loc Cert.OutCIdeal.main_arg1)
      ∧ m' ((c.tc : Thread Cert.OutCReferenceIdeal.nD Cert.OutCReferenceIdeal.τ).loc Cert.OutCReferenceIdeal.main_arg2) = m ((c.tc : Thread Cert.OutCIdeal.nD Cert.OutCIdeal.τ).loc Cert.OutCIdeal.main_arg2)) →
    ∃ (v0 : (c : Dev Cert.OutCIdeal.nD) → Buf (Elt Ideal) ((c.tc : Thread Cert.OutCIdeal.nD Cert.OutCIdeal.τ).loc Cert.OutCIdeal.main_v0_0)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0_0) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ θ_run (Cert.OutCReferenceIdeal.defs (F := Ideal)) (onTc (τ := Cert.OutCReferenceIdeal.τ) (Cert.OutCReferenceIdeal.main (F := Ideal))) ⟨m', fun _ => 0, g'⟩ (fun r => ∀ c : Dev Cert.OutCReferenceIdeal.nD,
          r.2.mem ((c.tc : Thread Cert.OutCReferenceIdeal.nD Cert.OutCReferenceIdeal.τ).loc Cert.OutCReferenceIdeal.main_v3) = v0 c
          ∧ r.2.mem ((c.tc : Thread Cert.OutCReferenceIdeal.nD Cert.OutCReferenceIdeal.τ).loc Cert.OutCReferenceIdeal.main_arg0) = m' ((c.tc : Thread Cert.OutCReferenceIdeal.nD Cert.OutCReferenceIdeal.τ).loc Cert.OutCReferenceIdeal.main_arg0)
          ∧ r.2.mem ((c.tc : Thread Cert.OutCReferenceIdeal.nD Cert.OutCReferenceIdeal.τ).loc Cert.OutCReferenceIdeal.main_arg1) = m' ((c.tc : Thread Cert.OutCReferenceIdeal.nD Cert.OutCReferenceIdeal.τ).loc Cert.OutCReferenceIdeal.main_arg1)
          ∧ r.2.mem ((c.tc : Thread Cert.OutCReferenceIdeal.nD Cert.OutCReferenceIdeal.τ).loc Cert.OutCReferenceIdeal.main_arg2) = m' ((c.tc : Thread Cert.OutCReferenceIdeal.nD Cert.OutCReferenceIdeal.τ).loc Cert.OutCReferenceIdeal.main_arg2))

def preserves_OutAB_OutABIdeal : Prop :=
  True

def algebraic_OutABIdeal_OutABReferenceIdeal [hOutABIdeal : Cert.OutABIdeal.Facts] [hOutABReferenceIdeal : Cert.OutABReferenceIdeal.Facts] : Prop :=
  ∀ (m : (ℓ : Loc Cert.OutABIdeal.nD Cert.OutABIdeal.τ Cert.OutABIdeal.sig) → Buf (Elt Ideal) ℓ) (g : Dev Cert.OutABIdeal.nD → PrngReg)
    (m' : (ℓ : Loc Cert.OutABReferenceIdeal.nD Cert.OutABReferenceIdeal.τ Cert.OutABReferenceIdeal.sig) → Buf (Elt Ideal) ℓ) (g' : Dev Cert.OutABReferenceIdeal.nD → PrngReg), Pre_OutABIdeal m →
    (∀ c : Dev Cert.OutABIdeal.nD,
      m' ((c.tc : Thread Cert.OutABReferenceIdeal.nD Cert.OutABReferenceIdeal.τ).loc Cert.OutABReferenceIdeal.main_arg0) = m ((c.tc : Thread Cert.OutABIdeal.nD Cert.OutABIdeal.τ).loc Cert.OutABIdeal.main_arg0)
      ∧ m' ((c.tc : Thread Cert.OutABReferenceIdeal.nD Cert.OutABReferenceIdeal.τ).loc Cert.OutABReferenceIdeal.main_arg1) = m ((c.tc : Thread Cert.OutABIdeal.nD Cert.OutABIdeal.τ).loc Cert.OutABIdeal.main_arg1)
      ∧ m' ((c.tc : Thread Cert.OutABReferenceIdeal.nD Cert.OutABReferenceIdeal.τ).loc Cert.OutABReferenceIdeal.main_arg2) = m ((c.tc : Thread Cert.OutABIdeal.nD Cert.OutABIdeal.τ).loc Cert.OutABIdeal.main_arg2)
      ∧ m' ((c.tc : Thread Cert.OutABReferenceIdeal.nD Cert.OutABReferenceIdeal.τ).loc Cert.OutABReferenceIdeal.main_arg3) = m ((c.tc : Thread Cert.OutABIdeal.nD Cert.OutABIdeal.τ).loc Cert.OutABIdeal.main_arg3)) →
    ∃ (v0 : (c : Dev Cert.OutABIdeal.nD) → Buf (Elt Ideal) ((c.tc : Thread Cert.OutABIdeal.nD Cert.OutABIdeal.τ).loc Cert.OutABIdeal.main_v0_0)),
      θ_run (Cert.OutABIdeal.defs (F := Ideal)) (onTc (τ := Cert.OutABIdeal.τ) (Cert.OutABIdeal.main (F := Ideal))) ⟨m, fun _ => 0, g⟩ (fun r => ∀ c : Dev Cert.OutABIdeal.nD,
          r.2.mem ((c.tc : Thread Cert.OutABIdeal.nD Cert.OutABIdeal.τ).loc Cert.OutABIdeal.main_v0_0) = v0 c
          ∧ r.2.mem ((c.tc : Thread Cert.OutABIdeal.nD Cert.OutABIdeal.τ).loc Cert.OutABIdeal.main_arg0) = m ((c.tc : Thread Cert.OutABIdeal.nD Cert.OutABIdeal.τ).loc Cert.OutABIdeal.main_arg0)
          ∧ r.2.mem ((c.tc : Thread Cert.OutABIdeal.nD Cert.OutABIdeal.τ).loc Cert.OutABIdeal.main_arg1) = m ((c.tc : Thread Cert.OutABIdeal.nD Cert.OutABIdeal.τ).loc Cert.OutABIdeal.main_arg1)
          ∧ r.2.mem ((c.tc : Thread Cert.OutABIdeal.nD Cert.OutABIdeal.τ).loc Cert.OutABIdeal.main_arg2) = m ((c.tc : Thread Cert.OutABIdeal.nD Cert.OutABIdeal.τ).loc Cert.OutABIdeal.main_arg2)
          ∧ r.2.mem ((c.tc : Thread Cert.OutABIdeal.nD Cert.OutABIdeal.τ).loc Cert.OutABIdeal.main_arg3) = m ((c.tc : Thread Cert.OutABIdeal.nD Cert.OutABIdeal.τ).loc Cert.OutABIdeal.main_arg3))
      ∧ θ_run (Cert.OutABReferenceIdeal.defs (F := Ideal)) (onTc (τ := Cert.OutABReferenceIdeal.τ) (Cert.OutABReferenceIdeal.main (F := Ideal))) ⟨m', fun _ => 0, g'⟩ (fun r => ∀ c : Dev Cert.OutABReferenceIdeal.nD,
          r.2.mem ((c.tc : Thread Cert.OutABReferenceIdeal.nD Cert.OutABReferenceIdeal.τ).loc Cert.OutABReferenceIdeal.main_v6) = v0 c
          ∧ r.2.mem ((c.tc : Thread Cert.OutABReferenceIdeal.nD Cert.OutABReferenceIdeal.τ).loc Cert.OutABReferenceIdeal.main_arg0) = m' ((c.tc : Thread Cert.OutABReferenceIdeal.nD Cert.OutABReferenceIdeal.τ).loc Cert.OutABReferenceIdeal.main_arg0)
          ∧ r.2.mem ((c.tc : Thread Cert.OutABReferenceIdeal.nD Cert.OutABReferenceIdeal.τ).loc Cert.OutABReferenceIdeal.main_arg1) = m' ((c.tc : Thread Cert.OutABReferenceIdeal.nD Cert.OutABReferenceIdeal.τ).loc Cert.OutABReferenceIdeal.main_arg1)
          ∧ r.2.mem ((c.tc : Thread Cert.OutABReferenceIdeal.nD Cert.OutABReferenceIdeal.τ).loc Cert.OutABReferenceIdeal.main_arg2) = m' ((c.tc : Thread Cert.OutABReferenceIdeal.nD Cert.OutABReferenceIdeal.τ).loc Cert.OutABReferenceIdeal.main_arg2)
          ∧ r.2.mem ((c.tc : Thread Cert.OutABReferenceIdeal.nD Cert.OutABReferenceIdeal.τ).loc Cert.OutABReferenceIdeal.main_arg3) = m' ((c.tc : Thread Cert.OutABReferenceIdeal.nD Cert.OutABReferenceIdeal.τ).loc Cert.OutABReferenceIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hFinal : Cert.Final.Facts) (hFinalIdeal : Cert.FinalIdeal.Facts) (hFinalReferenceIdeal : Cert.FinalReferenceIdeal.Facts) (hHeads : Cert.Heads.Facts) (hHeadsIdeal : Cert.HeadsIdeal.Facts) (hHeadsReferenceIdeal : Cert.HeadsReferenceIdeal.Facts) (hRows : Cert.Rows.Facts) (hRowsIdeal : Cert.RowsIdeal.Facts) (hRowsReferenceIdeal : Cert.RowsReferenceIdeal.Facts) (hMixer : Cert.Mixer.Facts) (hMixerIdeal : Cert.MixerIdeal.Facts) (hMixerReferenceIdeal : Cert.MixerReferenceIdeal.Facts) (hOutC : Cert.OutC.Facts) (hOutCIdeal : Cert.OutCIdeal.Facts) (hOutCReferenceIdeal : Cert.OutCReferenceIdeal.Facts) (hOutAB : Cert.OutAB.Facts) (hOutABIdeal : Cert.OutABIdeal.Facts) (hOutABReferenceIdeal : Cert.OutABReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Heads (hHeads := hHeads)
    ∧ quiescent_HeadsIdeal (hHeadsIdeal := hHeadsIdeal)
    ∧ quiescent_HeadsReferenceIdeal (hHeadsReferenceIdeal := hHeadsReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_OutC (hOutC := hOutC)
    ∧ quiescent_OutCIdeal (hOutCIdeal := hOutCIdeal)
    ∧ quiescent_OutCReferenceIdeal (hOutCReferenceIdeal := hOutCReferenceIdeal)
    ∧ quiescent_OutAB (hOutAB := hOutAB)
    ∧ quiescent_OutABIdeal (hOutABIdeal := hOutABIdeal)
    ∧ quiescent_OutABReferenceIdeal (hOutABReferenceIdeal := hOutABReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Final_FinalIdeal
    ∧ algebraic_FinalIdeal_FinalReferenceIdeal (hFinalIdeal := hFinalIdeal) (hFinalReferenceIdeal := hFinalReferenceIdeal)
    ∧ preserves_Heads_HeadsIdeal
    ∧ algebraic_HeadsIdeal_HeadsReferenceIdeal (hHeadsIdeal := hHeadsIdeal) (hHeadsReferenceIdeal := hHeadsReferenceIdeal)
    ∧ preserves_Rows_RowsIdeal
    ∧ algebraic_RowsIdeal_RowsReferenceIdeal (hRowsIdeal := hRowsIdeal) (hRowsReferenceIdeal := hRowsReferenceIdeal)
    ∧ preserves_Mixer_MixerIdeal
    ∧ algebraic_MixerIdeal_MixerReferenceIdeal (hMixerIdeal := hMixerIdeal) (hMixerReferenceIdeal := hMixerReferenceIdeal)
    ∧ preserves_OutC_OutCIdeal
    ∧ algebraic_OutCIdeal_OutCReferenceIdeal (hOutCIdeal := hOutCIdeal) (hOutCReferenceIdeal := hOutCReferenceIdeal)
    ∧ preserves_OutAB_OutABIdeal
    ∧ algebraic_OutABIdeal_OutABReferenceIdeal (hOutABIdeal := hOutABIdeal) (hOutABReferenceIdeal := hOutABReferenceIdeal)
-- ==== Pre_finite.lean ====
abbrev S16384x9216 : Shape := ⟨2, ![16384, 9216]⟩
abbrev S16 : Shape := ⟨1, ![16]⟩
abbrev S_ : Shape := ⟨0, ![]⟩

class Facts : Prop where
  bcast_S_S16384x9216 : S_.BroadcastsInDim S16384x9216 (![] : Fin 0 → Fin S16384x9216.rank)
  bcast_S_S16 : S_.BroadcastsInDim S16 (![] : Fin 0 → Fin S16.rank)

variable [Facts]

def fn {F : FTy → Type} [FloatOps F] (main_arg0 : FVec F S16384x9216 .bf16) (main_arg1 : FVec F S16 .f32) : IVec S16384x9216 1 × IVec S16 1 :=
  let main_v0 : FVec F S16384x9216 .bf16 := Host.absf main_arg0
  let main_cst : FVec F S_ .bf16 := constant S_ .bf16 0x7F80#16
  let main_v1 : FVec F S16384x9216 .bf16 := broadcastInDim S16384x9216 ![] bcast_S_S16384x9216 main_cst
  let main_v2 : IVec S16384x9216 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  (main_v2, main_v5)
-- ==== Kernel.lean ====
abbrev S16384x9216 : Shape := ⟨2, ![16384, 9216]⟩
abbrev S16 : Shape := ⟨1, ![16]⟩
abbrev S16384x2048 : Shape := ⟨2, ![16384, 2048]⟩
abbrev S2048x512 : Shape := ⟨2, ![2048, 512]⟩
abbrev S2048x128 : Shape := ⟨2, ![2048, 128]⟩
abbrev S128x128 : Shape := ⟨2, ![128, 128]⟩
abbrev S2176x128 : Shape := ⟨2, ![2176, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩
abbrev S1 : Shape := ⟨1, ![1]⟩

abbrev nBuf : Space → Nat
  | .hbm => 3
  | .vmem => 12
  | .smem => 1
  | _ => 0

abbrev bufTy : (tb : Table) → Fin (tcTables nBuf tb) → BufTy
  | .hbm, ⟨0, _⟩ => ⟨S16384x9216, .bf16⟩
  | .hbm, ⟨1, _⟩ => ⟨S16, .f32⟩
  | .hbm, ⟨2, _⟩ => ⟨S16384x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S2048x128, .bf16⟩
  | .local _ .vmem, ⟨4, _⟩ => ⟨S128x128, .bf16⟩
  | .local _ .vmem, ⟨5, _⟩ => ⟨S128x128, .bf16⟩
  | .local _ .vmem, ⟨6, _⟩ => ⟨S2048x128, .bf16⟩
  | .local _ .vmem, ⟨7, _⟩ => ⟨S2048x128, .bf16⟩
  | .local _ .vmem, ⟨8, _⟩ => ⟨S128x128, .bf16⟩
  | .local _ .vmem, ⟨9, _⟩ => ⟨S128x128, .bf16⟩
  | .local _ .vmem, ⟨10, _⟩ => ⟨S2048x512, .bf16⟩
  | .local _ .vmem, ⟨11, _⟩ => ⟨S2048x512, .bf16⟩
  | .local _ .smem, ⟨0, _⟩ => ⟨S16, .f32⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_off1 (i : grid0.Coords) (c0_i32_15 : BitVec 32) : Fin 1 → Nat :=
  let arg0 : BitVec 32 := BitVec.ofNat 32 (i 0).val
  let c4_i32 : BitVec 32 := 4#32
  let v37 : BitVec 32 := Scalar.muli arg0 c4_i32
  let v38 : BitVec 32 := Scalar.addi v37 c0_i32_15
  let v39 : Index := Scalar.indexCast v38
  ![v39.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c16_i32_0 : BitVec 32 := 16#32
  let v3 : BitVec 32 := Scalar.addi c16_i32_0 arg0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let v3 : BitVec 32 := Scalar.addi c20_i32 arg0
  let c0_i32_0 : BitVec 32 := 0#32
  ![v2.toNat, v3.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x9216 : Shape := ⟨2, ![16384, 9216]⟩
abbrev S16 : Shape := ⟨1, ![16]⟩
abbrev S16384x2048 : Shape := ⟨2, ![16384, 2048]⟩
abbrev S16384x4x4x128 : Shape := ⟨4, ![16384, 4, 4, 128]⟩
abbrev S16384x512 : Shape := ⟨2, ![16384, 512]⟩
abbrev S16384x4x128 : Shape := ⟨3, ![16384, 4, 128]⟩
abbrev S4x16384x16384x4 : Shape := ⟨4, ![4, 16384, 16384, 4]⟩
abbrev S4x4x16384x16384 : Shape := ⟨4, ![4, 4, 16384, 16384]⟩
abbrev S256x64 : Shape := ⟨2, ![256, 64]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S4x4x1x1 : Shape := ⟨4, ![4, 4, 1, 1]⟩
abbrev S4x4x16384x1 : Shape := ⟨4, ![4, 4, 16384, 1]⟩
abbrev S4x4x16384x16385 : Shape := ⟨4, ![4, 4, 16384, 16385]⟩
abbrev S4x4x16384 : Shape := ⟨3, ![4, 4, 16384]⟩
abbrev S4x128x4x16384 : Shape := ⟨4, ![4, 128, 4, 16384]⟩

abbrev nBuf : Space → Nat
  | .hbm => 54
  | .vmem => 0
  | .smem => 0
  | _ => 0

abbrev bufTy : (tb : Table) → Fin (tcTables nBuf tb) → BufTy
  | .hbm, ⟨0, _⟩ => ⟨S16384x9216, .bf16⟩
  | .hbm, ⟨1, _⟩ => ⟨S16, .f32⟩
  | .hbm, ⟨2, _⟩ => ⟨S16384x9216, .f32⟩
  | .hbm, ⟨3, _⟩ => ⟨S16384x2048, .f32⟩
  | .hbm, ⟨4, _⟩ => ⟨S16384x4x4x128, .f32⟩
  | .hbm, ⟨5, _⟩ => ⟨S16384x512, .f32⟩
  | .hbm, ⟨6, _⟩ => ⟨S16384x4x128, .f32⟩
  | .hbm, ⟨7, _⟩ => ⟨S16384x512, .f32⟩
  | .hbm, ⟨8, _⟩ => ⟨S16384x4x128, .f32⟩
  | .hbm, ⟨9, _⟩ => ⟨S4x16384x16384x4, .f32⟩
  | .hbm, ⟨10, _⟩ => ⟨S4x4x16384x16384, .f32⟩
  | .hbm, ⟨11, _⟩ => ⟨S256x64, .i32⟩
  | .hbm, ⟨12, _⟩ => ⟨S16384, .i32⟩
  | .hbm, ⟨13, _⟩ => ⟨S1x16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S1x16384, .i32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S16384x16384, .i1⟩
  | .hbm, ⟨27, _⟩ => ⟨S_, .f32⟩
  | .hbm, ⟨28, _⟩ => ⟨S_, .f32⟩
  | .hbm, ⟨29, _⟩ => ⟨S4x4x16384x16384, .i1⟩
  | .hbm, ⟨30, _⟩ => ⟨S4x4x16384x16384, .f32⟩
  | .hbm, ⟨31, _⟩ => ⟨S4x4x16384x16384, .f32⟩
  | .hbm, ⟨32, _⟩ => ⟨S4x4x1x1, .f32⟩
  | .hbm, ⟨33, _⟩ => ⟨S4x4x16384x1, .f32⟩
  | .hbm, ⟨34, _⟩ => ⟨S4x4x16384x16385, .f32⟩
  | .hbm, ⟨35, _⟩ => ⟨S_, .f32⟩
  | .hbm, ⟨36, _⟩ => ⟨S4x4x16384, .f32⟩
  | .hbm, ⟨37, _⟩ => ⟨S_, .f32⟩
  | .hbm, ⟨38, _⟩ => ⟨S4x4x16384, .f32⟩
  | .hbm, ⟨39, _⟩ => ⟨S4x4x16384, .f32⟩
  | .hbm, ⟨40, _⟩ => ⟨S4x4x16384x1, .f32⟩
  | .hbm, ⟨41, _⟩ => ⟨S4x4x16384x16385, .f32⟩
  | .hbm, ⟨42, _⟩ => ⟨S4x4x16384x16385, .f32⟩
  | .hbm, ⟨43, _⟩ => ⟨S4x4x16384x16385, .f32⟩
  | .hbm, ⟨44, _⟩ => ⟨S_, .f32⟩
  | .hbm, ⟨45, _⟩ => ⟨S4x4x16384, .f32⟩
  | .hbm, ⟨46, _⟩ => ⟨S4x4x16384x1, .f32⟩
  | .hbm, ⟨47, _⟩ => ⟨S4x4x16384x16385, .f32⟩
  | .hbm, ⟨48, _⟩ => ⟨S4x4x16384x16385, .f32⟩
  | .hbm, ⟨49, _⟩ => ⟨S4x4x16384x16384, .f32⟩
  | .hbm, ⟨50, _⟩ => ⟨S4x128x4x16384, .f32⟩
  | .hbm, ⟨51, _⟩ => ⟨S16384x4x4x128, .f32⟩
  | .hbm, ⟨52, _⟩ => ⟨S16384x2048, .f32⟩
  | .hbm, ⟨53, _⟩ => ⟨S16384x2048, .bf16⟩
  | _, _ => ⟨S16384x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Up.lean ====
abbrev S16384x4096 : Shape := ⟨2, ![16384, 4096]⟩
abbrev S4x4096x11008 : Shape := ⟨3, ![4, 4096, 11008]⟩
abbrev S4x11008x4096 : Shape := ⟨3, ![4, 11008, 4096]⟩
abbrev S4x4096 : Shape := ⟨2, ![4, 4096]⟩
abbrev S1x4096 : Shape := ⟨2, ![1, 4096]⟩
abbrev S4096 : Shape := ⟨1, ![4096]⟩
abbrev S4096x1 : Shape := ⟨2, ![4096, 1]⟩
abbrev S43x4096x256 : Shape := ⟨3, ![43, 4096, 256]⟩
abbrev S1x256x11008 : Shape := ⟨3, ![1, 256, 11008]⟩
abbrev S256x1 : Shape := ⟨2, ![256, 1]⟩
abbrev S43x256x256 : Shape := ⟨3, ![43, 256, 256]⟩
abbrev S256x11008 : Shape := ⟨2, ![256, 11008]⟩
abbrev S256x256 : Shape := ⟨2, ![256, 256]⟩
abbrev S1x256x256 : Shape := ⟨3, ![1, 256, 256]⟩
abbrev S16384x128 : Shape := ⟨2, ![16384, 128]⟩
abbrev S256x4096 : Shape := ⟨2, ![256, 4096]⟩
abbrev S256x128 : Shape := ⟨2, ![256, 128]⟩
abbrev S16384x11008 : Shape := ⟨2, ![16384, 11008]⟩
abbrev S8x11008x512 : Shape := ⟨3, ![8, 11008, 512]⟩
abbrev S1024x4096 : Shape := ⟨2, ![1024, 4096]⟩
abbrev S1024x128 : Shape := ⟨2, ![1024, 128]⟩
abbrev S1x4096x256 : Shape := ⟨3, ![1, 4096, 256]⟩
abbrev S1x16x4096 : Shape := ⟨3, ![1, 16, 4096]⟩
abbrev S1024x256 : Shape := ⟨2, ![1024, 256]⟩
abbrev S8x16x512 : Shape := ⟨3, ![8, 16, 512]⟩
abbrev S1024 : Shape := ⟨1, ![1024]⟩
abbrev S1024x1 : Shape := ⟨2, ![1024, 1]⟩
abbrev S4096x256 : Shape := ⟨2, ![4096, 256]⟩
abbrev S16x4096 : Shape := ⟨2, ![16, 4096]⟩
abbrev S16x512 : Shape := ⟨2, ![16, 512]⟩
abbrev S1x16x512 : Shape := ⟨3, ![1, 16, 512]⟩

abbrev nBuf : Space → Nat
  | .hbm => 17
  | .vmem => 32
  | .smem => 0
  | _ => 0

abbrev bufTy : (tb : Table) → Fin (tcTables nBuf tb) → BufTy
  | .hbm, ⟨0, _⟩ => ⟨S16384x4096, .f32⟩
  | .hbm, ⟨1, _⟩ => ⟨S4x4096x11008, .f32⟩
  | .hbm, ⟨2, _⟩ => ⟨S4x4096x11008, .f32⟩
  | .hbm, ⟨3, _⟩ => ⟨S4x11008x4096, .f32⟩
  | .hbm, ⟨4, _⟩ => ⟨S4x4096, .f32⟩
  | .hbm, ⟨5, _⟩ => ⟨S1x4096, .f32⟩
  | .hbm, ⟨6, _⟩ => ⟨S4096, .f32⟩
  | .hbm, ⟨7, _⟩ => ⟨S4096x1, .f32⟩
  | .hbm, ⟨8, _⟩ => ⟨S43x4096x256, .bf16⟩
  | .hbm, ⟨9, _⟩ => ⟨S1x4096, .f32⟩
  | .hbm, ⟨10, _⟩ => ⟨S4096, .f32⟩
  | .hbm, ⟨11, _⟩ => ⟨S4096x1, .f32⟩
  | .hbm, ⟨12, _⟩ => ⟨S43x4096x256, .bf16⟩
  | .hbm, ⟨13, _⟩ => ⟨S16384x4096, .bf16⟩
  | .hbm, ⟨14, _⟩ => ⟨S16384x128, .f32⟩
  | .hbm, ⟨15, _⟩ => ⟨S16384x11008, .bf16⟩
  | .hbm, ⟨16, _⟩ => ⟨S8x11008x512, .bf16⟩
  | .local _ .vmem, ⟨0, _⟩ => ⟨S1x256x11008, .f32⟩
  | .local _ .vmem, ⟨1, _⟩ => ⟨S1x256x11008, .f32⟩
  | .local _ .vmem, ⟨2, _⟩ => ⟨S256x1, .f32⟩
  | .local _ .vmem, ⟨3, _⟩ => ⟨S256x1, .f32⟩
  | .local _ .vmem, ⟨4, _⟩ => ⟨S43x256x256, .bf16⟩
  | .local _ .vmem, ⟨5, _⟩ => ⟨S43x256x256, .bf16⟩
  | .local _ .vmem, ⟨6, _⟩ => ⟨S1x256x11008, .f32⟩
  | .local _ .vmem, ⟨7, _⟩ => ⟨S1x256x11008, .f32⟩
  | .local _ .vmem, ⟨8, _⟩ => ⟨S256x1, .f32⟩
  | .local _ .vmem, ⟨9, _⟩ => ⟨S256x1, .f32⟩
  | .local _ .vmem, ⟨10, _⟩ => ⟨S43x256x256, .bf16⟩
  | .local _ .vmem, ⟨11, _⟩ => ⟨S43x256x256, .bf16⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .bf16⟩
  | .local _ .vmem, ⟨16, _⟩ => ⟨S256x128, .f32⟩
  | .local _ .vmem, ⟨17, _⟩ => ⟨S256x128, .f32⟩
  | .local _ .vmem, ⟨18, _⟩ => ⟨S1024x4096, .bf16⟩
  | .local _ .vmem, ⟨19, _⟩ => ⟨S1024x4096, .bf16⟩
  | .local _ .vmem, ⟨20, _⟩ => ⟨S1024x128, .f32⟩
  | .local _ .vmem, ⟨21, _⟩ => ⟨S1024x128, .f32⟩
  | .local _ .vmem, ⟨22, _⟩ => ⟨S1x4096x256, .bf16⟩
  | .local _ .vmem, ⟨23, _⟩ => ⟨S1x4096x256, .bf16⟩
  | .local _ .vmem, ⟨24, _⟩ => ⟨S1x4096x256, .bf16⟩
  | .local _ .vmem, ⟨25, _⟩ => ⟨S1x4096x256, .bf16⟩
  | .local _ .vmem, ⟨26, _⟩ => ⟨S1x16x4096, .f32⟩
  | .local _ .vmem, ⟨27, _⟩ => ⟨S1x16x4096, .f32⟩
  | .local _ .vmem, ⟨28, _⟩ => ⟨S1024x256, .bf16⟩
  | .local _ .vmem, ⟨29, _⟩ => ⟨S1024x256, .bf16⟩
  | .local _ .vmem, ⟨30, _⟩ => ⟨S8x16x512, .bf16⟩
  | .local _ .vmem, ⟨31, _⟩ => ⟨S8x16x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S43x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x11008 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S43x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 43], ![false, false]⟩

def k3_cond1 (i : grid3.Coords) : BitVec 1 :=
  let arg0 : BitVec 32 := BitVec.ofNat 32 (i 0).val
  let c43_i32 : BitVec 32 := 43#32
  let v30 : BitVec 32 := Scalar.muli arg0 c43_i32
  let arg1 : BitVec 32 := BitVec.ofNat 32 (i 1).val
  let v31 : BitVec 32 := Scalar.addi v30 arg1
  let c688_i32 : BitVec 32 := 688#32
  let v32 : BitVec 1 := Scalar.cmpi .slt v31 c688_i32
  let v33 : BitVec 32 := Scalar.extui v32
  let c0_i32 : BitVec 32 := 0#32
  let v34 : BitVec 1 := Scalar.cmpi .ne v33 c0_i32
  v34

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc3_transform_4 (i : grid3.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c687_i32 : BitVec 32 := 687#32
  let v2 : BitVec 32 := Scalar.minsi v1 c687_i32
  let c3_i32 : BitVec 32 := 3#32
  let c0_i32 : BitVec 32 := 0#32
  let c0_i32_0 : BitVec 32 := 0#32
  ![c3_i32.toNat, v2.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c687_i32 : BitVec 32 := 687#32
  let v2 : BitVec 32 := Scalar.minsi v1 c687_i32
  let c0_i32 : BitVec 32 := 0#32
  let c0_i32_0 : BitVec 32 := 0#32
  let c0_i32_1 : BitVec 32 := 0#32
  ![c0_i32.toNat, v2.toNat, c0_i32_0.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x4096x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x4096x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1x16x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S8x16x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== UpReferenceIdeal.lean ====
abbrev S16384x4096 : Shape := ⟨2, ![16384, 4096]⟩
abbrev S4x4096x11008 : Shape := ⟨3, ![4, 4096, 11008]⟩
abbrev S4x11008x4096 : Shape := ⟨3, ![4, 11008, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096x11008 : Shape := ⟨3, ![1, 4096, 11008]⟩
abbrev S4096x11008 : Shape := ⟨2, ![4096, 11008]⟩
abbrev S16384x11008 : Shape := ⟨2, ![16384, 11008]⟩
abbrev S1x11008x4096 : Shape := ⟨3, ![1, 11008, 4096]⟩
abbrev S11008x4096 : Shape := ⟨2, ![11008, 4096]⟩
abbrev S11008x8x512 : Shape := ⟨3, ![11008, 8, 512]⟩
abbrev S8x11008x512 : Shape := ⟨3, ![8, 11008, 512]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x11008, .f32⟩
  | .hbm, ⟨2, _⟩ => ⟨S4x4096x11008, .f32⟩
  | .hbm, ⟨3, _⟩ => ⟨S4x11008x4096, .f32⟩
  | .hbm, ⟨4, _⟩ => ⟨S4x4096, .f32⟩
  | .hbm, ⟨5, _⟩ => ⟨S1x4096, .f32⟩
  | .hbm, ⟨6, _⟩ => ⟨S4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S1x4096x11008, .f32⟩
  | .hbm, ⟨24, _⟩ => ⟨S4096x11008, .f32⟩
  | .hbm, ⟨25, _⟩ => ⟨S16384x11008, .f32⟩
  | .hbm, ⟨26, _⟩ => ⟨S16384x11008, .f32⟩
  | .hbm, ⟨27, _⟩ => ⟨S16384x11008, .f32⟩
  | .hbm, ⟨28, _⟩ => ⟨S_, .f32⟩
  | .hbm, ⟨29, _⟩ => ⟨S16384x11008, .f32⟩
  | .hbm, ⟨30, _⟩ => ⟨S16384x11008, .f32⟩
  | .hbm, ⟨31, _⟩ => ⟨S_, .f32⟩
  | .hbm, ⟨32, _⟩ => ⟨S16384x11008, .f32⟩
  | .hbm, ⟨33, _⟩ => ⟨S16384x11008, .f32⟩
  | .hbm, ⟨34, _⟩ => ⟨S16384x11008, .f32⟩
  | .hbm, ⟨35, _⟩ => ⟨S1x4096x11008, .f32⟩
  | .hbm, ⟨36, _⟩ => ⟨S4096x11008, .f32⟩
  | .hbm, ⟨37, _⟩ => ⟨S16384x11008, .f32⟩
  | .hbm, ⟨38, _⟩ => ⟨S16384x11008, .f32⟩
  | .hbm, ⟨39, _⟩ => ⟨S16384x11008, .bf16⟩
  | .hbm, ⟨40, _⟩ => ⟨S1x11008x4096, .f32⟩
  | .hbm, ⟨41, _⟩ => ⟨S11008x4096, .f32⟩
  | .hbm, ⟨42, _⟩ => ⟨S11008x8x512, .f32⟩
  | .hbm, ⟨43, _⟩ => ⟨S8x11008x512, .f32⟩
  | .hbm, ⟨44, _⟩ => ⟨S8x11008x512, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Down.lean ====
abbrev S16384x11008 : Shape := ⟨2, ![16384, 11008]⟩
abbrev S8x11008x512 : Shape := ⟨3, ![8, 11008, 512]⟩
abbrev S16384x4096 : Shape := ⟨2, ![16384, 4096]⟩
abbrev S16384x128 : Shape := ⟨2, ![16384, 128]⟩
abbrev S512x11008 : Shape := ⟨2, ![512, 11008]⟩
abbrev S1x11008x512 : Shape := ⟨3, ![1, 11008, 512]⟩
abbrev S512x512 : Shape := ⟨2, ![512, 512]⟩
abbrev S512x128 : Shape := ⟨2, ![512, 128]⟩
abbrev S11008x512 : Shape := ⟨2, ![11008, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x11008, .bf16⟩
  | .hbm, ⟨1, _⟩ => ⟨S8x11008x512, .bf16⟩
  | .hbm, ⟨2, _⟩ => ⟨S16384x4096, .f32⟩
  | .hbm, ⟨3, _⟩ => ⟨S16384x4096, .f32⟩
  | .hbm, ⟨4, _⟩ => ⟨S16384x4096, .bf16⟩
  | .hbm, ⟨5, _⟩ => ⟨S16384x128, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_10 : BitVec 32 := 0#32
  let v19 : BitVec 1 := Scalar.cmpi .ne v18 c0_i32_10
  v19

def k0_cond2 (i : grid0.Coords) : BitVec 1 :=
  let arg1 : BitVec 32 := BitVec.ofNat 32 (i 1).val
  let c0_i32 : BitVec 32 := 0#32
  let v17 : BitVec 1 := Scalar.cmpi .eq arg1 c0_i32
  let v_true : BitVec 1 := 1#1
  let v20 : BitVec 1 := Scalar.xori v17 v_true
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownReferenceIdeal.lean ====
abbrev S16384x11008 : Shape := ⟨2, ![16384, 11008]⟩
abbrev S8x11008x512 : Shape := ⟨3, ![8, 11008, 512]⟩
abbrev S16384x4096 : Shape := ⟨2, ![16384, 4096]⟩
abbrev S11008x8x512 : Shape := ⟨3, ![11008, 8, 512]⟩
abbrev S11008x4096 : Shape := ⟨2, ![11008, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S8x11008x512, .bf16⟩
  | .hbm, ⟨2, _⟩ => ⟨S16384x4096, .f32⟩
  | .hbm, ⟨3, _⟩ => ⟨S16384x11008, .f32⟩
  | .hbm, ⟨4, _⟩ => ⟨S11008x8x512, .bf16⟩
  | .hbm, ⟨5, _⟩ => ⟨S11008x4096, .bf16⟩
  | .hbm, ⟨6, _⟩ => ⟨S11008x4096, .f32⟩
  | .hbm, ⟨7, _⟩ => ⟨S16384x4096, .f32⟩
  | .hbm, ⟨8, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Final.lean ====
abbrev S16384x4096 : Shape := ⟨2, ![16384, 4096]⟩
abbrev S128x4096 : Shape := ⟨2, ![128, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S1x16384x4096 : Shape := ⟨3, ![1, 16384, 4096]⟩
abbrev S128 : Shape := ⟨1, ![128]⟩
abbrev S128x1 : Shape := ⟨2, ![128, 1]⟩
abbrev S8x16x4096 : Shape := ⟨3, ![8, 16, 4096]⟩

abbrev nBuf : Space → Nat
  | .hbm => 9
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S128x4096, .f32⟩
  | .hbm, ⟨2, _⟩ => ⟨S4096, .f32⟩
  | .hbm, ⟨3, _⟩ => ⟨S1x4096, .f32⟩
  | .hbm, ⟨4, _⟩ => ⟨S16384x4096, .f32⟩
  | .hbm, ⟨5, _⟩ => ⟨S1x16384x4096, .f32⟩
  | .hbm, ⟨6, _⟩ => ⟨S1x4096, .f32⟩
  | .hbm, ⟨7, _⟩ => ⟨S128x4096, .f32⟩
  | .hbm, ⟨8, _⟩ => ⟨S8x16x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]
-- ==== FinalReferenceIdeal.lean ====
abbrev S16384x4096 : Shape := ⟨2, ![16384, 4096]⟩
abbrev S128x4096 : Shape := ⟨2, ![128, 4096]⟩
abbrev S4096 : Shape := ⟨1, ![4096]⟩
abbrev S1x16384x4096 : Shape := ⟨3, ![1, 16384, 4096]⟩
abbrev S_ : Shape := ⟨0, ![]⟩
abbrev S1x16384 : Shape := ⟨2, ![1, 16384]⟩
abbrev S1x16384x1 : Shape := ⟨3, ![1, 16384, 1]⟩
abbrev S1x1x4096 : Shape := ⟨3, ![1, 1, 4096]⟩
abbrev S8x16x4096 : Shape := ⟨3, ![8, 16, 4096]⟩
abbrev S8x16 : Shape := ⟨2, ![8, 16]⟩
abbrev S8x16x1 : Shape := ⟨3, ![8, 16, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S128x4096, .f32⟩
  | .hbm, ⟨2, _⟩ => ⟨S4096, .f32⟩
  | .hbm, ⟨3, _⟩ => ⟨S1x16384x4096, .f32⟩
  | .hbm, ⟨4, _⟩ => ⟨S1x16384x4096, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S1x16384x4096, .f32⟩
  | .hbm, ⟨16, _⟩ => ⟨S1x16384x4096, .f32⟩
  | .hbm, ⟨17, _⟩ => ⟨S1x1x4096, .f32⟩
  | .hbm, ⟨18, _⟩ => ⟨S1x16384x4096, .f32⟩
  | .hbm, ⟨19, _⟩ => ⟨S1x16384x4096, .f32⟩
  | .hbm, ⟨20, _⟩ => ⟨S8x16x4096, .f32⟩
  | .hbm, ⟨21, _⟩ => ⟨S8x16x4096, .f32⟩
  | .hbm, ⟨22, _⟩ => ⟨S_, .f32⟩
  | .hbm, ⟨23, _⟩ => ⟨S8x16, .f32⟩
  | .hbm, ⟨24, _⟩ => ⟨S8x16x1, .f32⟩
  | .hbm, ⟨25, _⟩ => ⟨S_, .f32⟩
  | .hbm, ⟨26, _⟩ => ⟨S8x16x1, .f32⟩
  | .hbm, ⟨27, _⟩ => ⟨S8x16x1, .f32⟩
  | .hbm, ⟨28, _⟩ => ⟨S_, .f32⟩
  | .hbm, ⟨29, _⟩ => ⟨S8x16x1, .f32⟩
  | .hbm, ⟨30, _⟩ => ⟨S8x16x1, .f32⟩
  | .hbm, ⟨31, _⟩ => ⟨S8x16x1, .f32⟩
  | .hbm, ⟨32, _⟩ => ⟨S8x16x4096, .f32⟩
  | .hbm, ⟨33, _⟩ => ⟨S8x16x4096, .f32⟩
  | .hbm, ⟨34, _⟩ => ⟨S1x1x4096, .f32⟩
  | .hbm, ⟨35, _⟩ => ⟨S8x16x4096, .f32⟩
  | .hbm, ⟨36, _⟩ => ⟨S8x16x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Heads.lean ====
abbrev S16384x4096 : Shape := ⟨2, ![16384, 4096]⟩
abbrev S2x4096x6144 : Shape := ⟨3, ![2, 4096, 6144]⟩
abbrev S4x4096 : Shape := ⟨2, ![4, 4096]⟩
abbrev S1x4096 : Shape := ⟨2, ![1, 4096]⟩
abbrev S4096 : Shape := ⟨1, ![4096]⟩
abbrev S4096x1 : Shape := ⟨2, ![4096, 1]⟩
abbrev S4096x6144 : Shape := ⟨2, ![4096, 6144]⟩
abbrev S1x256x6144 : Shape := ⟨3, ![1, 256, 6144]⟩
abbrev S256x1 : Shape := ⟨2, ![256, 1]⟩
abbrev S256x6144 : Shape := ⟨2, ![256, 6144]⟩
abbrev S16384x128 : Shape := ⟨2, ![16384, 128]⟩
abbrev S256x4096 : Shape := ⟨2, ![256, 4096]⟩
abbrev S256x128 : Shape := ⟨2, ![256, 128]⟩
abbrev S16384x2048 : Shape := ⟨2, ![16384, 2048]⟩
abbrev S1024x4096 : Shape := ⟨2, ![1024, 4096]⟩
abbrev S1024x128 : Shape := ⟨2, ![1024, 128]⟩
abbrev S4096x512 : Shape := ⟨2, ![4096, 512]⟩
abbrev S1024x512 : Shape := ⟨2, ![1024, 512]⟩
abbrev S1024 : Shape := ⟨1, ![1024]⟩
abbrev S1024x1 : Shape := ⟨2, ![1024, 1]⟩
abbrev S2x16384x16x128 : Shape := ⟨4, ![2, 16384, 16, 128]⟩
abbrev S4096x1024 : Shape := ⟨2, ![4096, 1024]⟩
abbrev S1x1024x8x128 : Shape := ⟨4, ![1, 1024, 8, 128]⟩
abbrev S1024x1024 : Shape := ⟨2, ![1024, 1024]⟩
abbrev S1x1024x1x128 : Shape := ⟨4, ![1, 1024, 1, 128]⟩
abbrev S2x1x16384x16x128 : Shape := ⟨5, ![2, 1, 16384, 16, 128]⟩

abbrev nBuf : Space → Nat
  | .hbm => 28
  | .vmem => 80
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S2x4096x6144, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S4096x1, .f32⟩
  | .hbm, ⟨7, _⟩ => ⟨S4096x6144, .bf16⟩
  | .hbm, ⟨8, _⟩ => ⟨S16384x4096, .bf16⟩
  | .hbm, ⟨9, _⟩ => ⟨S16384x128, .f32⟩
  | .hbm, ⟨10, _⟩ => ⟨S16384x2048, .bf16⟩
  | .hbm, ⟨11, _⟩ => ⟨S2x16384x16x128, .f32⟩
  | .hbm, ⟨12, _⟩ => ⟨S16384x2048, .bf16⟩
  | .hbm, ⟨13, _⟩ => ⟨S2x16384x16x128, .f32⟩
  | .hbm, ⟨14, _⟩ => ⟨S16384x2048, .bf16⟩
  | .hbm, ⟨15, _⟩ => ⟨S1x4096, .f32⟩
  | .hbm, ⟨16, _⟩ => ⟨S4096, .f32⟩
  | .hbm, ⟨17, _⟩ => ⟨S4096x1, .f32⟩
  | .hbm, ⟨18, _⟩ => ⟨S4096x6144, .bf16⟩
  | .hbm, ⟨19, _⟩ => ⟨S16384x4096, .bf16⟩
  | .hbm, ⟨20, _⟩ => ⟨S16384x128, .f32⟩
  | .hbm, ⟨21, _⟩ => ⟨S16384x2048, .bf16⟩
  | .hbm, ⟨22, _⟩ => ⟨S2x16384x16x128, .f32⟩
  | .hbm, ⟨23, _⟩ => ⟨S16384x2048, .bf16⟩
  | .hbm, ⟨24, _⟩ => ⟨S2x16384x16x128, .f32⟩
  | .hbm, ⟨25, _⟩ => ⟨S16384x2048, .bf16⟩
  | .hbm, ⟨26, _⟩ => ⟨S2x1x16384x16x128, .f32⟩
  | .hbm, ⟨27, _⟩ => ⟨S2x1x16384x16x128, .f32⟩
  | .local _ .vmem, ⟨0, _⟩ => ⟨S1x256x6144, .f32⟩
  | .local _ .vmem, ⟨1, _⟩ => ⟨S1x256x6144, .f32⟩
  | .local _ .vmem, ⟨2, _⟩ => ⟨S256x1, .f32⟩
  | .local _ .vmem, ⟨3, _⟩ => ⟨S256x1, .f32⟩
  | .local _ .vmem, ⟨4, _⟩ => ⟨S256x6144, .bf16⟩
  | .local _ .vmem, ⟨5, _⟩ => ⟨S256x6144, .bf16⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S256x128, .f32⟩
  | .local _ .vmem, ⟨11, _⟩ => ⟨S256x128, .f32⟩
  | .local _ .vmem, ⟨12, _⟩ => ⟨S1024x4096, .bf16⟩
  | .local _ .vmem, ⟨13, _⟩ => ⟨S1024x4096, .bf16⟩
  | .local _ .vmem, ⟨14, _⟩ => ⟨S1024x128, .f32⟩
  | .local _ .vmem, ⟨15, _⟩ => ⟨S1024x128, .f32⟩
  | .local _ .vmem, ⟨16, _⟩ => ⟨S4096x512, .bf16⟩
  | .local _ .vmem, ⟨17, _⟩ => ⟨S4096x512, .bf16⟩
  | .local _ .vmem, ⟨18, _⟩ => ⟨S1024x512, .bf16⟩
  | .local _ .vmem, ⟨19, _⟩ => ⟨S1024x512, .bf16⟩
  | .local _ .vmem, ⟨20, _⟩ => ⟨S1024x4096, .bf16⟩
  | .local _ .vmem, ⟨21, _⟩ => ⟨S1024x4096, .bf16⟩
  | .local _ .vmem, ⟨22, _⟩ => ⟨S1024x128, .f32⟩
  | .local _ .vmem, ⟨23, _⟩ => ⟨S1024x128, .f32⟩
  | .local _ .vmem, ⟨24, _⟩ => ⟨S4096x1024, .bf16⟩
  | .local _ .vmem, ⟨25, _⟩ => ⟨S4096x1024, .bf16⟩
  | .local _ .vmem, ⟨26, _⟩ => ⟨S1x1024x8x128, .f32⟩
  | .local _ .vmem, ⟨27, _⟩ => ⟨S1x1024x8x128, .f32⟩
  | .local _ .vmem, ⟨28, _⟩ => ⟨S1024x1024, .bf16⟩
  | .local _ .vmem, ⟨29, _⟩ => ⟨S1024x1024, .bf16⟩
  | .local _ .vmem, ⟨30, _⟩ => ⟨S1024x4096, .bf16⟩
  | .local _ .vmem, ⟨31, _⟩ => ⟨S1024x4096, .bf16⟩
  | .local _ .vmem, ⟨32, _⟩ => ⟨S1024x128, .f32⟩
  | .local _ .vmem, ⟨33, _⟩ => ⟨S1024x128, .f32⟩
  | .local _ .vmem, ⟨34, _⟩ => ⟨S4096x1024, .bf16⟩
  | .local _ .vmem, ⟨35, _⟩ => ⟨S4096x1024, .bf16⟩
  | .local _ .vmem, ⟨36, _⟩ => ⟨S1x1024x8x128, .f32⟩
  | .local _ .vmem, ⟨37, _⟩ => ⟨S1x1024x8x128, .f32⟩
  | .local _ .vmem, ⟨38, _⟩ => ⟨S1024x1024, .bf16⟩
  | .local _ .vmem, ⟨39, _⟩ => ⟨S1024x1024, .bf16⟩
  | .local _ .vmem, ⟨40, _⟩ => ⟨S1x256x6144, .f32⟩
  | .local _ .vmem, ⟨41, _⟩ => ⟨S1x256x6144, .f32⟩
  | .local _ .vmem, ⟨42, _⟩ => ⟨S256x1, .f32⟩
  | .local _ .vmem, ⟨43, _⟩ => ⟨S256x1, .f32⟩
  | .local _ .vmem, ⟨44, _⟩ => ⟨S256x6144, .bf16⟩
  | .local _ .vmem, ⟨45, _⟩ => ⟨S256x6144, .bf16⟩
  | .local _ .vmem, ⟨46, _⟩ => ⟨S256x4096, .f32⟩
  | .local _ .vmem, ⟨47, _⟩ => ⟨S256x4096, .f32⟩
  | .local _ .vmem, ⟨48, _⟩ => ⟨S256x4096, .bf16⟩
  | .local _ .vmem, ⟨49, _⟩ => ⟨S256x4096, .bf16⟩
  | .local _ .vmem, ⟨50, _⟩ => ⟨S256x128, .f32⟩
  | .local _ .vmem, ⟨51, _⟩ => ⟨S256x128, .f32⟩
  | .local _ .vmem, ⟨52, _⟩ => ⟨S1024x4096, .bf16⟩
  | .local _ .vmem, ⟨53, _⟩ => ⟨S1024x4096, .bf16⟩
  | .local _ .vmem, ⟨54, _⟩ => ⟨S1024x128, .f32⟩
  | .local _ .vmem, ⟨55, _⟩ => ⟨S1024x128, .f32⟩
  | .local _ .vmem, ⟨56, _⟩ => ⟨S4096x512, .bf16⟩
  | .local _ .vmem, ⟨57, _⟩ => ⟨S4096x512, .bf16⟩
  | .local _ .vmem, ⟨58, _⟩ => ⟨S1024x512, .bf16⟩
  | .local _ .vmem, ⟨59, _⟩ => ⟨S1024x512, .bf16⟩
  | .local _ .vmem, ⟨60, _⟩ => ⟨S1024x4096, .bf16⟩
  | .local _ .vmem, ⟨61, _⟩ => ⟨S1024x4096, .bf16⟩
  | .local _ .vmem, ⟨62, _⟩ => ⟨S1024x128, .f32⟩
  | .local _ .vmem, ⟨63, _⟩ => ⟨S1024x128, .f32⟩
  | .local _ .vmem, ⟨64, _⟩ => ⟨S4096x1024, .bf16⟩
  | .local _ .vmem, ⟨65, _⟩ => ⟨S4096x1024, .bf16⟩
  | .local _ .vmem, ⟨66, _⟩ => ⟨S1x1024x8x128, .f32⟩
  | .local _ .vmem, ⟨67, _⟩ => ⟨S1x1024x8x128, .f32⟩
  | .local _ .vmem, ⟨68, _⟩ => ⟨S1024x1024, .bf16⟩
  | .local _ .vmem, ⟨69, _⟩ => ⟨S1024x1024, .bf16⟩
  | .local _ .vmem, ⟨70, _⟩ => ⟨S1024x4096, .bf16⟩
  | .local _ .vmem, ⟨71, _⟩ => ⟨S1024x4096, .bf16⟩
  | .local _ .vmem, ⟨72, _⟩ => ⟨S1024x128, .f32⟩
  | .local _ .vmem, ⟨73, _⟩ => ⟨S1024x128, .f32⟩
  | .local _ .vmem, ⟨74, _⟩ => ⟨S4096x1024, .bf16⟩
  | .local _ .vmem, ⟨75, _⟩ => ⟨S4096x1024, .bf16⟩
  | .local _ .vmem, ⟨76, _⟩ => ⟨S1x1024x8x128, .f32⟩
  | .local _ .vmem, ⟨77, _⟩ => ⟨S1x1024x8x128, .f32⟩
  | .local _ .vmem, ⟨78, _⟩ => ⟨S1024x1024, .bf16⟩
  | .local _ .vmem, ⟨79, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg2_1 : Ref sig .tc := ⟨.vmem, 65, rfl⟩
abbrev cc8_stg3_0 : Ref sig .tc := ⟨.vmem, 66, rfl⟩
abbrev cc8_stg3_1 : Ref sig .tc := ⟨.vmem, 67, rfl⟩
abbrev cc8_stg4_0 : Ref sig .tc := ⟨.vmem, 68, rfl⟩
abbrev cc8_stg4_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg2_1 : Ref sig .tc := ⟨.vmem, 75, rfl⟩
abbrev cc9_stg3_0 : Ref sig .tc := ⟨.vmem, 76, rfl⟩
abbrev cc9_stg3_1 : Ref sig .tc := ⟨.vmem, 77, rfl⟩
abbrev cc9_stg4_0 : Ref sig .tc := ⟨.vmem, 78, rfl⟩
abbrev cc9_stg4_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem2_1 : DmaSem sig := 65
abbrev cc8_sem3_0 : DmaSem sig := 66
abbrev cc8_sem3_1 : DmaSem sig := 67
abbrev cc8_sem4_0 : DmaSem sig := 68
abbrev cc8_sem4_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem2_1 : DmaSem sig := 75
abbrev cc9_sem3_0 : DmaSem sig := 76
abbrev cc9_sem3_1 : DmaSem sig := 77
abbrev cc9_sem4_0 : DmaSem sig := 78
abbrev cc9_sem4_1 : DmaSem sig := 79

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S4096x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x1024x8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![16, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S4096x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x1024x8x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1024x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨1, ![16], ![false]⟩

def cc5_transform_0 (i : grid5.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1x256x6144 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x6144 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![16, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S4096x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S1024x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![16, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc8_transform_4 (i : grid8.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1024x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S4096x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S1x1024x8x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev stage8_4 : Fin 2 → Memref sig .tc .vmem S1024x1024 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev grid9 : Pipeline.Grid := ⟨2, ![16, 2], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc9_transform_4 (i : grid9.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S1024x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S4096x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true]

abbrev stage9_3 : Fin 2 → Memref sig .tc .vmem S1x1024x8x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev stage9_4 : Fin 2 → Memref sig .tc .vmem S1024x1024 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]
-- ==== HeadsReferenceIdeal.lean ====
abbrev S16384x4096 : Shape := ⟨2, ![16384, 4096]⟩
abbrev S2x4096x6144 : Shape := ⟨3, ![2, 4096, 6144]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096x6144 : Shape := ⟨3, ![1, 4096, 6144]⟩
abbrev S4096x6144 : Shape := ⟨2, ![4096, 6144]⟩
abbrev S16384x6144 : Shape := ⟨2, ![16384, 6144]⟩
abbrev S16384x2048 : Shape := ⟨2, ![16384, 2048]⟩
abbrev S1x16384x16x128 : Shape := ⟨4, ![1, 16384, 16, 128]⟩
abbrev S1x1x16384x16x128 : Shape := ⟨5, ![1, 1, 16384, 16, 128]⟩
abbrev S2x1x16384x16x128 : Shape := ⟨5, ![2, 1, 16384, 16, 128]⟩

abbrev nBuf : Space → Nat
  | .hbm => 70
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S2x4096x6144, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S1x4096x6144, .f32⟩
  | .hbm, ⟨23, _⟩ => ⟨S4096x6144, .f32⟩
  | .hbm, ⟨24, _⟩ => ⟨S16384x6144, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S1x4096, .f32⟩
  | .hbm, ⟨29, _⟩ => ⟨S4096, .f32⟩
  | .hbm, ⟨30, _⟩ => ⟨S16384x4096, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x4096, .f32⟩
  | .hbm, ⟨42, _⟩ => ⟨S16384x4096, .f32⟩
  | .hbm, ⟨43, _⟩ => ⟨S1x4096, .f32⟩
  | .hbm, ⟨44, _⟩ => ⟨S16384x4096, .f32⟩
  | .hbm, ⟨45, _⟩ => ⟨S16384x4096, .f32⟩
  | .hbm, ⟨46, _⟩ => ⟨S1x4096x6144, .f32⟩
  | .hbm, ⟨47, _⟩ => ⟨S4096x6144, .f32⟩
  | .hbm, ⟨48, _⟩ => ⟨S16384x6144, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S16384x2048, .bf16⟩
  | .hbm, ⟨56, _⟩ => ⟨S_, .f32⟩
  | .hbm, ⟨57, _⟩ => ⟨S16384x2048, .f32⟩
  | .hbm, ⟨58, _⟩ => ⟨S16384x2048, .f32⟩
  | .hbm, ⟨59, _⟩ => ⟨S16384x2048, .bf16⟩
  | .hbm, ⟨60, _⟩ => ⟨S1x16384x16x128, .f32⟩
  | .hbm, ⟨61, _⟩ => ⟨S1x16384x16x128, .f32⟩
  | .hbm, ⟨62, _⟩ => ⟨S1x1x16384x16x128, .f32⟩
  | .hbm, ⟨63, _⟩ => ⟨S1x1x16384x16x128, .f32⟩
  | .hbm, ⟨64, _⟩ => ⟨S2x1x16384x16x128, .f32⟩
  | .hbm, ⟨65, _⟩ => ⟨S1x16384x16x128, .f32⟩
  | .hbm, ⟨66, _⟩ => ⟨S1x16384x16x128, .f32⟩
  | .hbm, ⟨67, _⟩ => ⟨S1x1x16384x16x128, .f32⟩
  | .hbm, ⟨68, _⟩ => ⟨S1x1x16384x16x128, .f32⟩
  | .hbm, ⟨69, _⟩ => ⟨S2x1x16384x16x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Rows.lean ====
abbrev S128x4096 : Shape := ⟨2, ![128, 4096]⟩
abbrev S2x4096x6144 : Shape := ⟨3, ![2, 4096, 6144]⟩
abbrev S4x4096 : Shape := ⟨2, ![4, 4096]⟩
abbrev S1x4096 : Shape := ⟨2, ![1, 4096]⟩
abbrev S4096 : Shape := ⟨1, ![4096]⟩
abbrev S4096x1 : Shape := ⟨2, ![4096, 1]⟩
abbrev S4096x6144 : Shape := ⟨2, ![4096, 6144]⟩
abbrev S1x256x6144 : Shape := ⟨3, ![1, 256, 6144]⟩
abbrev S256x1 : Shape := ⟨2, ![256, 1]⟩
abbrev S256x6144 : Shape := ⟨2, ![256, 6144]⟩
abbrev S128x128 : Shape := ⟨2, ![128, 128]⟩
abbrev S128x2048 : Shape := ⟨2, ![128, 2048]⟩
abbrev S4096x512 : Shape := ⟨2, ![4096, 512]⟩
abbrev S128x512 : Shape := ⟨2, ![128, 512]⟩
abbrev S128 : Shape := ⟨1, ![128]⟩
abbrev S128x1 : Shape := ⟨2, ![128, 1]⟩
abbrev S8x16x16x128 : Shape := ⟨4, ![8, 16, 16, 128]⟩
abbrev S1x8x16x16x128 : Shape := ⟨5, ![1, 8, 16, 16, 128]⟩
abbrev S2x8x16x16x128 : Shape := ⟨5, ![2, 8, 16, 16, 128]⟩

abbrev nBuf : Space → Nat
  | .hbm => 30
  | .vmem => 42
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S2x4096x6144, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S4096x1, .f32⟩
  | .hbm, ⟨7, _⟩ => ⟨S4096x6144, .bf16⟩
  | .hbm, ⟨8, _⟩ => ⟨S128x4096, .bf16⟩
  | .hbm, ⟨9, _⟩ => ⟨S128x128, .f32⟩
  | .hbm, ⟨10, _⟩ => ⟨S128x2048, .f32⟩
  | .hbm, ⟨11, _⟩ => ⟨S8x16x16x128, .f32⟩
  | .hbm, ⟨12, _⟩ => ⟨S128x2048, .f32⟩
  | .hbm, ⟨13, _⟩ => ⟨S8x16x16x128, .f32⟩
  | .hbm, ⟨14, _⟩ => ⟨S1x4096, .f32⟩
  | .hbm, ⟨15, _⟩ => ⟨S4096, .f32⟩
  | .hbm, ⟨16, _⟩ => ⟨S4096x1, .f32⟩
  | .hbm, ⟨17, _⟩ => ⟨S4096x6144, .bf16⟩
  | .hbm, ⟨18, _⟩ => ⟨S128x4096, .bf16⟩
  | .hbm, ⟨19, _⟩ => ⟨S128x128, .f32⟩
  | .hbm, ⟨20, _⟩ => ⟨S128x2048, .f32⟩
  | .hbm, ⟨21, _⟩ => ⟨S8x16x16x128, .f32⟩
  | .hbm, ⟨22, _⟩ => ⟨S128x2048, .f32⟩
  | .hbm, ⟨23, _⟩ => ⟨S8x16x16x128, .f32⟩
  | .hbm, ⟨24, _⟩ => ⟨S1x8x16x16x128, .f32⟩
  | .hbm, ⟨25, _⟩ => ⟨S1x8x16x16x128, .f32⟩
  | .hbm, ⟨26, _⟩ => ⟨S2x8x16x16x128, .f32⟩
  | .hbm, ⟨27, _⟩ => ⟨S1x8x16x16x128, .f32⟩
  | .hbm, ⟨28, _⟩ => ⟨S1x8x16x16x128, .f32⟩
  | .hbm, ⟨29, _⟩ => ⟨S2x8x16x16x128, .f32⟩
  | .local _ .vmem, ⟨0, _⟩ => ⟨S1x256x6144, .f32⟩
  | .local _ .vmem, ⟨1, _⟩ => ⟨S1x256x6144, .f32⟩
  | .local _ .vmem, ⟨2, _⟩ => ⟨S256x1, .f32⟩
  | .local _ .vmem, ⟨3, _⟩ => ⟨S256x1, .f32⟩
  | .local _ .vmem, ⟨4, _⟩ => ⟨S256x6144, .bf16⟩
  | .local _ .vmem, ⟨5, _⟩ => ⟨S256x6144, .bf16⟩
  | .local _ .vmem, ⟨6, _⟩ => ⟨S128x4096, .f32⟩
  | .local _ .vmem, ⟨7, _⟩ => ⟨S128x4096, .bf16⟩
  | .local _ .vmem, ⟨8, _⟩ => ⟨S128x128, .f32⟩
  | .local _ .vmem, ⟨9, _⟩ => ⟨S128x4096, .bf16⟩
  | .local _ .vmem, ⟨10, _⟩ => ⟨S128x128, .f32⟩
  | .local _ .vmem, ⟨11, _⟩ => ⟨S4096x512, .bf16⟩
  | .local _ .vmem, ⟨12, _⟩ => ⟨S4096x512, .bf16⟩
  | .local _ .vmem, ⟨13, _⟩ => ⟨S128x512, .f32⟩
  | .local _ .vmem, ⟨14, _⟩ => ⟨S128x512, .f32⟩
  | .local _ .vmem, ⟨15, _⟩ => ⟨S128x4096, .bf16⟩
  | .local _ .vmem, ⟨16, _⟩ => ⟨S128x128, .f32⟩
  | .local _ .vmem, ⟨17, _⟩ => ⟨S4096x512, .bf16⟩
  | .local _ .vmem, ⟨18, _⟩ => ⟨S4096x512, .bf16⟩
  | .local _ .vmem, ⟨19, _⟩ => ⟨S128x512, .f32⟩
  | .local _ .vmem, ⟨20, _⟩ => ⟨S128x512, .f32⟩
  | .local _ .vmem, ⟨21, _⟩ => ⟨S1x256x6144, .f32⟩
  | .local _ .vmem, ⟨22, _⟩ => ⟨S1x256x6144, .f32⟩
  | .local _ .vmem, ⟨23, _⟩ => ⟨S256x1, .f32⟩
  | .local _ .vmem, ⟨24, _⟩ => ⟨S256x1, .f32⟩
  | .local _ .vmem, ⟨25, _⟩ => ⟨S256x6144, .bf16⟩
  | .local _ .vmem, ⟨26, _⟩ => ⟨S256x6144, .bf16⟩
  | .local _ .vmem, ⟨27, _⟩ => ⟨S128x4096, .f32⟩
  | .local _ .vmem, ⟨28, _⟩ => ⟨S128x4096, .bf16⟩
  | .local _ .vmem, ⟨29, _⟩ => ⟨S128x128, .f32⟩
  | .local _ .vmem, ⟨30, _⟩ => ⟨S128x4096, .bf16⟩
  | .local _ .vmem, ⟨31, _⟩ => ⟨S128x128, .f32⟩
  | .local _ .vmem, ⟨32, _⟩ => ⟨S4096x512, .bf16⟩
  | .local _ .vmem, ⟨33, _⟩ => ⟨S4096x512, .bf16⟩
  | .local _ .vmem, ⟨34, _⟩ => ⟨S128x512, .f32⟩
  | .local _ .vmem, ⟨35, _⟩ => ⟨S128x512, .f32⟩
  | .local _ .vmem, ⟨36, _⟩ => ⟨S128x4096, .bf16⟩
  | .local _ .vmem, ⟨37, _⟩ => ⟨S128x128, .f32⟩
  | .local _ .vmem, ⟨38, _⟩ => ⟨S4096x512, .bf16⟩
  | .local _ .vmem, ⟨39, _⟩ => ⟨S4096x512, .bf16⟩
  | .local _ .vmem, ⟨40, _⟩ => ⟨S128x512, .f32⟩
  | .local _ .vmem, ⟨41, _⟩ => ⟨S128x512, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg2_0 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc6_stg3_0 : Ref sig .tc := ⟨.vmem, 34, rfl⟩
abbrev cc6_stg3_1 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc7_stg3_0 : Ref sig .tc := ⟨.vmem, 40, rfl⟩
abbrev cc7_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc2_sem0_0 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev cc3_sem0_0 : DmaSem sig := 15
abbrev cc3_sem1_0 : DmaSem sig := 16
abbrev cc3_sem2_0 : DmaSem sig := 17
abbrev cc3_sem2_1 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem1_0 : DmaSem sig := 28
abbrev cc5_sem2_0 : DmaSem sig := 29
abbrev cc6_sem0_0 : DmaSem sig := 30
abbrev cc6_sem1_0 : DmaSem sig := 31
abbrev cc6_sem2_0 : DmaSem sig := 32
abbrev cc6_sem2_1 : DmaSem sig := 33
abbrev cc6_sem3_0 : DmaSem sig := 34
abbrev cc6_sem3_1 : DmaSem sig := 35
abbrev cc7_sem0_0 : DmaSem sig := 36
abbrev cc7_sem1_0 : DmaSem sig := 37
abbrev cc7_sem2_0 : DmaSem sig := 38
abbrev cc7_sem2_1 : DmaSem sig := 39
abbrev cc7_sem3_0 : DmaSem sig := 40
abbrev cc7_sem3_1 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S128x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S128x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S128x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S4096x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S128x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![16], ![false]⟩

def cc4_transform_0 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1x256x6144 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x6144 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S128x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S128x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S128x4096 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S4096x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S128x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![1, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S128x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false]

abbrev stage7_2 : Fin 2 → Memref sig .tc .vmem S4096x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S128x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]
-- ==== RowsReferenceIdeal.lean ====
abbrev S128x4096 : Shape := ⟨2, ![128, 4096]⟩
abbrev S2x4096x6144 : Shape := ⟨3, ![2, 4096, 6144]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S128 : Shape := ⟨1, ![128]⟩
abbrev S128x1 : Shape := ⟨2, ![128, 1]⟩
abbrev S1x4096x6144 : Shape := ⟨3, ![1, 4096, 6144]⟩
abbrev S4096x6144 : Shape := ⟨2, ![4096, 6144]⟩
abbrev S128x6144 : Shape := ⟨2, ![128, 6144]⟩
abbrev S128x2048 : Shape := ⟨2, ![128, 2048]⟩
abbrev S8x16x16x128 : Shape := ⟨4, ![8, 16, 16, 128]⟩
abbrev S1x8x16x16x128 : Shape := ⟨5, ![1, 8, 16, 16, 128]⟩
abbrev S2x8x16x16x128 : Shape := ⟨5, ![2, 8, 16, 16, 128]⟩

abbrev nBuf : Space → Nat
  | .hbm => 62
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S2x4096x6144, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S128x4096, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x4096, .f32⟩
  | .hbm, ⟨18, _⟩ => ⟨S128x4096, .f32⟩
  | .hbm, ⟨19, _⟩ => ⟨S1x4096, .f32⟩
  | .hbm, ⟨20, _⟩ => ⟨S128x4096, .f32⟩
  | .hbm, ⟨21, _⟩ => ⟨S128x4096, .f32⟩
  | .hbm, ⟨22, _⟩ => ⟨S1x4096x6144, .f32⟩
  | .hbm, ⟨23, _⟩ => ⟨S4096x6144, .f32⟩
  | .hbm, ⟨24, _⟩ => ⟨S128x6144, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S1x4096, .f32⟩
  | .hbm, ⟨29, _⟩ => ⟨S4096, .f32⟩
  | .hbm, ⟨30, _⟩ => ⟨S128x4096, .f32⟩
  | .hbm, ⟨31, _⟩ => ⟨S_, .f32⟩
  | .hbm, ⟨32, _⟩ => ⟨S128, .f32⟩
  | .hbm, ⟨33, _⟩ => ⟨S128x1, .f32⟩
  | .hbm, ⟨34, _⟩ => ⟨S_, .f32⟩
  | .hbm, ⟨35, _⟩ => ⟨S128x1, .f32⟩
  | .hbm, ⟨36, _⟩ => ⟨S128x1, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x4096, .f32⟩
  | .hbm, ⟨42, _⟩ => ⟨S128x4096, .f32⟩
  | .hbm, ⟨43, _⟩ => ⟨S1x4096, .f32⟩
  | .hbm, ⟨44, _⟩ => ⟨S128x4096, .f32⟩
  | .hbm, ⟨45, _⟩ => ⟨S128x4096, .f32⟩
  | .hbm, ⟨46, _⟩ => ⟨S1x4096x6144, .f32⟩
  | .hbm, ⟨47, _⟩ => ⟨S4096x6144, .f32⟩
  | .hbm, ⟨48, _⟩ => ⟨S128x6144, .f32⟩
  | .hbm, ⟨49, _⟩ => ⟨S128x2048, .f32⟩
  | .hbm, ⟨50, _⟩ => ⟨S128x2048, .f32⟩
  | .hbm, ⟨51, _⟩ => ⟨S128x2048, .f32⟩
  | .hbm, ⟨52, _⟩ => ⟨S8x16x16x128, .f32⟩
  | .hbm, ⟨53, _⟩ => ⟨S8x16x16x128, .f32⟩
  | .hbm, ⟨54, _⟩ => ⟨S1x8x16x16x128, .f32⟩
  | .hbm, ⟨55, _⟩ => ⟨S1x8x16x16x128, .f32⟩
  | .hbm, ⟨56, _⟩ => ⟨S2x8x16x16x128, .f32⟩
  | .hbm, ⟨57, _⟩ => ⟨S8x16x16x128, .f32⟩
  | .hbm, ⟨58, _⟩ => ⟨S8x16x16x128, .f32⟩
  | .hbm, ⟨59, _⟩ => ⟨S1x8x16x16x128, .f32⟩
  | .hbm, ⟨60, _⟩ => ⟨S1x8x16x16x128, .f32⟩
  | .hbm, ⟨61, _⟩ => ⟨S2x8x16x16x128, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Mixer.lean ====
abbrev S16384x4096 : Shape := ⟨2, ![16384, 4096]⟩
abbrev S2x4096x9216 : Shape := ⟨3, ![2, 4096, 9216]⟩
abbrev S4x4096 : Shape := ⟨2, ![4, 4096]⟩
abbrev S64 : Shape := ⟨1, ![64]⟩
abbrev S_ : Shape := ⟨0, ![]⟩
abbrev S128 : Shape := ⟨1, ![128]⟩
abbrev S1x128 : Shape := ⟨2, ![1, 128]⟩
abbrev S16384x128 : Shape := ⟨2, ![16384, 128]⟩
abbrev S1024x128 : Shape := ⟨2, ![1024, 128]⟩
abbrev S1x4096 : Shape := ⟨2, ![1, 4096]⟩
abbrev S4096 : Shape := ⟨1, ![4096]⟩
abbrev S4096x1 : Shape := ⟨2, ![4096, 1]⟩
abbrev S18x4096x512 : Shape := ⟨3, ![18, 4096, 512]⟩
abbrev S1x256x9216 : Shape := ⟨3, ![1, 256, 9216]⟩
abbrev S256x1 : Shape := ⟨2, ![256, 1]⟩
abbrev S18x256x512 : Shape := ⟨3, ![18, 256, 512]⟩
abbrev S256x9216 : Shape := ⟨2, ![256, 9216]⟩
abbrev S256x512 : Shape := ⟨2, ![256, 512]⟩
abbrev S1x256x512 : Shape := ⟨3, ![1, 256, 512]⟩
abbrev S256x4096 : Shape := ⟨2, ![256, 4096]⟩
abbrev S256x128 : Shape := ⟨2, ![256, 128]⟩
abbrev S16384x9216 : Shape := ⟨2, ![16384, 9216]⟩
abbrev S2048x4096 : Shape := ⟨2, ![2048, 4096]⟩
abbrev S2048x128 : Shape := ⟨2, ![2048, 128]⟩
abbrev S1x4096x512 : Shape := ⟨3, ![1, 4096, 512]⟩
abbrev S2048x512 : Shape := ⟨2, ![2048, 512]⟩
abbrev S4096x512 : Shape := ⟨2, ![4096, 512]⟩
abbrev S2048 : Shape := ⟨1, ![2048]⟩
abbrev S2048x1 : Shape := ⟨2, ![2048, 1]⟩
abbrev S512x4096 : Shape := ⟨2, ![512, 4096]⟩
abbrev S512x128 : Shape := ⟨2, ![512, 128]⟩
abbrev S512x9216 : Shape := ⟨2, ![512, 9216]⟩
abbrev S512x512 : Shape := ⟨2, ![512, 512]⟩
abbrev S512 : Shape := ⟨1, ![512]⟩
abbrev S512x1 : Shape := ⟨2, ![512, 1]⟩
abbrev S128x512 : Shape := ⟨2, ![128, 512]⟩
abbrev S1x128x4x128 : Shape := ⟨4, ![1, 128, 4, 128]⟩
abbrev S512x2048 : Shape := ⟨2, ![512, 2048]⟩
abbrev S1x512x16x128 : Shape := ⟨4, ![1, 512, 16, 128]⟩
abbrev S1x1x128x4x128 : Shape := ⟨5, ![1, 1, 128, 4, 128]⟩
abbrev S2x1x128x4x128 : Shape := ⟨5, ![2, 1, 128, 4, 128]⟩
abbrev S1x1x512x16x128 : Shape := ⟨5, ![1, 1, 512, 16, 128]⟩
abbrev S2x1x512x16x128 : Shape := ⟨5, ![2, 1, 512, 16, 128]⟩

abbrev nBuf : Space → Nat
  | .hbm => 68
  | .vmem => 69
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S2x4096x9216, .f32⟩
  | .hbm, ⟨3, _⟩ => ⟨S4x4096, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S128, .f32⟩
  | .hbm, ⟨13, _⟩ => ⟨S1x128, .f32⟩
  | .hbm, ⟨14, _⟩ => ⟨S16384x128, .f32⟩
  | .hbm, ⟨15, _⟩ => ⟨S16384x128, .f32⟩
  | .hbm, ⟨16, _⟩ => ⟨S1x4096, .f32⟩
  | .hbm, ⟨17, _⟩ => ⟨S4096, .f32⟩
  | .hbm, ⟨18, _⟩ => ⟨S4096x1, .f32⟩
  | .hbm, ⟨19, _⟩ => ⟨S18x4096x512, .bf16⟩
  | .hbm, ⟨20, _⟩ => ⟨S16384x4096, .bf16⟩
  | .hbm, ⟨21, _⟩ => ⟨S16384x128, .f32⟩
  | .hbm, ⟨22, _⟩ => ⟨S16384x9216, .bf16⟩
  | .hbm, ⟨23, _⟩ => ⟨S512x4096, .bf16⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S512x9216, .f32⟩
  | .hbm, ⟨28, _⟩ => ⟨S128x512, .f32⟩
  | .hbm, ⟨29, _⟩ => ⟨S1x128x4x128, .f32⟩
  | .hbm, ⟨30, _⟩ => ⟨S128x512, .f32⟩
  | .hbm, ⟨31, _⟩ => ⟨S1x128x4x128, .f32⟩
  | .hbm, ⟨32, _⟩ => ⟨S512x2048, .f32⟩
  | .hbm, ⟨33, _⟩ => ⟨S1x512x16x128, .f32⟩
  | .hbm, ⟨34, _⟩ => ⟨S512x2048, .f32⟩
  | .hbm, ⟨35, _⟩ => ⟨S1x512x16x128, .f32⟩
  | .hbm, ⟨36, _⟩ => ⟨S1x4096, .f32⟩
  | .hbm, ⟨37, _⟩ => ⟨S4096, .f32⟩
  | .hbm, ⟨38, _⟩ => ⟨S4096x1, .f32⟩
  | .hbm, ⟨39, _⟩ => ⟨S18x4096x512, .bf16⟩
  | .hbm, ⟨40, _⟩ => ⟨S16384x4096, .bf16⟩
  | .hbm, ⟨41, _⟩ => ⟨S16384x128, .f32⟩
  | .hbm, ⟨42, _⟩ => ⟨S16384x9216, .bf16⟩
  | .hbm, ⟨43, _⟩ => ⟨S512x4096, .bf16⟩
  | .hbm, ⟨44, _⟩ => ⟨S512x128, .f32⟩
  | .hbm, ⟨45, _⟩ => ⟨S512x128, .f32⟩
  | .hbm, ⟨46, _⟩ => ⟨S512x128, .f32⟩
  | .hbm, ⟨47, _⟩ => ⟨S512x9216, .f32⟩
  | .hbm, ⟨48, _⟩ => ⟨S128x512, .f32⟩
  | .hbm, ⟨49, _⟩ => ⟨S1x128x4x128, .f32⟩
  | .hbm, ⟨50, _⟩ => ⟨S128x512, .f32⟩
  | .hbm, ⟨51, _⟩ => ⟨S1x128x4x128, .f32⟩
  | .hbm, ⟨52, _⟩ => ⟨S512x2048, .f32⟩
  | .hbm, ⟨53, _⟩ => ⟨S1x512x16x128, .f32⟩
  | .hbm, ⟨54, _⟩ => ⟨S512x2048, .f32⟩
  | .hbm, ⟨55, _⟩ => ⟨S1x512x16x128, .f32⟩
  | .hbm, ⟨56, _⟩ => ⟨S1x1x128x4x128, .f32⟩
  | .hbm, ⟨57, _⟩ => ⟨S1x1x128x4x128, .f32⟩
  | .hbm, ⟨58, _⟩ => ⟨S2x1x128x4x128, .f32⟩
  | .hbm, ⟨59, _⟩ => ⟨S1x1x128x4x128, .f32⟩
  | .hbm, ⟨60, _⟩ => ⟨S1x1x128x4x128, .f32⟩
  | .hbm, ⟨61, _⟩ => ⟨S2x1x128x4x128, .f32⟩
  | .hbm, ⟨62, _⟩ => ⟨S1x1x512x16x128, .f32⟩
  | .hbm, ⟨63, _⟩ => ⟨S1x1x512x16x128, .f32⟩
  | .hbm, ⟨64, _⟩ => ⟨S2x1x512x16x128, .f32⟩
  | .hbm, ⟨65, _⟩ => ⟨S1x1x512x16x128, .f32⟩
  | .hbm, ⟨66, _⟩ => ⟨S1x1x512x16x128, .f32⟩
  | .hbm, ⟨67, _⟩ => ⟨S2x1x512x16x128, .f32⟩
  | .local _ .vmem, ⟨0, _⟩ => ⟨S1x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1x256x9216, .f32⟩
  | .local _ .vmem, ⟨6, _⟩ => ⟨S1x256x9216, .f32⟩
  | .local _ .vmem, ⟨7, _⟩ => ⟨S256x1, .f32⟩
  | .local _ .vmem, ⟨8, _⟩ => ⟨S256x1, .f32⟩
  | .local _ .vmem, ⟨9, _⟩ => ⟨S18x256x512, .bf16⟩
  | .local _ .vmem, ⟨10, _⟩ => ⟨S18x256x512, .bf16⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | .local _ .vmem, ⟨14, _⟩ => ⟨S256x4096, .bf16⟩
  | .local _ .vmem, ⟨15, _⟩ => ⟨S256x128, .f32⟩
  | .local _ .vmem, ⟨16, _⟩ => ⟨S256x128, .f32⟩
  | .local _ .vmem, ⟨17, _⟩ => ⟨S2048x4096, .bf16⟩
  | .local _ .vmem, ⟨18, _⟩ => ⟨S2048x4096, .bf16⟩
  | .local _ .vmem, ⟨19, _⟩ => ⟨S2048x128, .f32⟩
  | .local _ .vmem, ⟨20, _⟩ => ⟨S2048x128, .f32⟩
  | .local _ .vmem, ⟨21, _⟩ => ⟨S1x4096x512, .bf16⟩
  | .local _ .vmem, ⟨22, _⟩ => ⟨S1x4096x512, .bf16⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x512, .bf16⟩
  | .local _ .vmem, ⟨28, _⟩ => ⟨S2048x512, .bf16⟩
  | .local _ .vmem, ⟨29, _⟩ => ⟨S512x4096, .bf16⟩
  | .local _ .vmem, ⟨30, _⟩ => ⟨S512x128, .f32⟩
  | .local _ .vmem, ⟨31, _⟩ => ⟨S1x4096x512, .bf16⟩
  | .local _ .vmem, ⟨32, _⟩ => ⟨S1x4096x512, .bf16⟩
  | .local _ .vmem, ⟨33, _⟩ => ⟨S512x128, .f32⟩
  | .local _ .vmem, ⟨34, _⟩ => ⟨S512x128, .f32⟩
  | .local _ .vmem, ⟨35, _⟩ => ⟨S512x512, .f32⟩
  | .local _ .vmem, ⟨36, _⟩ => ⟨S512x512, .f32⟩
  | .local _ .vmem, ⟨37, _⟩ => ⟨S1x256x9216, .f32⟩
  | .local _ .vmem, ⟨38, _⟩ => ⟨S1x256x9216, .f32⟩
  | .local _ .vmem, ⟨39, _⟩ => ⟨S256x1, .f32⟩
  | .local _ .vmem, ⟨40, _⟩ => ⟨S256x1, .f32⟩
  | .local _ .vmem, ⟨41, _⟩ => ⟨S18x256x512, .bf16⟩
  | .local _ .vmem, ⟨42, _⟩ => ⟨S18x256x512, .bf16⟩
  | .local _ .vmem, ⟨43, _⟩ => ⟨S256x4096, .f32⟩
  | .local _ .vmem, ⟨44, _⟩ => ⟨S256x4096, .f32⟩
  | .local _ .vmem, ⟨45, _⟩ => ⟨S256x4096, .bf16⟩
  | .local _ .vmem, ⟨46, _⟩ => ⟨S256x4096, .bf16⟩
  | .local _ .vmem, ⟨47, _⟩ => ⟨S256x128, .f32⟩
  | .local _ .vmem, ⟨48, _⟩ => ⟨S256x128, .f32⟩
  | .local _ .vmem, ⟨49, _⟩ => ⟨S2048x4096, .bf16⟩
  | .local _ .vmem, ⟨50, _⟩ => ⟨S2048x4096, .bf16⟩
  | .local _ .vmem, ⟨51, _⟩ => ⟨S2048x128, .f32⟩
  | .local _ .vmem, ⟨52, _⟩ => ⟨S2048x128, .f32⟩
  | .local _ .vmem, ⟨53, _⟩ => ⟨S1x4096x512, .bf16⟩
  | .local _ .vmem, ⟨54, _⟩ => ⟨S1x4096x512, .bf16⟩
  | .local _ .vmem, ⟨55, _⟩ => ⟨S2048x128, .f32⟩
  | .local _ .vmem, ⟨56, _⟩ => ⟨S2048x128, .f32⟩
  | .local _ .vmem, ⟨57, _⟩ => ⟨S2048x128, .f32⟩
  | .local _ .vmem, ⟨58, _⟩ => ⟨S2048x128, .f32⟩
  | .local _ .vmem, ⟨59, _⟩ => ⟨S2048x512, .bf16⟩
  | .local _ .vmem, ⟨60, _⟩ => ⟨S2048x512, .bf16⟩
  | .local _ .vmem, ⟨61, _⟩ => ⟨S512x4096, .bf16⟩
  | .local _ .vmem, ⟨62, _⟩ => ⟨S512x128, .f32⟩
  | .local _ .vmem, ⟨63, _⟩ => ⟨S1x4096x512, .bf16⟩
  | .local _ .vmem, ⟨64, _⟩ => ⟨S1x4096x512, .bf16⟩
  | .local _ .vmem, ⟨65, _⟩ => ⟨S512x128, .f32⟩
  | .local _ .vmem, ⟨66, _⟩ => ⟨S512x128, .f32⟩
  | .local _ .vmem, ⟨67, _⟩ => ⟨S512x512, .f32⟩
  | .local _ .vmem, ⟨68, _⟩ => ⟨S512x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc3_stg5_0 : Ref sig .tc := ⟨.vmem, 27, rfl⟩
abbrev cc3_stg5_1 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg3_1 : Ref sig .tc := ⟨.vmem, 56, rfl⟩
abbrev cc7_stg4_0 : Ref sig .tc := ⟨.vmem, 57, rfl⟩
abbrev cc7_stg4_1 : Ref sig .tc := ⟨.vmem, 58, rfl⟩
abbrev cc7_stg5_0 : Ref sig .tc := ⟨.vmem, 59, rfl⟩
abbrev cc7_stg5_1 : Ref sig .tc := ⟨.vmem, 60, rfl⟩
abbrev cc8_stg0_0 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg5_0 : Ref sig .tc := ⟨.vmem, 67, rfl⟩
abbrev cc8_stg5_1 : Ref sig .tc := ⟨.vmem, 68, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc3_sem5_0 : DmaSem sig := 27
abbrev cc3_sem5_1 : DmaSem sig := 28
abbrev cc4_sem0_0 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem5_0 : DmaSem sig := 35
abbrev cc4_sem5_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc7_sem3_0 : DmaSem sig := 55
abbrev cc7_sem3_1 : DmaSem sig := 56
abbrev cc7_sem4_0 : DmaSem sig := 57
abbrev cc7_sem4_1 : DmaSem sig := 58
abbrev cc7_sem5_0 : DmaSem sig := 59
abbrev cc7_sem5_1 : DmaSem sig := 60
abbrev cc8_sem0_0 : DmaSem sig := 61
abbrev cc8_sem1_0 : DmaSem sig := 62
abbrev cc8_sem2_0 : DmaSem sig := 63
abbrev cc8_sem2_1 : DmaSem sig := 64
abbrev cc8_sem3_0 : DmaSem sig := 65
abbrev cc8_sem4_0 : DmaSem sig := 66
abbrev cc8_sem5_0 : DmaSem sig := 67
abbrev cc8_sem5_1 : DmaSem sig := 68

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x9216 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S18x256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 18], ![false, false]⟩

def k3_cond1 (i : grid3.Coords) : BitVec 1 :=
  let arg1 : BitVec 32 := BitVec.ofNat 32 (i 1).val
  let c512_i32 : BitVec 32 := 512#32
  let v0 : BitVec 32 := Scalar.muli arg1 c512_i32
  let c2560_i32 : BitVec 32 := 2560#32
  let v17 : BitVec 1 := Scalar.cmpi .slt v0 c2560_i32
  let v24 : BitVec 32 := Scalar.extui v17
  let c0_i32 : BitVec 32 := 0#32
  let v25 : BitVec 1 := Scalar.cmpi .ne v24 c0_i32
  v25

def k3_cond2 (i : grid3.Coords) : BitVec 1 :=
  let arg1 : BitVec 32 := BitVec.ofNat 32 (i 1).val
  let c512_i32 : BitVec 32 := 512#32
  let v0 : BitVec 32 := Scalar.muli arg1 c512_i32
  let c2560_i32 : BitVec 32 := 2560#32
  let v17 : BitVec 1 := Scalar.cmpi .slt v0 c2560_i32
  let v_true : BitVec 1 := 1#1
  let v26 : BitVec 1 := Scalar.xori v17 v_true
  let v27 : BitVec 32 := Scalar.extui v26
  let c0_i32_11 : BitVec 32 := 0#32
  let v28 : BitVec 1 := Scalar.cmpi .ne v27 c0_i32_11
  v28

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x4096x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S2048x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![1, 18], ![false, false]⟩

def k4_cond1 (i : grid4.Coords) : BitVec 1 :=
  let arg1 : BitVec 32 := BitVec.ofNat 32 (i 1).val
  let c512_i32 : BitVec 32 := 512#32
  let v0 : BitVec 32 := Scalar.muli arg1 c512_i32
  let c2560_i32 : BitVec 32 := 2560#32
  let v17 : BitVec 1 := Scalar.cmpi .slt v0 c2560_i32
  let v24 : BitVec 32 := Scalar.extui v17
  let c0_i32 : BitVec 32 := 0#32
  let v25 : BitVec 1 := Scalar.cmpi .ne v24 c0_i32
  v25

def k4_cond2 (i : grid4.Coords) : BitVec 1 :=
  let arg1 : BitVec 32 := BitVec.ofNat 32 (i 1).val
  let c512_i32 : BitVec 32 := 512#32
  let v0 : BitVec 32 := Scalar.muli arg1 c512_i32
  let c2560_i32 : BitVec 32 := 2560#32
  let v17 : BitVec 1 := Scalar.cmpi .slt v0 c2560_i32
  let v_true : BitVec 1 := 1#1
  let v26 : BitVec 1 := Scalar.xori v17 v_true
  let v27 : BitVec 32 := Scalar.extui v26
  let c0_i32_11 : BitVec 32 := 0#32
  let v28 : BitVec 1 := Scalar.cmpi .ne v27 c0_i32_11
  v28

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S512x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S512x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1x4096x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 1 → Memref sig .tc .vmem S512x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, false]

abbrev stage4_4 : Fin 1 → Memref sig .tc .vmem S512x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true, false]

abbrev stage4_5 : Fin 2 → Memref sig .tc .vmem S512x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨1, ![16], ![false]⟩

def cc5_transform_0 (i : grid5.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S1x256x9216 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S18x256x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![8, 18], ![false, false]⟩

def k7_cond1 (i : grid7.Coords) : BitVec 1 :=
  let arg1 : BitVec 32 := BitVec.ofNat 32 (i 1).val
  let c512_i32 : BitVec 32 := 512#32
  let v0 : BitVec 32 := Scalar.muli arg1 c512_i32
  let c2560_i32 : BitVec 32 := 2560#32
  let v17 : BitVec 1 := Scalar.cmpi .slt v0 c2560_i32
  let v24 : BitVec 32 := Scalar.extui v17
  let c0_i32 : BitVec 32 := 0#32
  let v25 : BitVec 1 := Scalar.cmpi .ne v24 c0_i32
  v25

def k7_cond2 (i : grid7.Coords) : BitVec 1 :=
  let arg1 : BitVec 32 := BitVec.ofNat 32 (i 1).val
  let c512_i32 : BitVec 32 := 512#32
  let v0 : BitVec 32 := Scalar.muli arg1 c512_i32
  let c2560_i32 : BitVec 32 := 2560#32
  let v17 : BitVec 1 := Scalar.cmpi .slt v0 c2560_i32
  let v_true : BitVec 1 := 1#1
  let v26 : BitVec 1 := Scalar.xori v17 v_true
  let v27 : BitVec 32 := Scalar.extui v26
  let c0_i32_11 : BitVec 32 := 0#32
  let v28 : BitVec 1 := Scalar.cmpi .ne v27 c0_i32_11
  v28

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S2048x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x4096x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S2048x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 2 → Memref sig .tc .vmem S2048x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S2048x512 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev grid8 : Pipeline.Grid := ⟨2, ![1, 18], ![false, false]⟩

def k8_cond1 (i : grid8.Coords) : BitVec 1 :=
  let arg1 : BitVec 32 := BitVec.ofNat 32 (i 1).val
  let c512_i32 : BitVec 32 := 512#32
  let v0 : BitVec 32 := Scalar.muli arg1 c512_i32
  let c2560_i32 : BitVec 32 := 2560#32
  let v17 : BitVec 1 := Scalar.cmpi .slt v0 c2560_i32
  let v24 : BitVec 32 := Scalar.extui v17
  let c0_i32 : BitVec 32 := 0#32
  let v25 : BitVec 1 := Scalar.cmpi .ne v24 c0_i32
  v25

def k8_cond2 (i : grid8.Coords) : BitVec 1 :=
  let arg1 : BitVec 32 := BitVec.ofNat 32 (i 1).val
  let c512_i32 : BitVec 32 := 512#32
  let v0 : BitVec 32 := Scalar.muli arg1 c512_i32
  let c2560_i32 : BitVec 32 := 2560#32
  let v17 : BitVec 1 := Scalar.cmpi .slt v0 c2560_i32
  let v_true : BitVec 1 := 1#1
  let v26 : BitVec 1 := Scalar.xori v17 v_true
  let v27 : BitVec 32 := Scalar.extui v26
  let c0_i32_11 : BitVec 32 := 0#32
  let v28 : BitVec 1 := Scalar.cmpi .ne v27 c0_i32_11
  v28

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S512x4096 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 1 → Memref sig .tc .vmem S512x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true, false]

abbrev stage8_2 : Fin 2 → Memref sig .tc .vmem S1x4096x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 1 → Memref sig .tc .vmem S512x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true, false]

abbrev stage8_4 : Fin 1 → Memref sig .tc .vmem S512x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true, false]

abbrev stage8_5 : Fin 2 → Memref sig .tc .vmem S512x512 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]
-- ==== MixerReferenceIdeal.lean ====
abbrev S16384x4096 : Shape := ⟨2, ![16384, 4096]⟩
abbrev S2x4096x9216 : Shape := ⟨3, ![2, 4096, 9216]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096x9216 : Shape := ⟨3, ![1, 4096, 9216]⟩
abbrev S4096x9216 : Shape := ⟨2, ![4096, 9216]⟩
abbrev S16384x9216 : Shape := ⟨2, ![16384, 9216]⟩
abbrev S16384x2048 : Shape := ⟨2, ![16384, 2048]⟩
abbrev S16384x512 : Shape := ⟨2, ![16384, 512]⟩
abbrev S16384x16x128 : Shape := ⟨3, ![16384, 16, 128]⟩
abbrev S64 : Shape := ⟨1, ![64]⟩
abbrev S1x64 : Shape := ⟨2, ![1, 64]⟩
abbrev S16384x64 : Shape := ⟨2, ![16384, 64]⟩
abbrev S16384x1x64 : Shape := ⟨3, ![16384, 1, 64]⟩
abbrev S16384x16x64 : Shape := ⟨3, ![16384, 16, 64]⟩
abbrev S16384x4x128 : Shape := ⟨3, ![16384, 4, 128]⟩
abbrev S16384x4x64 : Shape := ⟨3, ![16384, 4, 64]⟩
abbrev S128x4x128 : Shape := ⟨3, ![128, 4, 128]⟩
abbrev S1x128x4x128 : Shape := ⟨4, ![1, 128, 4, 128]⟩
abbrev S128x512 : Shape := ⟨2, ![128, 512]⟩
abbrev S512x2048 : Shape := ⟨2, ![512, 2048]⟩
abbrev S1x512x16x128 : Shape := ⟨4, ![1, 512, 16, 128]⟩
abbrev S1x1x128x4x128 : Shape := ⟨5, ![1, 1, 128, 4, 128]⟩
abbrev S2x1x128x4x128 : Shape := ⟨5, ![2, 1, 128, 4, 128]⟩
abbrev S1x1x512x16x128 : Shape := ⟨5, ![1, 1, 512, 16, 128]⟩
abbrev S2x1x512x16x128 : Shape := ⟨5, ![2, 1, 512, 16, 128]⟩

abbrev nBuf : Space → Nat
  | .hbm => 238
  | .vmem => 0
  | .smem => 0
  | _ => 0

abbrev hbmTy0_0 (i : Nat) : BufTy := match i % 128 with
  | 0 => ⟨S16384x4096, .f32⟩
  | 1 => ⟨S16384x4096, .f32⟩
  | 2 => ⟨S2x4096x9216, .f32⟩
  | 3 => ⟨S4x4096, .f32⟩
  | 4 => ⟨S1x4096, .f32⟩
  | 5 => ⟨S4096, .f32⟩
  | 6 => ⟨S16384x4096, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x4096, .f32⟩
  | 18 => ⟨S16384x4096, .f32⟩
  | 19 => ⟨S1x4096, .f32⟩
  | 20 => ⟨S16384x4096, .f32⟩
  | 21 => ⟨S16384x4096, .f32⟩
  | 22 => ⟨S1x4096x9216, .f32⟩
  | 23 => ⟨S4096x9216, .f32⟩
  | 24 => ⟨S16384x9216, .f32⟩
  | 25 => ⟨S16384x2048, .f32⟩
  | 26 => ⟨S16384x512, .f32⟩
  | 27 => ⟨S16384x512, .f32⟩
  | 28 => ⟨S16384x2048, .f32⟩
  | 29 => ⟨S16384x2048, .f32⟩
  | 30 => ⟨S16384x2048, .f32⟩
  | 31 => ⟨S16384x16x128, .f32⟩
  | 32 => ⟨S64, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S16384, .i32⟩
  | 41 => ⟨S16384, .f32⟩
  | 42 => ⟨S16384x1, .f32⟩
  | 43 => ⟨S1x64, .f32⟩
  | 44 => ⟨S16384x64, .f32⟩
  | 45 => ⟨S16384x64, .f32⟩
  | 46 => ⟨S16384x64, .f32⟩
  | 47 => ⟨S16384x64, .f32⟩
  | 48 => ⟨S16384x1x64, .f32⟩
  | 49 => ⟨S16384x64, .f32⟩
  | 50 => ⟨S16384x1x64, .f32⟩
  | 51 => ⟨S16384x16x64, .f32⟩
  | 52 => ⟨S16384x16x64, .f32⟩
  | 53 => ⟨S16384x16x64, .f32⟩
  | 54 => ⟨S16384x16x64, .f32⟩
  | 55 => ⟨S16384x16x64, .f32⟩
  | 56 => ⟨S16384x16x64, .f32⟩
  | 57 => ⟨S16384x16x64, .f32⟩
  | 58 => ⟨S16384x16x64, .f32⟩
  | 59 => ⟨S16384x16x64, .f32⟩
  | 60 => ⟨S16384x16x64, .f32⟩
  | 61 => ⟨S16384x16x64, .f32⟩
  | 62 => ⟨S16384x16x64, .f32⟩
  | 63 => ⟨S16384x16x128, .f32⟩
  | 64 => ⟨S16384x4x128, .f32⟩
  | 65 => ⟨S64, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S16384, .i32⟩
  | 74 => ⟨S16384, .f32⟩
  | 75 => ⟨S16384x1, .f32⟩
  | 76 => ⟨S1x64, .f32⟩
  | 77 => ⟨S16384x64, .f32⟩
  | 78 => ⟨S16384x64, .f32⟩
  | 79 => ⟨S16384x64, .f32⟩
  | 80 => ⟨S16384x64, .f32⟩
  | 81 => ⟨S16384x1x64, .f32⟩
  | 82 => ⟨S16384x64, .f32⟩
  | 83 => ⟨S16384x1x64, .f32⟩
  | 84 => ⟨S16384x4x64, .f32⟩
  | 85 => ⟨S16384x4x64, .f32⟩
  | 86 => ⟨S16384x4x64, .f32⟩
  | 87 => ⟨S16384x4x64, .f32⟩
  | 88 => ⟨S16384x4x64, .f32⟩
  | 89 => ⟨S16384x4x64, .f32⟩
  | 90 => ⟨S16384x4x64, .f32⟩
  | 91 => ⟨S16384x4x64, .f32⟩
  | 92 => ⟨S16384x4x64, .f32⟩
  | 93 => ⟨S16384x4x64, .f32⟩
  | 94 => ⟨S16384x4x64, .f32⟩
  | 95 => ⟨S16384x4x64, .f32⟩
  | 96 => ⟨S16384x4x128, .f32⟩
  | 97 => ⟨S16384x2048, .f32⟩
  | 98 => ⟨S_, .f32⟩
  | 99 => ⟨S16384x2048, .f32⟩
  | 100 => ⟨S16384x2048, .f32⟩
  | 101 => ⟨S16384x512, .f32⟩
  | 102 => ⟨S_, .f32⟩
  | 103 => ⟨S16384x2048, .f32⟩
  | 104 => ⟨S16384x2048, .f32⟩
  | 105 => ⟨S16384x9216, .f32⟩
  | 106 => ⟨S16384x9216, .bf16⟩
  | 107 => ⟨S128x4x128, .f32⟩
  | 108 => ⟨S1x128x4x128, .f32⟩
  | 109 => ⟨S128x512, .f32⟩
  | 110 => ⟨S1x128x4x128, .f32⟩
  | 111 => ⟨S512x2048, .f32⟩
  | 112 => ⟨S1x512x16x128, .f32⟩
  | 113 => ⟨S512x2048, .f32⟩
  | 114 => ⟨S1x512x16x128, .f32⟩
  | 115 => ⟨S1x4096, .f32⟩
  | 116 => ⟨S4096, .f32⟩
  | 117 => ⟨S16384x4096, .f32⟩
  | 118 => ⟨S_, .f32⟩
  | 119 => ⟨S16384, .f32⟩
  | 120 => ⟨S16384x1, .f32⟩
  | 121 => ⟨S_, .f32⟩
  | 122 => ⟨S16384x1, .f32⟩
  | 123 => ⟨S16384x1, .f32⟩
  | 124 => ⟨S_, .f32⟩
  | 125 => ⟨S16384x1, .f32⟩
  | 126 => ⟨S16384x1, .f32⟩
  | 127 => ⟨S16384x1, .f32⟩
  | _ => ⟨S16384x4096, .f32⟩

abbrev hbmTy0_1 (i : Nat) : BufTy := match i % 128 with
  | 0 => ⟨S16384x4096, .f32⟩
  | 1 => ⟨S16384x4096, .f32⟩
  | 2 => ⟨S1x4096, .f32⟩
  | 3 => ⟨S16384x4096, .f32⟩
  | 4 => ⟨S16384x4096, .f32⟩
  | 5 => ⟨S1x4096x9216, .f32⟩
  | 6 => ⟨S4096x9216, .f32⟩
  | 7 => ⟨S16384x9216, .f32⟩
  | 8 => ⟨S16384x2048, .f32⟩
  | 9 => ⟨S16384x512, .f32⟩
  | 10 => ⟨S16384x512, .f32⟩
  | 11 => ⟨S16384x2048, .f32⟩
  | 12 => ⟨S16384x2048, .f32⟩
  | 13 => ⟨S16384x2048, .f32⟩
  | 14 => ⟨S16384x16x128, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S16384, .i32⟩
  | 24 => ⟨S16384, .f32⟩
  | 25 => ⟨S16384x1, .f32⟩
  | 26 => ⟨S1x64, .f32⟩
  | 27 => ⟨S16384x64, .f32⟩
  | 28 => ⟨S16384x64, .f32⟩
  | 29 => ⟨S16384x64, .f32⟩
  | 30 => ⟨S16384x64, .f32⟩
  | 31 => ⟨S16384x1x64, .f32⟩
  | 32 => ⟨S16384x64, .f32⟩
  | 33 => ⟨S16384x1x64, .f32⟩
  | 34 => ⟨S16384x16x64, .f32⟩
  | 35 => ⟨S16384x16x64, .f32⟩
  | 36 => ⟨S16384x16x64, .f32⟩
  | 37 => ⟨S16384x16x64, .f32⟩
  | 38 => ⟨S16384x16x64, .f32⟩
  | 39 => ⟨S16384x16x64, .f32⟩
  | 40 => ⟨S16384x16x64, .f32⟩
  | 41 => ⟨S16384x16x64, .f32⟩
  | 42 => ⟨S16384x16x64, .f32⟩
  | 43 => ⟨S16384x16x64, .f32⟩
  | 44 => ⟨S16384x16x64, .f32⟩
  | 45 => ⟨S16384x16x64, .f32⟩
  | 46 => ⟨S16384x16x128, .f32⟩
  | 47 => ⟨S16384x4x128, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S16384, .i32⟩
  | 57 => ⟨S16384, .f32⟩
  | 58 => ⟨S16384x1, .f32⟩
  | 59 => ⟨S1x64, .f32⟩
  | 60 => ⟨S16384x64, .f32⟩
  | 61 => ⟨S16384x64, .f32⟩
  | 62 => ⟨S16384x64, .f32⟩
  | 63 => ⟨S16384x64, .f32⟩
  | 64 => ⟨S16384x1x64, .f32⟩
  | 65 => ⟨S16384x64, .f32⟩
  | 66 => ⟨S16384x1x64, .f32⟩
  | 67 => ⟨S16384x4x64, .f32⟩
  | 68 => ⟨S16384x4x64, .f32⟩
  | 69 => ⟨S16384x4x64, .f32⟩
  | 70 => ⟨S16384x4x64, .f32⟩
  | 71 => ⟨S16384x4x64, .f32⟩
  | 72 => ⟨S16384x4x64, .f32⟩
  | 73 => ⟨S16384x4x64, .f32⟩
  | 74 => ⟨S16384x4x64, .f32⟩
  | 75 => ⟨S16384x4x64, .f32⟩
  | 76 => ⟨S16384x4x64, .f32⟩
  | 77 => ⟨S16384x4x64, .f32⟩
  | 78 => ⟨S16384x4x64, .f32⟩
  | 79 => ⟨S16384x4x128, .f32⟩
  | 80 => ⟨S16384x2048, .f32⟩
  | 81 => ⟨S_, .f32⟩
  | 82 => ⟨S16384x2048, .f32⟩
  | 83 => ⟨S16384x2048, .f32⟩
  | 84 => ⟨S16384x512, .f32⟩
  | 85 => ⟨S_, .f32⟩
  | 86 => ⟨S16384x2048, .f32⟩
  | 87 => ⟨S16384x2048, .f32⟩
  | 88 => ⟨S16384x9216, .f32⟩
  | 89 => ⟨S16384x9216, .bf16⟩
  | 90 => ⟨S128x4x128, .f32⟩
  | 91 => ⟨S1x128x4x128, .f32⟩
  | 92 => ⟨S128x512, .f32⟩
  | 93 => ⟨S1x128x4x128, .f32⟩
  | 94 => ⟨S512x2048, .f32⟩
  | 95 => ⟨S1x512x16x128, .f32⟩
  | 96 => ⟨S512x2048, .f32⟩
  | 97 => ⟨S1x512x16x128, .f32⟩
  | 98 => ⟨S1x1x128x4x128, .f32⟩
  | 99 => ⟨S1x1x128x4x128, .f32⟩
  | 100 => ⟨S2x1x128x4x128, .f32⟩
  | 101 => ⟨S1x1x128x4x128, .f32⟩
  | 102 => ⟨S1x1x128x4x128, .f32⟩
  | 103 => ⟨S2x1x128x4x128, .f32⟩
  | 104 => ⟨S1x1x512x16x128, .f32⟩
  | 105 => ⟨S1x1x512x16x128, .f32⟩
  | 106 => ⟨S2x1x512x16x128, .f32⟩
  | 107 => ⟨S1x1x512x16x128, .f32⟩
  | 108 => ⟨S1x1x512x16x128, .f32⟩
  | 109 => ⟨S2x1x512x16x128, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_6 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_7 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_cst_8 : Ref sig .tc := ⟨.hbm, 118, rfl⟩
abbrev main_v105 : Ref sig .tc := ⟨.hbm, 119, rfl⟩
abbrev main_v106 : Ref sig .tc := ⟨.hbm, 120, rfl⟩
abbrev main_cst_9 : Ref sig .tc := ⟨.hbm, 121, rfl⟩
abbrev main_v107 : Ref sig .tc := ⟨.hbm, 122, rfl⟩
abbrev main_v108 : Ref sig .tc := ⟨.hbm, 123, rfl⟩
abbrev main_cst_10 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_cst_11 : Ref sig .tc := ⟨.hbm, 145, rfl⟩
abbrev main_v129 : Ref sig .tc := ⟨.hbm, 146, rfl⟩
abbrev main_v130 : Ref sig .tc := ⟨.hbm, 147, rfl⟩
abbrev main_cst_12 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_cst_13 : Ref sig .tc := ⟨.hbm, 178, rfl⟩
abbrev main_v160 : Ref sig .tc := ⟨.hbm, 179, rfl⟩
abbrev main_v161 : Ref sig .tc := ⟨.hbm, 180, rfl⟩
abbrev main_cst_14 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_cst_15 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_cst_16 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩

abbrev nD : Nat := 1
abbrev τ : Topo := Topo.v7x

variable {F : FTy → Type} [FloatOps F]
-- ==== OutC.lean ====
abbrev S16384x2048 : Shape := ⟨2, ![16384, 2048]⟩
abbrev S2048x4096 : Shape := ⟨2, ![2048, 4096]⟩
abbrev S16384x4096 : Shape := ⟨2, ![16384, 4096]⟩
abbrev S16384x128 : Shape := ⟨2, ![16384, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x4096, .f32⟩
  | .hbm, ⟨3, _⟩ => ⟨S16384x4096, .f32⟩
  | .hbm, ⟨4, _⟩ => ⟨S16384x4096, .bf16⟩
  | .hbm, ⟨5, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_9 : BitVec 32 := 0#32
  let v18 : BitVec 1 := Scalar.cmpi .ne v17 c0_i32_9
  v18

def k0_cond2 (i : grid0.Coords) : BitVec 1 :=
  let arg1 : BitVec 32 := BitVec.ofNat 32 (i 1).val
  let c0_i32 : BitVec 32 := 0#32
  let v16 : BitVec 1 := Scalar.cmpi .eq arg1 c0_i32
  let v_true : BitVec 1 := 1#1
  let v19 : BitVec 1 := Scalar.xori v16 v_true
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutCReferenceIdeal.lean ====
abbrev S16384x2048 : Shape := ⟨2, ![16384, 2048]⟩
abbrev S2048x4096 : Shape := ⟨2, ![2048, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x4096, .f32⟩
  | .hbm, ⟨3, _⟩ => ⟨S16384x2048, .f32⟩
  | .hbm, ⟨4, _⟩ => ⟨S2048x4096, .f32⟩
  | .hbm, ⟨5, _⟩ => ⟨S16384x4096, .f32⟩
  | .hbm, ⟨6, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutAB.lean ====
abbrev S16384x2048 : Shape := ⟨2, ![16384, 2048]⟩
abbrev S8x4096x512 : Shape := ⟨3, ![8, 4096, 512]⟩
abbrev S16384x4096 : Shape := ⟨2, ![16384, 4096]⟩
abbrev S16384x128 : Shape := ⟨2, ![16384, 128]⟩
abbrev S1024x2048 : Shape := ⟨2, ![1024, 2048]⟩
abbrev S1x4096x512 : Shape := ⟨3, ![1, 4096, 512]⟩
abbrev S1024x512 : Shape := ⟨2, ![1024, 512]⟩
abbrev S1024x128 : Shape := ⟨2, ![1024, 128]⟩
abbrev S1x2048x512 : Shape := ⟨3, ![1, 2048, 512]⟩
abbrev S2048x512 : Shape := ⟨2, ![2048, 512]⟩

abbrev nBuf : Space → Nat
  | .hbm => 7
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8x4096x512, .bf16⟩
  | .hbm, ⟨3, _⟩ => ⟨S16384x4096, .f32⟩
  | .hbm, ⟨4, _⟩ => ⟨S16384x4096, .f32⟩
  | .hbm, ⟨5, _⟩ => ⟨S16384x4096, .bf16⟩
  | .hbm, ⟨6, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_15 : BitVec 32 := 0#32
  let v24 : BitVec 1 := Scalar.cmpi .ne v23 c0_i32_15
  v24

def k0_cond2 (i : grid0.Coords) : BitVec 1 :=
  let arg1 : BitVec 32 := BitVec.ofNat 32 (i 1).val
  let c0_i32 : BitVec 32 := 0#32
  let v22 : BitVec 1 := Scalar.cmpi .eq arg1 c0_i32
  let v_true : BitVec 1 := 1#1
  let v25 : BitVec 1 := Scalar.xori v22 v_true
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutABReferenceIdeal.lean ====
abbrev S16384x2048 : Shape := ⟨2, ![16384, 2048]⟩
abbrev S8x4096x512 : Shape := ⟨3, ![8, 4096, 512]⟩
abbrev S16384x4096 : Shape := ⟨2, ![16384, 4096]⟩
abbrev S4096x8x512 : Shape := ⟨3, ![4096, 8, 512]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8x4096x512, .bf16⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S4096x8x512, .bf16⟩
  | .hbm, ⟨7, _⟩ => ⟨S4096x4096, .bf16⟩
  | .hbm, ⟨8, _⟩ => ⟨S4096x4096, .f32⟩
  | .hbm, ⟨9, _⟩ => ⟨S16384x4096, .f32⟩
  | .hbm, ⟨10, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Softmax.lean ====
/- Softmax rows over the extended reals: a row of scores with one sink, of which all but a window of 256 neighbouring keys are minus
   infinity. The kernel sums over the window and divides once; the reference sums over every key and divides each weight. -/
module

public import Idealize.ShloMosaic.Lib.Pointwise

@[expose] public section

namespace Cert.Softmax

open Idealize.ShloMosaic

/-- The pattern of minus infinity reads as the bottom of the extended reals. -/
theorem ofBits_neg_inf : Ideal.ofBits .f32 0xFF800000#32 = ⊥ := by
  simp [Ideal.ofBits, Ideal.ieee]

/-- A sum over all keys equals the sum over the window when the keys outside count nothing and the places before the first key count nothing. -/
theorem sum_window {n : ℕ} (b : ℕ) (hb : b + 128 ≤ n) (f : Fin n → EReal) (g : Fin 256 → EReal)
    (hin : ∀ (c : Fin 256) (h : 128 ≤ b + c.val), g c = f ⟨b + c.val - 128, by omega⟩)
    (hlow : ∀ c : Fin 256, b + c.val < 128 → g c = 0)
    (hout : ∀ k : Fin n, (k.val + 128 < b ∨ b + 128 ≤ k.val) → f k = 0) : ∑ k, f k = ∑ c, g c := by
  have hge : ∀ c : Fin 256, g c ≠ 0 → 128 ≤ b + c.val := fun c hc => by
    by_contra h
    exact hc (hlow c (by omega))
  symm
  refine Finset.sum_bij_ne_zero (fun c _ hc => ⟨b + c.val - 128, by omega⟩) (fun _ _ _ => Finset.mem_univ _) ?_ ?_ ?_
  · intro c _ hc c' _ hc' h
    have h1 := hge c hc
    have h2 := hge c' hc'
    have h3 := congrArg Fin.val h
    dsimp only at h3
    exact Fin.ext (by omega)
  · intro k _ hk
    have hk' : ¬(k.val + 128 < b ∨ b + 128 ≤ k.val) := fun h => hk (hout k h)
    have hc : g ⟨k.val + 128 - b, by omega⟩ = f k := by
      rw [hin _ (by dsimp only; omega)]
      exact congrArg f (Fin.ext (by dsimp only; omega))
    exact ⟨⟨k.val + 128 - b, by omega⟩, Finset.mem_univ _, by rw [hc]; exact hk, Fin.ext (by dsimp only; omega)⟩
  · intro c _ hc
    exact hin c (hge c hc)

/-- The largest score of all keys is the largest score of the window. -/
theorem sup_window {n : ℕ} (b : ℕ) (hb : b + 128 ≤ n) (f : Fin n → EReal) (g : Fin 256 → EReal)
    (hin : ∀ (c : Fin 256) (h : 128 ≤ b + c.val), g c = f ⟨b + c.val - 128, by omega⟩)
    (hlow : ∀ c : Fin 256, b + c.val < 128 → g c = ⊥)
    (hout : ∀ k : Fin n, (k.val + 128 < b ∨ b + 128 ≤ k.val) → f k = ⊥) : Finset.univ.sup f = Finset.univ.sup g := by
  refine le_antisymm (Finset.sup_le fun k _ => ?_) (Finset.sup_le fun c _ => ?_)
  · by_cases h : k.val + 128 < b ∨ b + 128 ≤ k.val
    · rw [hout k h]; exact bot_le
    · have hc : f k = g ⟨k.val + 128 - b, by omega⟩ := by
        rw [hin _ (by dsimp only; omega)]
        exact congrArg f (Fin.ext (by dsimp only; omega))
      rw [hc]; exact Finset.le_sup (f := g) (Finset.mem_univ _)
  · by_cases h : 128 ≤ b + c.val
    · rw [hin c h]; exact Finset.le_sup (f := f) (Finset.mem_univ _)
    · rw [hlow c (by omega)]; exact bot_le

/-- A value that is a real number at least zero. -/
def NonnegReal (z : EReal) : Prop := ∃ r : ℝ, 0 ≤ r ∧ z = (r : EReal)

theorem NonnegReal.add {x y : EReal} : NonnegReal x → NonnegReal y → NonnegReal (x + y)
  | ⟨a, ha, h⟩, ⟨b, hb, h'⟩ => ⟨a + b, add_nonneg ha hb, by rw [h, h', EReal.coe_add]⟩

theorem NonnegReal.sum {ι : Type*} (s : Finset ι) (f : ι → EReal) (h : ∀ k ∈ s, NonnegReal (f k)) : NonnegReal (∑ k ∈ s, f k) :=
  Finset.sum_induction f NonnegReal (fun _ _ => NonnegReal.add) ⟨0, le_refl _, by simp⟩ h

/-- The exponential of a score below plus infinity, less a real number, is a real number at least zero. -/
theorem exp_nonnegReal (x : EReal) (hx : x ≠ ⊤) (M : ℝ) : NonnegReal (Ideal.exp (x - (M : EReal))) := by
  induction x with
  | bot => exact ⟨0, le_refl _, by simp⟩
  | top => exact absurd rfl hx
  | coe r => exact ⟨Real.exp (r - M), (Real.exp_pos _).le, by rw [← EReal.coe_sub, Ideal.exp_coe]⟩

/-- A factor that is a real number at least zero goes into a sum. -/
theorem sum_mul_coe {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- THE ROW. `l` the scores of every key, `sk` the sink, `s` the scores of the window at row offset `b`: the window's softmax with one
    division at the end is the whole row's softmax with each weight divided. -/
theorem row {n : ℕ} (b : ℕ) (hb : b + 128 ≤ n) (l V : Fin n → EReal) (s v : Fin 256 → EReal) (sk : EReal)
    (hs : ∀ (c : Fin 256) (h : 128 ≤ b + c.val), s c = l ⟨b + c.val - 128, by omega⟩)
    (hv : ∀ (c : Fin 256) (h : 128 ≤ b + c.val), v c = V ⟨b + c.val - 128, by omega⟩)
    (hlow : ∀ c : Fin 256, b + c.val < 128 → s c = ⊥)
    (hout : ∀ k : Fin n, (k.val + 128 < b ∨ b + 128 ≤ k.val) → l k = ⊥)
    (hfin : ∀ k, l k ≠ ⊤) (hsk : sk ≠ ⊤) (hsk' : sk ≠ ⊥) :
    Ideal.div (∑ c, Ideal.exp (s c - max (Finset.univ.sup s) sk) * v c)
        (∑ c, Ideal.exp (s c - max (Finset.univ.sup s) sk) + Ideal.exp (sk - max (Finset.univ.sup s) sk))
      = ∑ k, Ideal.div (Ideal.exp (l k - max (Finset.univ.sup l) sk))
          (∑ k', Ideal.exp (l k' - max (Finset.univ.sup l) sk) + Ideal.exp (sk - max (Finset.univ.sup l) sk)) * V k := by
  rw [← sup_window b hb l s hs hlow hout]
  have hM : ∃ M : ℝ, max (Finset.univ.sup l) sk = (M : EReal) := by
    have h1 : max (Finset.univ.sup l) sk ≠ ⊤ := by
      refine (max_lt ?_ (lt_top_iff_ne_top.2 hsk)).ne
      exact (Finset.sup_lt_iff (by exact bot_lt_top)).2 fun k _ => lt_top_iff_ne_top.2 (hfin k)
    have h2 : max (Finset.univ.sup l) sk ≠ ⊥ := fun h =>
      hsk' (le_bot_iff.1 (h ▸ le_max_right (Finset.univ.sup l) sk))
    exact ⟨_, (EReal.coe_toReal h1 h2).symm⟩
  obtain ⟨M, hM⟩ := hM
  rw [hM]
  have hbot : Ideal.exp (⊥ - (M : EReal)) = 0 := by simp
  have hsum : ∑ c, Ideal.exp (s c - (M : EReal)) = ∑ k, Ideal.exp (l k - (M : EReal)) :=
    (sum_window b hb _ _ (fun c h => by rw [hs c h]) (fun c h => by rw [hlow c h, hbot])
      (fun k h => by rw [hout k h, hbot])).symm
  have hnum : ∑ c, Ideal.exp (s c - (M : EReal)) * v c = ∑ k, Ideal.exp (l k - (M : EReal)) * V k :=
    (sum_window b hb _ _ (fun c h => by rw [hs c h, hv c h]) (fun c h => by rw [hlow c h, hbot, zero_mul])
      (fun k h => by rw [hout k h, hbot, zero_mul])).symm
  rw [hsum, hnum]
  obtain ⟨a, ha, hA⟩ := NonnegReal.sum Finset.univ (fun k => Ideal.exp (l k - (M : EReal))) fun k _ => exp_nonnegReal _ (hfin k) M
  have hsr : sk = ((sk.toReal : ℝ) : EReal) := (EReal.coe_toReal hsk hsk').symm
  have hB : Ideal.exp (sk - (M : EReal)) = ((Real.exp (sk.toReal - M) : ℝ) : EReal) := by
    conv_lhs => rw [hsr]
    rw [← EReal.coe_sub, Ideal.exp_coe]
  have hL : 0 < a + Real.exp (sk.toReal - M) := add_pos_of_nonneg_of_pos ha (Real.exp_pos _)
  rw [hA, hB, ← EReal.coe_add, Ideal.div_coe hL.ne', sum_mul_coe _ _ _ (one_div_nonneg.2 hL.le)]
  refine Finset.sum_congr rfl fun k _ => ?_
  rw [Ideal.div_coe hL.ne', mul_right_comm]

end Cert.Softmax

end
-- ==== Proof.Band.lean ====
/- The band of mixer A, over the extended reals: a query sees the keys of its own chunk of 64 and of the two chunks before. Also the
   integer facts by which both programs decide it. -/
module

public import proofs.«01_k».proof.Proof.Softmax
public import Idealize.ShloMosaic.Lib.WordCmp

@[expose] public section

noncomputable section

namespace Cert.Band

open Idealize.ShloMosaic Idealize.ShloMosaic.WordCmp

/-- The positions whose chunk a query at `t` sees. -/
abbrev Sees (t k : ℕ) : Prop := k / 64 ≤ t / 64 ∧ t / 64 < k / 64 + 3

/-- The score of key `k` for the query at `t` of head `h`: the product of the query's and the key's rows, minus infinity outside the
    band. Columns 0 to 2047 of `P` hold the queries, 2048 to 2559 the keys, 2560 to 3071 the values. -/
def score (P : (⟨2, ![16384, 9216]⟩ : Shape).Idx → EReal) (h : Fin 16) (t k : Fin 16384) : EReal :=
  if Sees t.val k.val then
    ∑ x : Fin 128, P (ix2 t (⟨h.val * 128 + x.val, by omega⟩ : Fin 9216)) * P (ix2 k (⟨2048 + h.val / 4 * 128 + x.val, by omega⟩ : Fin 9216))
  else ⊥

/-- The largest score of a row, the sink's with it. -/
def top (P : (⟨2, ![16384, 9216]⟩ : Shape).Idx → EReal) (S : (⟨1, ![16]⟩ : Shape).Idx → EReal) (h : Fin 16) (t : Fin 16384) : EReal :=
  max (Finset.univ.sup (score P h t)) (S (ix1 h))

/-- The attention with the sink: softmax over all keys and the sink, then the values' weighted sum. -/
def attn (P : (⟨2, ![16384, 9216]⟩ : Shape).Idx → EReal) (S : (⟨1, ![16]⟩ : Shape).Idx → EReal) (h : Fin 16) (t : Fin 16384)
    (d : Fin 128) : EReal :=
  ∑ k : Fin 16384, Ideal.div (Ideal.exp (score P h t k - top P S h t))
      (∑ k' : Fin 16384, Ideal.exp (score P h t k' - top P S h t) + Ideal.exp (S (ix1 h) - top P S h t))
    * P (ix2 k (⟨2560 + h.val / 4 * 128 + d.val, by omega⟩ : Fin 9216))

/-- A score of real numbers is never plus infinity. -/
theorem score_ne_top (P : (⟨2, ![16384, 9216]⟩ : Shape).Idx → EReal) (hP : ∀ i, P i ≠ ⊤ ∧ P i ≠ ⊥) (h : Fin 16) (t k : Fin 16384) :
    score P h t k ≠ ⊤ := by
  unfold score
  split
  · obtain ⟨r, hr⟩ := Finset.sum_induction (s := Finset.univ)
      (fun x : Fin 128 => P (ix2 t (⟨h.val * 128 + x.val, by omega⟩ : Fin 9216)) * P (ix2 k (⟨2048 + h.val / 4 * 128 + x.val, by omega⟩ : Fin 9216)))
      (fun z => ∃ r : ℝ, z = (r : EReal)) (fun _ _ ⟨a, ha⟩ ⟨b, hb⟩ => ⟨a + b, by rw [ha, hb, EReal.coe_add]⟩) ⟨0, rfl⟩
      (fun x _ => ⟨_, by rw [← EReal.coe_toReal (hP _).1 (hP _).2, ← EReal.coe_toReal (hP (ix2 k _)).1 (hP (ix2 k _)).2, ← EReal.coe_mul]⟩)
    rw [hr]
    exact EReal.coe_ne_top r
  · exact bot_ne_top

/-! ## The integers -/

/-- A difference of two words, read as integers, when neither is large. -/
theorem toInt_subi {x y : BitVec 32} {p q : ℤ} (hx : x.toInt = p) (hy : y.toInt = q) (hp : -1000000 < p ∧ p < 1000000)
    (hq : -1000000 < q ∧ q < 1000000) : (IntOp.subi x y).toInt = p - q := by
  show (x - y).toInt = _
  rw [BitVec.toInt_sub, hx, hy, Int.bmod_def]
  omega

theorem toInt_ofNat {n : ℕ} (h : n < 1000000) : (BitVec.ofNat 32 n).toInt = n := by
  rw [BitVec.toInt_ofNat', Int.bmod_def]
  omega

/-- The band's two comparisons over chunk numbers. -/
theorem band_word {a b : ℕ} (ha : a < 1000) (hb : b < 1000) :
    IntOp.andi (IntOp.cmpi .sle (BitVec.ofNat 32 a) (BitVec.ofNat 32 b))
      (IntOp.cmpi .sgt (BitVec.ofNat 32 a) (IntOp.subi (BitVec.ofNat 32 b) 3#32)) = BitVec.ofBool (decide (a ≤ b ∧ b < a + 3)) := by
  rw [cmpi_sle_eq, cmpi_sgt_eq, toInt_subi (toInt_ofNat (by omega)) (toInt_ofNat (n := 3) (by omega)) (by omega) (by omega),
    toInt_ofNat (by omega), toInt_ofNat (by omega), andi_ofBool, ← Bool.decide_and]
  congr 1
  exact decide_eq_decide.mpr (by omega)

/-- The chunk number of a small position, by a shift. -/
theorem shift_word : ∀ n : Fin 512, IntOp.shrsi .vector (BitVec.ofNat 32 n.val) 6#32 = BitVec.ofNat 32 (n.val / 64) := by
  decide +kernel

/-- The first-key test of a tile: whether window place `c` holds a key at all. -/
theorem first_word {i o c : ℕ} (hi : i < 8) (ho : o < 2048) (hc : c < 256) :
    IntOp.cmpi .sge (BitVec.ofNat 32 c)
      (Scalar.subi (Scalar.subi 128#32 (Scalar.muli (BitVec.ofNat 32 i) 2048#32)) (BitVec.ofNat 32 o))
      = BitVec.ofBool (decide (128 ≤ i * 2048 + o + c)) := by
  have hm : (Scalar.muli (BitVec.ofNat 32 i) 2048#32).toInt = (i * 2048 : ℕ) := by
    rw [show Scalar.muli (BitVec.ofNat 32 i) 2048#32 = BitVec.ofNat 32 (i * 2048) from (BitVec.ofNat_mul ..).symm]
    exact toInt_ofNat (by omega)
  rw [cmpi_sge_eq]
  have h1 : (Scalar.subi 128#32 (Scalar.muli (BitVec.ofNat 32 i) 2048#32)).toInt = 128 - ((i * 2048 : ℕ) : ℤ) :=
    toInt_subi (toInt_ofNat (n := 128) (by omega)) hm (by omega) (by omega)
  have h2 : (Scalar.subi (Scalar.subi 128#32 (Scalar.muli (BitVec.ofNat 32 i) 2048#32)) (BitVec.ofNat 32 o)).toInt
      = 128 - ((i * 2048 : ℕ) : ℤ) - (o : ℤ) :=
    toInt_subi h1 (toInt_ofNat (by omega)) (by omega) (by omega)
  rw [h2, toInt_ofNat (by omega)]
  congr 1
  exact decide_eq_decide.mpr (by omega)

/-- A choice on a decided bit is an `if`. -/
theorem select_ofBool {α : Type} (p : Prop) [Decidable p] (a b : α) : Scalar.select (BitVec.ofBool (decide p)) a b = if p then a else b := by
  by_cases h : p <;> simp [Scalar.select, h]

end Cert.Band

end
-- ==== Proof.Tile.lean ====
/- The kernel's side of the banded attention: every tile the body stores is the attention of its queries, and the blocks tile the
   result array. -/
module

public import proofs.«01_k».proof.Proof.Band
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Tile

open Cert.KernelIdeal Cert.KernelIdeal.Gen Idealize.ShloMosaic Idealize.ShloMosaic.TcCoe Idealize.SL.Sem
open Idealize.ShloMosaic.Pipeline (Dat)

/-! ## One tile -/

/-- The scores of the tile at row offset `o`: queries against the window's keys, masked by the band and by the first key. -/
def scores (i : grid0.Coords) (o : ℕ) (hs : S2176x128.Slices ![o, 0] S256x128) (kh : Vec Ideal S128x128 .bf16)
    (km : Vec Ideal S2048x128 .bf16) (q : Vec Ideal S128x128 .bf16) : FVec Ideal S128x256 .f32 :=
  select (cmpi .sge (iota .tc S128x256 32 [1] iota_S128x256_d1_w32)
      (broadcast S128x256 (Scalar.subi (Scalar.subi 128#32 (Scalar.muli (BitVec.ofNat 32 (i 1).val) 2048#32)) (BitVec.ofNat 32 o))))
    (addf (matmul (φ₁ := .bf16) (φ₂ := .bf16) dot_S128x128_S256x128_S128x256_1_1_0_0_n_n none q
        (extractStridedSlice S256x128 ![o, 0] (k0_pay2 kh km) hs) (constant S128x256 .f32 0x00000000#32)) (k0_pay4 (F := Ideal)))
    (broadcast S128x256 (Named.named κ "mask" 0xF149F2CA#32))

/-- The tile: the softmax with the sink over its scores, times the window's values. -/
def tile (i : grid0.Coords) (o : ℕ) (hs : S2176x128.Slices ![o, 0] S256x128) (kh vh : Vec Ideal S128x128 .bf16)
    (km vm : Vec Ideal S2048x128 .bf16) (sk : EReal) (q : Vec Ideal S128x128 .bf16) : FVec Ideal S128x128 .bf16 :=
  k0_pay1 (extractStridedSlice S256x128 ![o, 0] (k0_pay3 vh vm) hs) (scores i o hs kh km q)
    (shapeCast S128x1 (multiReduction .maximumf [1] S128 (scores i o hs kh km q) 0xFF800000#32 reduces_S128x256_S128 (.inl rfl) rfl)
      shapeCasts_S128_S128x1) sk

/-- A tile's softmax read at a place. -/
theorem pay1_apply (vw : FVec Ideal S256x128 .bf16) (s : FVec Ideal S128x256 .f32) (sk : EReal) (r d : Fin 128) :
    k0_pay1 (F := Ideal) vw s (shapeCast S128x1 (multiReduction .maximumf [1] S128 s 0xFF800000#32 reduces_S128x256_S128 (.inl rfl) rfl)
      shapeCasts_S128_S128x1) sk (ix2 r d : S128x128.Idx)
    = Ideal.div (∑ c : Fin 256, Ideal.exp (s (ix2 r c) - max (Finset.univ.sup fun c : Fin 256 => s (ix2 r c)) sk) * vw (ix2 c d))
        (∑ c : Fin 256, Ideal.exp (s (ix2 r c) - max (Finset.univ.sup fun c : Fin 256 => s (ix2 r c)) sk)
          + Ideal.exp (sk - max (Finset.univ.sup fun c : Fin 256 => s (ix2 r c)) sk)) := by
  pointwise [k0_pay1]
  rw [Softmax.ofBits_neg_inf]
  rfl

/-- A score of a tile read at a place. -/
theorem scores_apply (i : grid0.Coords) (o : ℕ) (ho : o ≤ 1920) (hs : S2176x128.Slices ![o, 0] S256x128) (kh : Vec Ideal S128x128 .bf16)
    (km : Vec Ideal S2048x128 .bf16) (q : Vec Ideal S128x128 .bf16) (r : Fin 128) (c : Fin 256) :
    scores i o hs kh km q (ix2 r c : S128x256.Idx)
    = if 128 ≤ (i 1).val * 2048 + o + c.val ∧ Band.Sees (r.val + 128) c.val then
        ∑ x : Fin 128, (show EReal from q (ix2 r x)) * (if h : o + c.val < 128 then (show EReal from kh (ix2 ⟨o + c.val, h⟩ x))
          else (show EReal from km (ix2 ⟨o + c.val - 128, by omega⟩ x)))
      else ⊥ := by
  have hi : (i 1).val < 8 := (i 1).isLt
  have hr : IntOp.addi (BitVec.ofNat 32 r.val) 128#32 = BitVec.ofNat 32 (r.val + 128) := (BitVec.ofNat_add ..).symm
  pointwise [scores, k0_pay4, k0_pay2]
  rw [Band.first_word hi (by omega) c.isLt, hr, Band.shift_word ⟨c.val, by omega⟩, Band.shift_word ⟨r.val + 128, by omega⟩,
    Band.band_word (by dsimp only; omega) (by dsimp only; omega), Band.select_ofBool, Band.select_ofBool,
    IdealRules.named_const.ideal_named_scalar _ _ _ _ rfl]
  by_cases h1 : 128 ≤ (i 1).val * 2048 + o + c.val
  · by_cases h2 : Band.Sees (r.val + 128) c.val
    · rw [if_pos h1, if_pos h2, if_pos ⟨h1, h2⟩, add_zero]
    · rw [if_pos h1, if_neg h2, if_neg fun h => h2 h.2, EReal.add_bot]
  · rw [if_neg h1, if_neg fun h => h1 h.1]

/-- A value row of a tile's window read at a place. -/
theorem window_apply (o : ℕ) (ho : o ≤ 1920) (hs : S2176x128.Slices ![o, 0] S256x128) (vh : Vec Ideal S128x128 .bf16)
    (vm : Vec Ideal S2048x128 .bf16) (c : Fin 256) (d : Fin 128) :
    extractStridedSlice S256x128 ![o, 0] (k0_pay3 vh vm) hs (ix2 c d : S256x128.Idx)
    = if h : o + c.val < 128 then vh (ix2 ⟨o + c.val, h⟩ d) else vm (ix2 ⟨o + c.val - 128, by omega⟩ d) := by
  pointwise [k0_pay3]

/-! ## The blocks -/

variable (m : (ℓ : Loc nD τ sig) → Buf (Elt Ideal) ℓ)

/-- The projections and the sinks as launched. -/
abbrev P (c : Dev nD) : FVec Ideal S16384x9216 .bf16 := m ((c : Thread nD τ).loc main_arg0)
abbrev S (c : Dev nD) : FVec Ideal S16 .f32 := m ((c : Thread nD τ).loc main_arg1)

/-- Where each window's block lies, at every point. -/
theorem idx : ∀ t : Fin cfg0.N, win0_0.index t = ![(grid0.coords t 1).val, (grid0.coords t 0).val]
    ∧ win0_1.index t = ![(grid0.coords t 1).val, 16 + (grid0.coords t 0).val]
    ∧ win0_2.index t = ![(grid0.coords t 1).val * 16 - 1, 16 + (grid0.coords t 0).val]
    ∧ win0_3.index t = ![(grid0.coords t 1).val, 20 + (grid0.coords t 0).val]
    ∧ win0_4.index t = ![(grid0.coords t 1).val * 16 - 1, 20 + (grid0.coords t 0).val]
    ∧ win0_5.index t = ![0]
    ∧ win0_6.index t = ![(grid0.coords t 1).val, (grid0.coords t 0).val] :=
  (by decide +kernel : ∀ t : Fin grid0.N, _)

theorem lt0 (t : Fin cfg0.N) : (grid0.coords t 0).val < 4 := (grid0.coords t 0).isLt
theorem lt1 (t : Fin cfg0.N) : (grid0.coords t 1).val < 8 := (grid0.coords t 1).isLt

theorem iblk0 (c : Dev nD) (t : Fin cfg0.N) (a : Fin 2048) (x : Fin 512) : iblk m c 0 t (ix2 a x)
    = P m c (ix2 (⟨(grid0.coords t 1).val * 2048 + a.val, by have := lt1 t; omega⟩ : Fin 16384)
        (⟨(grid0.coords t 0).val * 512 + x.val, by have := lt0 t; omega⟩ : Fin 9216)) := by
  blk_ext [iblk, V, idx t]
theorem iblk1 (c : Dev nD) (t : Fin cfg0.N) (a : Fin 2048) (x : Fin 128) : iblk m c 1 t (ix2 a x)
    = P m c (ix2 (⟨(grid0.coords t 1).val * 2048 + a.val, by have := lt1 t; omega⟩ : Fin 16384)
        (⟨2048 + (grid0.coords t 0).val * 128 + x.val, by have := lt0 t; omega⟩ : Fin 9216)) := by
  blk_ext [iblk, V, idx t]
theorem iblk2 (c : Dev nD) (t : Fin cfg0.N) (a : Fin 128) (x : Fin 128) : iblk m c 2 t (ix2 a x)
    = P m c (ix2 (⟨((grid0.coords t 1).val * 16 - 1) * 128 + a.val, by have := lt1 t; omega⟩ : Fin 16384)
        (⟨2048 + (grid0.coords t 0).val * 128 + x.val, by have := lt0 t; omega⟩ : Fin 9216)) := by
  blk_ext [iblk, V, idx t]
theorem iblk3 (c : Dev nD) (t : Fin cfg0.N) (a : Fin 2048) (x : Fin 128) : iblk m c 3 t (ix2 a x)
    = P m c (ix2 (⟨(grid0.coords t 1).val * 2048 + a.val, by have := lt1 t; omega⟩ : Fin 16384)
        (⟨2560 + (grid0.coords t 0).val * 128 + x.val, by have := lt0 t; omega⟩ : Fin 9216)) := by
  blk_ext [iblk, V, idx t]
theorem iblk4 (c : Dev nD) (t : Fin cfg0.N) (a : Fin 128) (x : Fin 128) : iblk m c 4 t (ix2 a x)
    = P m c (ix2 (⟨((grid0.coords t 1).val * 16 - 1) * 128 + a.val, by have := lt1 t; omega⟩ : Fin 16384)
        (⟨2560 + (grid0.coords t 0).val * 128 + x.val, by have := lt0 t; omega⟩ : Fin 9216)) := by
  blk_ext [iblk, V, idx t]
theorem iblk5 (c : Dev nD) (t : Fin cfg0.N) (a : Fin 16) : iblk m c 5 t (ix1 a) = S m c (ix1 a) := by
  blk_ext [iblk, V, idx t]

/-! ## From tiles to the array -/

/-- What the array of results holds at row `t`, column `n`: head `n / 128`, place `n % 128`. -/
def G (c : Dev nD) (i : S16384x2048.Idx) : EReal :=
  Band.attn (P m c) (S m c) (⟨(i 1).val / 128, by have : (i 1).val < 2048 := (i 1).isLt; omega⟩ : Fin 16)
    (⟨(i 0).val, (i 0).isLt⟩ : Fin 16384) (⟨(i 1).val % 128, Nat.mod_lt _ (by decide)⟩ : Fin 128)

/-- Every argument element is a real number. -/
def Finite (c : Dev nD) : Prop := (∀ i, P m c i ≠ ⊤ ∧ P m c i ≠ ⊥) ∧ ∀ i, S m c i ≠ ⊤ ∧ S m c i ≠ ⊥

/-- The projections read at equal places. -/
theorem P_congr (c : Dev nD) {a a' : Fin 16384} {b b' : Fin 9216} (h : a.val = a'.val) (h' : b.val = b'.val) :
    P m c (ix2 a b) = P m c (ix2 a' b') := by
  rw [Fin.ext h, Fin.ext h']

/-- One tile at point `t`, row offset `o`, head `g` of the group, is the attention of its queries. -/
theorem tile_apply (c : Dev nD) (hfin : Finite m c) (t : Fin cfg0.N) (o g : ℕ) (ho : o % 128 = 0) (ho' : o ≤ 1920) (hg : g < 4)
    (hs : S2176x128.Slices ![o, 0] S256x128) (q : Vec Ideal S128x128 .bf16)
    (hq : ∀ r x : Fin 128, q (ix2 r x) = iblk m c 0 t (ix2 (⟨o + r.val, by omega⟩ : Fin 2048) (⟨g * 128 + x.val, by omega⟩ : Fin 512)))
    (r d : Fin 128) :
    tile (grid0.coords t) o hs (iblk m c 2 t) (iblk m c 4 t) (iblk m c 1 t) (iblk m c 3 t)
      (S m c (ix1 (⟨(grid0.coords t 0).val * 4 + g, by have := lt0 t; omega⟩ : Fin 16))) q (ix2 r d : S128x128.Idx)
    = Band.attn (P m c) (S m c) (⟨(grid0.coords t 0).val * 4 + g, by have := lt0 t; omega⟩ : Fin 16)
        (⟨(grid0.coords t 1).val * 2048 + o + r.val, by have := lt1 t; omega⟩ : Fin 16384) d := by
  have h0 := lt0 t
  have h1 := lt1 t
  rw [tile, pay1_apply]
  refine Softmax.row ((grid0.coords t 1).val * 2048 + o) (by omega) (Band.score (P m c) _ _) _ _ _ _ ?_ ?_ ?_ ?_ ?_ ?_ ?_
  · intro w hw
    rw [scores_apply _ _ ho', Band.score]
    by_cases hv : Band.Sees (r.val + 128) w.val
    · rw [if_pos ⟨hw, hv⟩, if_pos (by unfold Band.Sees at hv ⊢; dsimp only; omega)]
      refine Finset.sum_congr rfl fun x _ => Ideal.mul_congr ?_ ?_
      · exact (hq r x).trans ((iblk0 m c t _ _).trans (P_congr m c (by dsimp only; omega) (by dsimp only; omega)))
      · by_cases hk : o + w.val < 128
        · rw [dif_pos hk]
          exact (iblk2 m c t _ _).trans (P_congr m c (by dsimp only; omega) (by dsimp only; omega))
        · rw [dif_neg hk]
          exact (iblk1 m c t _ _).trans (P_congr m c (by dsimp only; omega) (by dsimp only; omega))
    · rw [if_neg fun h => hv h.2, if_neg (by unfold Band.Sees at hv ⊢; dsimp only; omega)]
  · intro w hw
    rw [window_apply _ ho']
    by_cases hk : o + w.val < 128
    · rw [dif_pos hk]
      exact (iblk4 m c t _ _).trans (P_congr m c (by dsimp only; omega) (by dsimp only; omega))
    · rw [dif_neg hk]
      exact (iblk3 m c t _ _).trans (P_congr m c (by dsimp only; omega) (by dsimp only; omega))
  · intro w hw
    rw [scores_apply _ _ ho', if_neg (by omega)]
  · intro k hk
    rw [Band.score, if_neg (by unfold Band.Sees; dsimp only; omega)]
  · exact fun k => Band.score_ne_top _ hfin.1 _ _ k
  · exact (hfin.2 _).1
  · exact (hfin.2 _).2

/-- The word arithmetic of the sink's place. -/
theorem sink_word : ∀ i g : Fin 4,
    (Scalar.indexCast (IntOp.addi (IntOp.muli (BitVec.ofNat 32 i.val) 4#32) (BitVec.ofNat 32 g.val))).toNat = i.val * 4 + g.val := by
  decide

/-- The sink the body reads for head `g` of the group. -/
theorem sink_apply (c : Dev nD) (t : Fin cfg0.N) (g : ℕ) (hg : g < 4)
    (hb : ∀ a, (k0_off1 (grid0.coords t) (BitVec.ofNat 32 g)) a + (![1] : Fin 1 → ℕ) a ≤ S16.size a) (hn) :
    View.ld (iblk m c 5 t) (Rect.unit (k0_off1 (grid0.coords t) (BitVec.ofNat 32 g)) ![1] hb) (Shape.Idx.first hn)
    = S m c (ix1 (⟨(grid0.coords t 0).val * 4 + g, by have := lt0 t; omega⟩ : Fin 16)) := by
  have h0 := lt0 t
  refine (View.ld_unit_apply_of _ _ _ _ _ (ix1 ⟨(grid0.coords t 0).val * 4 + g, by omega⟩) fun a => ?_).trans (iblk5 m c t _)
  obtain rfl : a = 0 := Subsingleton.elim _ _
  exact (sink_word ⟨_, h0⟩ ⟨g, hg⟩).symm

theorem slices_of (o : ℕ) (h : o ≤ 1920) : S2176x128.Slices ![o, 0] S256x128 := by
  refine ⟨rfl, fun a => ?_⟩
  match a with
  | 0 => show o + 256 ≤ 2176; omega
  | 1 => exact le_rfl

theorem attn_congr (c : Dev nD) {h h' : Fin 16} {r r' : Fin 16384} {d d' : Fin 128} (e : h.val = h'.val) (e' : r.val = r'.val)
    (e'' : d.val = d'.val) : Band.attn (P m c) (S m c) h r d = Band.attn (P m c) (S m c) h' r' d' := by
  rw [Fin.ext e, Fin.ext e', Fin.ext e'']

/-- What the body leaves at point `t`, read at a place of the block. -/
theorem point (c : Dev nD) (hfin : Finite m c) (t : Fin cfg0.N) (y : S2048x512.Idx) :
    outsAt0 m c t y = Band.attn (P m c) (S m c)
      (⟨(grid0.coords t 0).val * 4 + (y 1).val / 128, by have := lt0 t; have : (y 1).val < 512 := (y 1).isLt; omega⟩ : Fin 16)
      (⟨(grid0.coords t 1).val * 2048 + (y 0).val, by have := lt1 t; have : (y 0).val < 2048 := (y 0).isLt; omega⟩ : Fin 16384)
      (⟨(y 1).val % 128, Nat.mod_lt _ (by decide)⟩ : Fin 128) := by
  generalize hG : Band.attn (P m c) (S m c) _ _ _ = v
  have core : ∀ (o p : ℕ) (x : S128x128.Idx) (_ : (y 0).val = o + (x 0).val) (_ : (y 1).val = p + (x 1).val)
      (hs : S2176x128.Slices ![o, 0] S256x128)
      (hb : ∀ a, (![o, p] : Fin 2 → ℕ) a + S128x128.size a ≤ S2048x512.size a)
      (hb' : ∀ a, (k0_off1 (grid0.coords t) (BitVec.ofNat 32 (p / 128))) a + (![1] : Fin 1 → ℕ) a ≤ S16.size a)
      (hn), o % 128 = 0 → o ≤ 1920 → p < 512 → p % 128 = 0 →
      tile (grid0.coords t) o hs (iblk m c 2 t) (iblk m c 4 t) (iblk m c 1 t) (iblk m c 3 t)
        (View.ld (iblk m c 5 t) (Rect.unit (k0_off1 (grid0.coords t) (BitVec.ofNat 32 (p / 128))) ![1] hb') (Shape.Idx.first hn))
        (View.ld (iblk m c 0 t) (Rect.unit ![o, p] ![128, 128] hb)) x = v := by
    intro o p x hy0 hy1 hs hb hb' hn ho ho' hp hp'
    idx_vars x
    have hx0 : x0.val < 128 := x0.isLt
    have hx1 : x1.val < 128 := x1.isLt
    rw [sink_apply m c t (p / 128) (by omega)]
    have e : p = p / 128 * 128 := by omega
    refine (tile_apply m c hfin t o (p / 128) ho ho' (by omega) hs _ (fun r x => View.ld_unit_apply_of _ _ _ _ _ _ fun a => ?_) _ _).trans ?_
    · match a with
      | 0 => rfl
      | 1 => exact congrArg (· + x.val) e.symm
    · rw [← hG]
      exact attn_congr m c (by dsimp only; omega) (by dsimp only; omega) (by dsimp only; omega)
  unfold outsAt0
  frame_out
  canon_tiles x h
  all_goals
    first
    | have k := core _ _ x h0 h1 (slices_of _ (by decide))
      exact k _ _ _ (by decide) (by decide) (by decide) (by decide)
    | have k := core _ 0 x h0 (h1.trans (Nat.zero_add _).symm) (slices_of _ (by decide))
      exact k _ _ _ (by decide) (by decide) (by decide) (by decide)
    | have k := core 0 _ x (h0.trans (Nat.zero_add _).symm) h1 (slices_of _ (by decide))
      exact k _ _ _ (by decide) (by decide) (by decide) (by decide)
    | have k := core 0 0 x (h0.trans (Nat.zero_add _).symm) (h1.trans (Nat.zero_add _).symm) (slices_of _ (by decide))
      exact k _ _ _ (by decide) (by decide) (by decide) (by decide)

/-- The array of results after the last point. -/
theorem final (c : Dev nD) (hfin : Finite m c) : (dats m 0 c).arrAt 6 cfg0.N = G m c := by
  refine (dats m 0 c).arrAt_eq_of_covers 6 _ (by decide +kernel) fun t hf y => ?_
  blk_simp
  rw [after0_6, point m c hfin]
  have e : (win0_6.blk t).view.emb y = (ix2
      (⟨(grid0.coords t 1).val * 2048 + (y 0).val, by have := lt1 t; have : (y 0).val < 2048 := (y 0).isLt; omega⟩ : Fin 16384)
      (⟨(grid0.coords t 0).val * 512 + (y 1).val, by have := lt0 t; have : (y 1).val < 512 := (y 1).isLt; omega⟩ : Fin 2048) : S16384x2048.Idx) := by
    blk_ext [idx t]
  rw [e]
  refine attn_congr m c ?_ rfl ?_
  · show _ = ((grid0.coords t 0).val * 512 + (y 1).val) / 128
    dsimp only
    omega
  · show _ = ((grid0.coords t 0).val * 512 + (y 1).val) % 128
    dsimp only
    omega

end Cert.KernelIdeal.Tile

end
-- ==== Proof.RefValue.lean ====
/- The reference's array of results, read at a place: it is the attention of Band. -/
module

public import proofs.«01_k».proof.Proof.Gen.ReferenceIdeal.Read
public import proofs.«01_k».proof.Proof.Band
public import Idealize.ShloMosaic.Lib.Pointwise

@[expose] public section

noncomputable section

namespace Cert.ReferenceIdeal.Band

open Idealize.ShloMosaic Cert.ReferenceIdeal Cert.ReferenceIdeal.Read

variable (P : FVec Ideal S16384x9216 .bf16) (S : FVec Ideal S16 .f32)

theorem P_congr {a a' : Fin 16384} {b b' : Fin 9216} (h : a.val = a'.val) (h' : b.val = b'.val) :
    P (ix2 a b) = P (ix2 a' b') := by
  rw [Fin.ext h, Fin.ext h']

theorem query (t : Fin 16384) (h g : Fin 4) (x : Fin 128) : val_main_v2 (F := Ideal) P (ix4 t h g x : S16384x4x4x128.Idx)
    = P (ix2 t (⟨(h.val * 4 + g.val) * 128 + x.val, by omega⟩ : Fin 9216)) := by
  pointwise [val_main_v2, val_main_v1, val_main_v0]
  refine P_congr P ?_ ?_ <;> dsimp only <;> omega

theorem key (t : Fin 16384) (h : Fin 4) (x : Fin 128) : val_main_v4 (F := Ideal) P (ix3 t h x : S16384x4x128.Idx)
    = P (ix2 t (⟨2048 + h.val * 128 + x.val, by omega⟩ : Fin 9216)) := by
  pointwise [val_main_v4, val_main_v3, val_main_v0]
  refine P_congr P ?_ ?_ <;> dsimp only <;> omega

theorem value (t : Fin 16384) (h : Fin 4) (x : Fin 128) : val_main_v6 (F := Ideal) P (ix3 t h x : S16384x4x128.Idx)
    = P (ix2 t (⟨2560 + h.val * 128 + x.val, by omega⟩ : Fin 9216)) := by
  pointwise [val_main_v6, val_main_v5, val_main_v0]
  refine P_congr P ?_ ?_ <;> dsimp only <;> omega

theorem chunk (t : Fin 16384) : val_main_v10 (F := Ideal) (ix1 t : S16384.Idx) = BitVec.ofNat 32 (t.val / 64) := by
  pointwise [val_main_v10, val_main_v9]

theorem logit (h g : Fin 4) (t k : Fin 16384) : val_main_v8 (F := Ideal) P (ix4 h g t k : S4x4x16384x16384.Idx)
    = ∑ x : Fin 128, P (ix2 t (⟨(h.val * 4 + g.val) * 128 + x.val, by omega⟩ : Fin 9216))
        * P (ix2 k (⟨2048 + h.val * 128 + x.val, by omega⟩ : Fin 9216)) := by
  rw [val_main_v8_apply, val_main_v7_apply]
  refine Finset.sum_congr rfl fun x _ => ?_
  rw [mul_comm]
  refine congrArg₂ (· * ·) ((congrArg _ ?_).trans (query P t h g x)) ((congrArg _ ?_).trans (key P k h x))
  · exact funext fun a => match a with | 0 => rfl | 1 => rfl | 2 => rfl | 3 => rfl
  · exact funext fun a => match a with | 0 => rfl | 1 => rfl | 2 => rfl

theorem mask (h g : Fin 4) (t k : Fin 16384) : val_main_call0_v1 (F := Ideal) (ix4 h g t k : S4x4x16384x16384.Idx)
    = BitVec.ofBool (decide (Cert.Band.Sees t.val k.val)) := by
  pointwise [val_main_call0_v1, val_main_v23, val_main_v22, val_main_v21, val_main_v20, val_main_v19, val_main_v18, val_main_v17, val_main_v16,
    val_main_v15, val_main_v14, val_main_v13, val_main_v12, val_main_v11, val_main_c]
  rw [chunk, chunk, Cert.Band.band_word (by omega) (by omega)]

theorem scored (h g : Fin 4) (t k : Fin 16384) : val_main_v24 (F := Ideal) P (ix4 h g t k : S4x4x16384x16384.Idx)
    = Cert.Band.score P (⟨h.val * 4 + g.val, by omega⟩ : Fin 16) t k := by
  rw [val_main_v24_apply, mask, Cert.Band.select_ofBool, logit, Cert.Band.score]
  refine if_congr Iff.rfl (Finset.sum_congr rfl fun x _ => congrArg₂ (· * ·) rfl (P_congr P rfl ?_)) ?_
  · dsimp only
    omega
  · pointwise [val_main_call0_v2, val_main_call0_v0, val_main_cst]
    exact Softmax.ofBits_neg_inf

theorem joined (h g : Fin 4) (t : Fin 16384) (j : Fin 16385) : val_main_v27 (F := Ideal) P S (ix4 h g t j : S4x4x16384x16385.Idx)
    = if hj : j.val < 16384 then Cert.Band.score P (⟨h.val * 4 + g.val, by omega⟩ : Fin 16) t (⟨j.val, hj⟩ : Fin 16384)
      else S (ix1 (⟨h.val * 4 + g.val, by omega⟩ : Fin 16)) := by
  pointwise [val_main_v27, val_main_v26, val_main_v25]
  split
  · exact scored P h g t _
  · rfl

/-- A supremum over the keys and one more place. -/
theorem sup_last (f : Fin 16384 → EReal) (z : EReal) (F : Fin 16385 → EReal)
    (hF : ∀ j : Fin 16385, F j = if hj : j.val < 16384 then f ⟨j.val, hj⟩ else z) :
    Finset.univ.sup F = max (Finset.univ.sup f) z := by
  refine le_antisymm (Finset.sup_le fun j _ => ?_) (max_le (Finset.sup_le fun k _ => ?_) ?_)
  · rw [hF]
    split
    · exact le_max_of_le_left (Finset.le_sup (f := f) (Finset.mem_univ _))
    · exact le_max_right _ _
  · refine le_trans (le_of_eq ?_) (Finset.le_sup (f := F) (Finset.mem_univ (⟨k.val, by omega⟩ : Fin 16385)))
    rw [hF, dif_pos k.isLt]
  · refine le_trans (le_of_eq ?_) (Finset.le_sup (f := F) (Finset.mem_univ (⟨16384, by omega⟩ : Fin 16385)))
    rw [hF, dif_neg (by dsimp only; omega)]

/-- A sum over the keys and one more place. -/
theorem sum_last (f : Fin 16384 → EReal) (z : EReal) (F : Fin 16385 → EReal)
    (hF : ∀ j : Fin 16385, F j = if hj : j.val < 16384 then f ⟨j.val, hj⟩ else z) : ∑ j, F j = ∑ k, f k + z := by
  rw [Fin.sum_univ_castSucc]
  refine congrArg₂ (· + ·) (Finset.sum_congr rfl fun k _ => ?_) ?_
  · rw [hF, dif_pos (show (Fin.castSucc k).val < 16384 from k.isLt)]
    rfl
  · rw [hF, dif_neg (by rw [Fin.val_last]; omega)]

/-- The largest of a row, by a fold. -/
theorem fold_max {n : ℕ} (f : Fin n → EReal) : Finset.fold max ⊥ f Finset.univ = Finset.univ.sup f := rfl

theorem row_max (h g : Fin 4) (t : Fin 16384) : val_main_v28 (F := Ideal) P S (ix3 h g t : S4x4x16384.Idx)
    = Finset.univ.sup fun j : Fin 16385 => val_main_v27 (F := Ideal) P S (ix4 h g t j : S4x4x16384x16385.Idx) := by
  pointwise [val_main_v28, val_main_cst_0]
  rw [Softmax.ofBits_neg_inf, fold_max]

theorem floor (i : S4x4x16384.Idx) : val_main_v29 (F := Ideal) i = ⊥ := by
  rw [val_main_v29_apply, val_main_cst_1_apply]
  exact Softmax.ofBits_neg_inf

theorem largest (h g : Fin 4) (t : Fin 16384) : val_main_v30 (F := Ideal) P S (ix3 h g t : S4x4x16384.Idx)
    = Cert.Band.top P S (⟨h.val * 4 + g.val, by omega⟩ : Fin 16) t := by
  rw [val_main_v30_apply, row_max, floor]
  refine (max_eq_right bot_le).trans ?_
  exact sup_last _ _ _ fun j => joined P S h g t j

theorem weight (h g : Fin 4) (t : Fin 16384) (j : Fin 16385) : val_main_v34 (F := Ideal) P S (ix4 h g t j : S4x4x16384x16385.Idx)
    = Ideal.exp ((if hj : j.val < 16384 then Cert.Band.score P (⟨h.val * 4 + g.val, by omega⟩ : Fin 16) t (⟨j.val, hj⟩ : Fin 16384)
      else S (ix1 (⟨h.val * 4 + g.val, by omega⟩ : Fin 16))) - Cert.Band.top P S (⟨h.val * 4 + g.val, by omega⟩ : Fin 16) t) := by
  rw [← joined, ← largest]
  pointwise [val_main_v34, val_main_v33, val_main_v32, val_main_v31]

theorem total (h g : Fin 4) (t : Fin 16384) : val_main_v35 (F := Ideal) P S (ix3 h g t : S4x4x16384.Idx)
    = ∑ k : Fin 16384, Ideal.exp (Cert.Band.score P (⟨h.val * 4 + g.val, by omega⟩ : Fin 16) t k
        - Cert.Band.top P S (⟨h.val * 4 + g.val, by omega⟩ : Fin 16) t)
      + Ideal.exp (S (ix1 (⟨h.val * 4 + g.val, by omega⟩ : Fin 16)) - Cert.Band.top P S (⟨h.val * 4 + g.val, by omega⟩ : Fin 16) t) := by
  pointwise [val_main_v35, val_main_cst_2]
  try rw [zero_add]
  refine sum_last _ _ _ fun j => (weight P S h g t j).trans ?_
  split <;> rfl

theorem share (h g : Fin 4) (t k : Fin 16384) : val_main_v39 (F := Ideal) P S (ix4 h g t k : S4x4x16384x16384.Idx)
    = Ideal.div (Ideal.exp (Cert.Band.score P (⟨h.val * 4 + g.val, by omega⟩ : Fin 16) t k
        - Cert.Band.top P S (⟨h.val * 4 + g.val, by omega⟩ : Fin 16) t))
      (∑ k : Fin 16384, Ideal.exp (Cert.Band.score P (⟨h.val * 4 + g.val, by omega⟩ : Fin 16) t k
          - Cert.Band.top P S (⟨h.val * 4 + g.val, by omega⟩ : Fin 16) t)
        + Ideal.exp (S (ix1 (⟨h.val * 4 + g.val, by omega⟩ : Fin 16)) - Cert.Band.top P S (⟨h.val * 4 + g.val, by omega⟩ : Fin 16) t)) := by
  rw [← total]
  have e := weight P S h g t (⟨k.val, by omega⟩ : Fin 16385)
  rw [dif_pos k.isLt] at e
  rw [← e]
  pointwise [val_main_v39, val_main_v38, val_main_v37, val_main_v36]

/-- The reference's result at row `t`, column `n`. -/
theorem result (t : Fin 16384) (n : Fin 2048) : val_main_v43 (F := Ideal) P S (ix2 t n : S16384x2048.Idx)
    = Cert.Band.attn P S (⟨n.val / 128, by omega⟩ : Fin 16) t (⟨n.val % 128, by omega⟩ : Fin 128) := by
  have hh : n.val / 512 < 4 := by omega
  have hg : n.val / 128 % 4 < 4 := by omega
  have hs : (⟨(⟨n.val / 512, hh⟩ : Fin 4).val * 4 + (⟨n.val / 128 % 4, hg⟩ : Fin 4).val, by dsimp only; omega⟩ : Fin 16)
      = ⟨n.val / 128, by omega⟩ := Fin.ext (by dsimp only; omega)
  have e : val_main_v43 (F := Ideal) P S (ix2 t n : S16384x2048.Idx)
      = val_main_v40 (F := Ideal) P S (ix4 (⟨n.val / 512, hh⟩ : Fin 4) (⟨n.val % 128, by omega⟩ : Fin 128) (⟨n.val / 128 % 4, hg⟩ : Fin 4) t
          : S4x128x4x16384.Idx) := by
    pointwise [val_main_v43, val_main_v42, val_main_v41]
  rw [e, val_main_v40_apply, Cert.Band.attn]
  refine Finset.sum_congr rfl fun k _ => ?_
  rw [mul_comm]
  refine congrArg₂ (· * ·) ?_ ?_
  · refine (congrArg _ ?_).trans ((share P S ⟨n.val / 512, hh⟩ ⟨n.val / 128 % 4, hg⟩ t k).trans ?_)
    · exact funext fun a => match a with | 0 => rfl | 1 => rfl | 2 => rfl | 3 => rfl
    · rw [hs]
  · refine (congrArg _ ?_).trans ((value P k ⟨n.val / 512, hh⟩ ⟨n.val % 128, by omega⟩).trans (P_congr P rfl ?_))
    · exact funext fun a => match a with | 0 => rfl | 1 => rfl | 2 => rfl
    · dsimp only
      omega

end Cert.ReferenceIdeal.Band

end
-- ==== Proof.Attention.lean ====
/- The claims about the attention of mixer A: its frames, and that kernel and reference leave one array. -/
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import proofs.«01_k».proof.Proof.Tile
public import proofs.«01_k».proof.Proof.RefValue

@[expose] public section

noncomputable section

namespace Cert.Proof.Attention

open Idealize.ShloMosaic Idealize.SL.Sem

theorem pre_facts : Cert.Pre_finite.Facts where
  bcast_S_S16384x9216 := by decide
  bcast_S_S16 := by decide

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

/-- An absolute value below plus infinity is of a real number. -/
theorem real_of_abs (x : EReal) (h : Ideal.cmp .olt (max x (-x)) ⊤ = 1#1) : x ≠ ⊤ ∧ x ≠ ⊥ := by
  constructor
  · rintro rfl
    simp [Ideal.cmp] at h
  · rintro rfl
    simp [Ideal.cmp] at h

/-- The precondition says that every element is a real number. -/
theorem real_of_pre [Cert.Pre_finite.Facts] (a : FVec Ideal ⟨2, ![16384, 9216]⟩ .bf16) (b : FVec Ideal ⟨1, ![16]⟩ .f32)
    (h : (Cert.Pre_finite.fn a b).1 = (fun _ => 1#1) ∧ (Cert.Pre_finite.fn a b).2 = (fun _ => 1#1)) :
    (∀ i, a i ≠ ⊤ ∧ a i ≠ ⊥) ∧ ∀ i, b i ≠ ⊤ ∧ b i ≠ ⊥ := by
  refine ⟨fun i => real_of_abs _ ?_, fun i => real_of_abs _ ?_⟩
  · rw [← inf_bf16]
    exact congrFun h.1 i
  · rw [← inf_f32]
    exact congrFun h.2 i

attribute [local instance] pre_facts

theorem algebraic : Cert.algebraic_KernelIdeal_ReferenceIdeal_pre_finite := by
  intro m ρ m' ρ' hpre hagree
  have hfin (c : Dev Cert.KernelIdeal.nD) : Cert.KernelIdeal.Tile.Finite m c := real_of_pre _ _ (hpre c)
  refine ⟨fun c => Cert.KernelIdeal.Tile.G m c, ?_, ?_⟩
  · exact (θ_run Cert.KernelIdeal.defs _ _).mono
      (fun _ h c => ⟨(h c).1.trans (Cert.KernelIdeal.Tile.final m c (hfin c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v43_eq, (hagree c).1, (hagree c).2]
    funext i
    idx_vars i
    exact Cert.ReferenceIdeal.Band.result _ _ _ _

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite := fun m ρ _ => Cert.KernelIdeal.Gen.frame m ρ
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ref_pre : Cert.quiescent_ReferenceIdeal_pre_finite := fun m ρ _ => frame_ref m ρ trivial

end Cert.Proof.Attention

end
-- ==== Proof.UpCast.lean ====
/- The cast weights: each call of the cast leaves, tile by tile, layer 3's weights times the norm's gain. -/
module

public import proofs.«01_k».proof.Proof.Gen.UpIdeal.Frame
public import Idealize.ShloMosaic.Lib.Pipeline.ValueKit
public import Idealize.ShloMosaic.Lib.Pointwise

@[expose] public section

set_option maxRecDepth 16384

noncomputable section

namespace Cert.UpIdeal.Cast

open Cert.UpIdeal Cert.UpIdeal.Gen Idealize.ShloMosaic Idealize.ShloMosaic.TcCoe Idealize.SL.Sem
open Idealize.ShloMosaic.Pipeline (Dat)

/-- One column tile of a block. -/
theorem piece (T : FVec Ideal S256x11008 .bf16) (y : S43x256x256.Idx) (o p : ℕ) (x : S1x256x256.Idx)
    (h0 : (y 0).val = p + (x 0).val) (h1 : (y 1).val = (x 1).val) (h2 : (y 2).val = (x 2).val)
    (hs : S256x11008.Slices ![0, o] S256x256) (ho : o = p * 256) (hc) :
    (shapeCast S1x256x256 (extractStridedSlice S256x256 ![0, o] T hs) hc : FVec Ideal S1x256x256 .bf16) x
    = T (ix2 (⟨(y 1).val, (y 1).isLt⟩ : Fin 256)
        (⟨(y 0).val * 256 + (y 2).val, by have : (y 0).val < 43 := (y 0).isLt; have : (y 2).val < 256 := (y 2).isLt; omega⟩ : Fin 11008)) := by
  subst ho
  idx_vars x
  have : x0.val < 1 := x0.isLt
  pointwise
  have h0' : (y 0).val = p + x0.val := h0
  have h2' : (y 2).val = x2.val := h2
  exact congrArg T (congrArg₂ ix2 (Fin.ext h1.symm) (Fin.ext (by dsimp only; omega)))

/-- The gained weights of a block, read at a place. -/
theorem gained (x0 : Vec Ideal S1x256x11008 .f32) (x1 : Vec Ideal S256x1 .f32) (a : Fin 256) (b : Fin 11008) :
    k0_pay48 (F := Ideal) x0 x1 (ix2 a b) = (show EReal from x0 (ix3 (0 : Fin 1) a b)) * (show EReal from x1 (ix2 a (0 : Fin 1))) := by
  pointwise [k0_pay48, k0_pay2]

/-- What a point leaves in its block. -/
theorem out (x0 : Vec Ideal S1x256x11008 .f32) (x1 : Vec Ideal S256x1 .f32) (y : S43x256x256.Idx) :
    out0_2 (F := Ideal) x0 x1 y = k0_pay48 (F := Ideal) x0 x1 (ix2 (⟨(y 1).val, (y 1).isLt⟩ : Fin 256)
      (⟨(y 0).val * 256 + (y 2).val, by have : (y 0).val < 43 := (y 0).isLt; have : (y 2).val < 256 := (y 2).isLt; omega⟩ : Fin 11008)) := by
  unfold out0_2
  canon_tiles x h
  case piece0 => exact piece (k0_pay48 (F := Ideal) x0 x1) y 10752 42 x h0 h1 h2 slices_S256x11008_o0_10752_S256x256 rfl _
  case piece14 => exact piece (k0_pay48 (F := Ideal) x0 x1) y 7168 28 x h0 h1 h2 slices_S256x11008_o0_7168_S256x256 rfl _
  case piece29 => exact piece (k0_pay48 (F := Ideal) x0 x1) y 3328 13 x h0 h1 h2 slices_S256x11008_o0_3328_S256x256 rfl _
  case piece42 =>
    exact piece (k0_pay48 (F := Ideal) x0 x1) y 0 0 x (h0.trans (Nat.zero_add _).symm) h1 h2 slices_S256x11008_o0_0_S256x256 rfl _
  all_goals
    have k := fun o => piece (k0_pay48 (F := Ideal) x0 x1) y o _ x h0 h1 h2
    exact k _ _ (by decide) _

variable (V : (c : Dev nD) → (b : Ref sig .tc) → Buf (Elt Ideal) ((c : Thread nD τ).loc b))

/-- Layer 3's weights, gained row by row, in column tiles. -/
def gainedTiles (W : FVec Ideal S4x4096x11008 .f32) (g : FVec Ideal S4096x1 .f32) : FVec Ideal S43x4096x256 .bf16 := fun y =>
  (show EReal from W (ix3 (3 : Fin 4) (⟨(y 1).val, (y 1).isLt⟩ : Fin 4096)
    (⟨(y 0).val * 256 + (y 2).val, by have : (y 0).val < 43 := (y 0).isLt; have : (y 2).val < 256 := (y 2).isLt; omega⟩ : Fin 11008)))
  * (show EReal from g (ix2 (⟨(y 1).val, (y 1).isLt⟩ : Fin 4096) (0 : Fin 1)))

theorem idx0 : ∀ t : Fin cfg0.N, win0_0.index t = ![3, (grid0.coords t 0).val, 0]
    ∧ win0_1.index t = ![(grid0.coords t 0).val, 0]
    ∧ win0_2.index t = ![0, (grid0.coords t 0).val, 0] :=
  (by decide +kernel : ∀ t : Fin grid0.N, _)

theorem lt0 (t : Fin cfg0.N) : (grid0.coords t 0).val < 16 := (grid0.coords t 0).isLt

theorem read0 (c : Dev nD) (t : Fin cfg0.N) (a : Fin 256) (x : Fin 11008) : iblk0 V c 0 t (ix3 (0 : Fin 1) a x)
    = V c main_arg1 (ix3 (3 : Fin 4) (⟨(grid0.coords t 0).val * 256 + a.val, by have := lt0 t; omega⟩ : Fin 4096) x) := by
  blk_ext [iblk0, idx0 t]
theorem read1 (c : Dev nD) (t : Fin cfg0.N) (a : Fin 256) : iblk0 V c 1 t (ix2 a (0 : Fin 1))
    = V c main_v2 (ix2 (⟨(grid0.coords t 0).val * 256 + a.val, by have := lt0 t; omega⟩ : Fin 4096) (0 : Fin 1)) := by
  blk_ext [iblk0, idx0 t]

/-- What the first cast leaves. -/
theorem final0 (c : Dev nD) : (dat0 V c).arrAt 2 cfg0.N = gainedTiles (V c main_arg1) (V c main_v2) := by
  refine (dat0 V c).arrAt_eq_of_covers 2 _ (by decide +kernel) fun t hf y => ?_
  blk_simp
  rw [after0_2, out, gained, read0, read1]
  have e : (win0_2.blk t).view.emb y = (ix3 (⟨(y 0).val, (y 0).isLt⟩ : Fin 43)
      (⟨(grid0.coords t 0).val * 256 + (y 1).val, by have := lt0 t; have : (y 1).val < 256 := (y 1).isLt; omega⟩ : Fin 4096)
      (⟨(y 2).val, (y 2).isLt⟩ : Fin 256) : S43x4096x256.Idx) := by
    blk_ext [idx0 t]
  rw [e]
  rfl

/-- The second cast's payloads are the first's. -/
theorem out_again (x0 : Vec Ideal S1x256x11008 .f32) (x1 : Vec Ideal S256x1 .f32) : out1_2 (F := Ideal) x0 x1 = out0_2 (F := Ideal) x0 x1 := rfl

theorem idx1 : ∀ t : Fin cfg1.N, win1_0.index t = ![3, (grid1.coords t 0).val, 0]
    ∧ win1_1.index t = ![(grid1.coords t 0).val, 0]
    ∧ win1_2.index t = ![0, (grid1.coords t 0).val, 0] :=
  (by decide +kernel : ∀ t : Fin grid1.N, _)

theorem lt1 (t : Fin cfg1.N) : (grid1.coords t 0).val < 16 := (grid1.coords t 0).isLt

theorem again0 (c : Dev nD) (t : Fin cfg1.N) (a : Fin 256) (x : Fin 11008) : iblk1 V c 0 t (ix3 (0 : Fin 1) a x)
    = V c main_arg2 (ix3 (3 : Fin 4) (⟨(grid1.coords t 0).val * 256 + a.val, by have := lt1 t; omega⟩ : Fin 4096) x) := by
  blk_ext [iblk1, idx1 t]
theorem again1 (c : Dev nD) (t : Fin cfg1.N) (a : Fin 256) : iblk1 V c 1 t (ix2 a (0 : Fin 1))
    = V c main_v6 (ix2 (⟨(grid1.coords t 0).val * 256 + a.val, by have := lt1 t; omega⟩ : Fin 4096) (0 : Fin 1)) := by
  blk_ext [iblk1, idx1 t]

/-- What the second cast leaves. -/
theorem final1 (c : Dev nD) : (dat1 V c).arrAt 2 cfg1.N = gainedTiles (V c main_arg2) (V c main_v6) := by
  refine (dat1 V c).arrAt_eq_of_covers 2 _ (by decide +kernel) fun t hf y => ?_
  blk_simp
  rw [after1_2, out_again, out, gained, again0, again1]
  have e : (win1_2.blk t).view.emb y = (ix3 (⟨(y 0).val, (y 0).isLt⟩ : Fin 43)
      (⟨(grid1.coords t 0).val * 256 + (y 1).val, by have := lt1 t; have : (y 1).val < 256 := (y 1).isLt; omega⟩ : Fin 4096)
      (⟨(y 2).val, (y 2).isLt⟩ : Fin 256) : S43x4096x256.Idx) := by
    blk_ext [idx1 t]
  rw [e]
  rfl

end Cert.UpIdeal.Cast

end
-- ==== Proof.UpSquares.lean ====
/- The residual as the feed-forward half takes it, and its rows' squares: what the norm's input kernel leaves. -/
module

public import proofs.«01_k».proof.Proof.Gen.UpIdeal.Frame
public import Idealize.ShloMosaic.Lib.Pipeline.ValueKit
public import Idealize.ShloMosaic.Lib.Pointwise

@[expose] public section

set_option maxRecDepth 16384

noncomputable section

namespace Cert.UpIdeal.Squares

open Cert.UpIdeal Cert.UpIdeal.Gen Idealize.ShloMosaic Idealize.ShloMosaic.TcCoe Idealize.SL.Sem
open Idealize.ShloMosaic.Pipeline (Dat)

/-- A lane's share of a row's squares. -/
def lane (x : Fin 4096 → EReal) (l : Fin 128) : EReal :=
  ∑ b : Fin 32, x ⟨b.val * 128 + l.val, by omega⟩ * x ⟨b.val * 128 + l.val, by omega⟩

/-- The 32 slices of squares added up, one lane. -/
theorem squares (x : Vec Ideal S256x4096 .f32) (a : Fin 256) (l : Fin 128) :
    out2_2 (F := Ideal) x (ix2 a l) = lane (fun k => x (ix2 a k)) l := by
  unfold out2_2
  frame_out
  pointwise [k2_pay1, k2_pay3, k2_pay4, k2_pay5]
  unfold lane
  simp only [Fin.sum_univ_castSucc, Fin.sum_univ_zero, zero_add, Fin.val_castSucc, Fin.val_last, Nat.reduceMul, zero_mul]

theorem copied (x : Vec Ideal S256x4096 .f32) (a : Fin 256) (k : Fin 4096) :
    out2_1 (F := Ideal) x (ix2 a k) = x (ix2 a k) := by
  unfold out2_1
  frame_out
  pointwise [k2_pay2]

variable (V : (c : Dev nD) → (b : Ref sig .tc) → Buf (Elt Ideal) ((c : Thread nD τ).loc b))

theorem idx : ∀ t : Fin cfg2.N, win2_0.index t = ![(grid2.coords t 0).val, 0]
    ∧ win2_1.index t = ![(grid2.coords t 0).val, 0]
    ∧ win2_2.index t = ![(grid2.coords t 0).val, 0] :=
  (by decide +kernel : ∀ t : Fin grid2.N, _)

theorem lt0 (t : Fin cfg2.N) : (grid2.coords t 0).val < 64 := (grid2.coords t 0).isLt

theorem read (c : Dev nD) (t : Fin cfg2.N) (a : Fin 256) (k : Fin 4096) : iblk2 V c 0 t (ix2 a k)
    = V c main_arg0 (ix2 (⟨(grid2.coords t 0).val * 256 + a.val, by have := lt0 t; omega⟩ : Fin 16384) k) := by
  blk_ext [iblk2, idx t]

/-- The residual is passed on. -/
theorem final1 (c : Dev nD) (a : Fin 16384) (k : Fin 4096) :
    (dat2 V c).arrAt 1 cfg2.N (ix2 a k) = V c main_arg0 (ix2 a k) := by
  refine congrFun ((dat2 V c).arrAt_eq_of_covers 1 (fun i : S16384x4096.Idx => (V c main_arg0 i : EReal)) (by decide +kernel) fun t hf y => ?_) _
  blk_simp
  have e : (win2_1.blk t).view.emb y = (ix2
      (⟨(grid2.coords t 0).val * 256 + (y 0).val, by have := lt0 t; have : (y 0).val < 256 := (y 0).isLt; omega⟩ : Fin 16384)
      (⟨(y 1).val, (y 1).isLt⟩ : Fin 4096) : S16384x4096.Idx) := by
    blk_ext [idx t]
  have ey : y = (ix2 (⟨(y 0).val, (y 0).isLt⟩ : Fin 256) (⟨(y 1).val, (y 1).isLt⟩ : Fin 4096) : S256x4096.Idx) := by blk_ext []
  rw [e, after2_1]
  exact (congrArg (out2_1 (F := Ideal) (iblk2 V c 0 t)) ey).trans ((copied _ _ _).trans (read V c t _ _))

/-- The rows' squares, lane by lane, as an array. -/
def lanesOf (X : FVec Ideal S16384x4096 .f32) (i : S16384x128.Idx) : EReal :=
  lane (fun k => X (ix2 (⟨(i 0).val, (i 0).isLt⟩ : Fin 16384) k)) (⟨(i 1).val, (i 1).isLt⟩ : Fin 128)

/-- The rows' squares, lane by lane. -/
theorem final2 (c : Dev nD) (a : Fin 16384) (l : Fin 128) :
    (dat2 V c).arrAt 2 cfg2.N (ix2 a l) = lane (fun k => V c main_arg0 (ix2 a k)) l := by
  refine congrFun ((dat2 V c).arrAt_eq_of_covers 2 (lanesOf (V c main_arg0)) (by decide +kernel) fun t hf y => ?_) _
  blk_simp
  have e : (win2_2.blk t).view.emb y = (ix2
      (⟨(grid2.coords t 0).val * 256 + (y 0).val, by have := lt0 t; have : (y 0).val < 256 := (y 0).isLt; omega⟩ : Fin 16384)
      (⟨(y 1).val, (y 1).isLt⟩ : Fin 128) : S16384x128.Idx) := by
    blk_ext [idx t]
  have ey : y = (ix2 (⟨(y 0).val, (y 0).isLt⟩ : Fin 256) (⟨(y 1).val, (y 1).isLt⟩ : Fin 128) : S256x128.Idx) := by blk_ext []
  rw [e, after2_2]
  refine (congrArg (out2_2 (F := Ideal) (iblk2 V c 0 t)) ey).trans ((squares _ _ _).trans ?_)
  exact congrArg (fun f => lane f _) (funext fun k => read V c t _ k)

end Cert.UpIdeal.Squares

end
-- ==== Proof.Norm.lean ====
/- Sums of extended reals the projections need: a row's scale pulled through a contraction, and a row's squares summed lane by lane. -/
module

public import Idealize.ShloMosaic.PureOps.Ideal
public import Idealize.ShloMosaic.Lib.Pointwise

@[expose] public section

noncomputable section

namespace Cert.Norm

open Idealize.ShloMosaic

/-- The pattern of 4096. -/
theorem ofBits_width : Ideal.ofBits .f32 0x45800000#32 = ((4096 : ℝ) : EReal) := by
  simp [Ideal.ofBits, Ideal.ieee, -EReal.coe_mul]; norm_num

/-- The pattern of the norm's small constant is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- A square is not negative. -/
theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- The reciprocal root of a mean of squares, from the squares' sum. -/
def rstd (s : EReal) : EReal :=
  Ideal.rsqrt (Ideal.div s (Ideal.ofBits .f32 0x45800000#32) + Ideal.ofBits .f32 0x358637BD#32)

/-- Of a sum that is not negative it is neither negative nor infinite. -/
theorem rstd_bounds (s : EReal) (hs : 0 ≤ s) : 0 ≤ rstd s ∧ rstd s ≠ ⊤ := by
  obtain ⟨e, he, hb⟩ := ofBits_eps
  unfold rstd
  rw [hb, ofBits_width, Ideal.div_coe (by norm_num)]
  induction s with
  | bot => exact absurd hs (by simp)
  | top =>
    rw [EReal.top_mul_coe_of_pos (by norm_num), EReal.top_add_of_ne_bot (EReal.coe_ne_bot _), Ideal.rsqrt_top]
    exact ⟨le_rfl, EReal.zero_ne_top⟩
  | coe s =>
    have hs' : 0 ≤ s := EReal.coe_nonneg.mp hs
    rw [← EReal.coe_mul, ← EReal.coe_add, Ideal.rsqrt_coe]
    have hp : 0 < s * (1 / 4096) + e := by positivity
    rw [if_neg (not_lt.mpr hp.le), if_neg hp.ne']
    exact ⟨EReal.coe_nonneg.mpr (by positivity), EReal.coe_ne_top _⟩

/-- A scale that is neither negative nor infinite goes through a sum. -/
theorem mul_sum {ι : Type*} (s : Finset ι) (f : ι → EReal) (r : EReal) (h0 : 0 ≤ r) (h1 : r ≠ ⊤) :
    (∑ k ∈ s, f k) * r = ∑ k ∈ s, f k * r := by
  classical
  induction s using Finset.induction_on with
  | empty => simp
  | insert a s ha ih =>
    rw [Finset.sum_insert ha, Finset.sum_insert ha, ← ih, mul_comm _ r, EReal.left_distrib_of_nonneg_of_ne_top h0 h1,
      mul_comm r, mul_comm r]

/-- A contraction with gained weights, scaled afterwards, is the contraction of the normalised and gained row. -/
theorem pull {n : ℕ} (r : EReal) (h0 : 0 ≤ r) (h1 : r ≠ ⊤) (x g w : Fin n → EReal) :
    (∑ k, x k * (w k * g k)) * r = ∑ k, x k * r * g k * w k := by
  rw [mul_sum _ _ r h0 h1]
  refine Finset.sum_congr rfl fun k _ => ?_
  rw [mul_assoc (x k), mul_assoc (x k * r), mul_assoc (x k), mul_comm (w k), mul_comm r]

/-- A row's squares summed lane by lane. -/
theorem lanes (f : Fin 4096 → EReal) :
    ∑ l : Fin 128, ∑ b : Fin 32, f ⟨b.val * 128 + l.val, by omega⟩ = ∑ k, f k := by
  rw [Fin.sum_univ_tiles 32 128 rfl f, Finset.sum_comm]

/-- The gate's unit: dividing by `1 + e⁻ᵍ` is multiplying by the logistic function. -/
theorem silu (g : EReal) : Ideal.div g (1 + Ideal.exp (-g)) = g * Ideal.div 1 (1 + Ideal.exp (-g)) := by
  have h : (1 : EReal) + Ideal.exp (-g) ≠ 0 := by
    refine ne_of_gt (lt_of_lt_of_le zero_lt_one ?_)
    have : 0 ≤ Ideal.exp (-g) := by
      induction (-g) with
      | bot => exact le_rfl
      | top => exact le_top
      | coe x => exact EReal.coe_nonneg.mpr (Real.exp_pos x).le
    calc (1 : EReal) = 1 + 0 := (add_zero _).symm
      _ ≤ _ := by gcongr
  unfold Ideal.div
  rw [if_neg h, if_neg h, one_mul]

end Cert.Norm

end
-- ==== Proof.UpGate.lean ====
/- The gated product: what the feed-forward half's first kernel leaves in its two arrays. -/
module

public import proofs.«01_k».proof.Proof.Gen.UpIdeal.Frame
public import proofs.«01_k».proof.Proof.Norm
public import Idealize.ShloMosaic.Lib.Pipeline.ValueKit
public import Idealize.ShloMosaic.Lib.Pointwise

@[expose] public section

set_option maxRecDepth 16384

noncomputable section

namespace Cert.UpIdeal.Gate

open Cert.UpIdeal Cert.UpIdeal.Gen Idealize.ShloMosaic Idealize.ShloMosaic.TcCoe Idealize.SL.Sem
open Idealize.ShloMosaic.Pipeline (Dat)
open Cert

/-- The gated unit: the gate's projection through its logistic, times the other projection. -/
def gated (g u : EReal) : EReal := Ideal.div g (1 + Ideal.exp (-g)) * u

/-- One element of the payload. -/
theorem payload (v0 : Vec Ideal S1024x4096 .bf16) (v2 : Vec Ideal S1024x128 .f32) (v11 v16 : Vec Ideal S1x4096x256 .bf16)
    (r : Fin 1024) (d : Fin 256) :
    k3_pay11 (F := Ideal) v0 v2 v11 v16 (ix2 r d)
    = gated ((∑ k : Fin 4096, (show EReal from v0 (ix2 r k)) * (show EReal from v11 (ix3 (0 : Fin 1) k d))) * Norm.rstd (∑ l : Fin 128, (show EReal from v2 (ix2 r l))))
        ((∑ k : Fin 4096, (show EReal from v0 (ix2 r k)) * (show EReal from v16 (ix3 (0 : Fin 1) k d))) * Norm.rstd (∑ l : Fin 128, (show EReal from v2 (ix2 r l)))) := by
  pointwise [k3_pay11]
  simp only [zero_sub]
  rfl

variable (V : (c : Dev nD) → (b : Ref sig .tc) → Buf (Elt Ideal) ((c : Thread nD τ).loc b))

theorem idx : ∀ t : Fin cfg3.N, win3_0.index t = ![(grid3.coords t 0).val, 0]
    ∧ win3_1.index t = ![(grid3.coords t 0).val, 0]
    ∧ win3_2.index t = ![(grid3.coords t 1).val, 0, 0]
    ∧ win3_3.index t = ![(grid3.coords t 1).val, 0, 0]
    ∧ win3_4.index t = ![3, (grid3.coords t 0).val * 43 + (grid3.coords t 1).val, 0]
    ∧ win3_5.index t = ![(grid3.coords t 0).val, (grid3.coords t 1).val]
    ∧ win3_6.index t = ![0, (grid3.coords t 0).val * 43 + (grid3.coords t 1).val, 0] :=
  (by decide +kernel : ∀ t : Fin grid3.N, _)

theorem lt0 (t : Fin cfg3.N) : (grid3.coords t 0).val < 16 := (grid3.coords t 0).isLt
theorem lt1 (t : Fin cfg3.N) : (grid3.coords t 1).val < 43 := (grid3.coords t 1).isLt

theorem read0 (c : Dev nD) (t : Fin cfg3.N) (a : Fin 1024) (k : Fin 4096) : iblk3 V c 0 t (ix2 a k)
    = V c main_v8_0 (ix2 (⟨(grid3.coords t 0).val * 1024 + a.val, by have := lt0 t; omega⟩ : Fin 16384) k) := by
  blk_ext [iblk3, idx t]
theorem read1 (c : Dev nD) (t : Fin cfg3.N) (a : Fin 1024) (l : Fin 128) : iblk3 V c 1 t (ix2 a l)
    = V c main_v8_1 (ix2 (⟨(grid3.coords t 0).val * 1024 + a.val, by have := lt0 t; omega⟩ : Fin 16384) l) := by
  blk_ext [iblk3, idx t]
theorem read2 (c : Dev nD) (t : Fin cfg3.N) (k : Fin 4096) (d : Fin 256) : iblk3 V c 2 t (ix3 (0 : Fin 1) k d)
    = V c main_v3 (ix3 (⟨(grid3.coords t 1).val, lt1 t⟩ : Fin 43) k d) := by
  blk_ext [iblk3, idx t]
theorem read3 (c : Dev nD) (t : Fin cfg3.N) (k : Fin 4096) (d : Fin 256) : iblk3 V c 3 t (ix3 (0 : Fin 1) k d)
    = V c main_v7 (ix3 (⟨(grid3.coords t 1).val, lt1 t⟩ : Fin 43) k d) := by
  blk_ext [iblk3, idx t]
theorem read4 (c : Dev nD) (t : Fin cfg3.N) (a : Fin 16) (x : Fin 4096) : iblk3 V c 4 t (ix3 (0 : Fin 1) a x)
    = V c main_arg3 (ix3 (3 : Fin 4) (⟨((grid3.coords t 0).val * 43 + (grid3.coords t 1).val) * 16 + a.val, by have := lt0 t; have := lt1 t; omega⟩ : Fin 11008) x) := by
  blk_ext [iblk3, idx t]

/-- One element of the gated product, from the four arrays it is read off. -/
def element (X : FVec Ideal S16384x4096 .bf16) (Q : FVec Ideal S16384x128 .f32) (A B : FVec Ideal S43x4096x256 .bf16)
    (i : Fin 16384) (j : Fin 43) (d : Fin 256) : EReal :=
  gated ((∑ k : Fin 4096, (show EReal from X (ix2 i k)) * (show EReal from A (ix3 j k d))) * Norm.rstd (∑ l : Fin 128, (show EReal from Q (ix2 i l))))
    ((∑ k : Fin 4096, (show EReal from X (ix2 i k)) * (show EReal from B (ix3 j k d))) * Norm.rstd (∑ l : Fin 128, (show EReal from Q (ix2 i l))))

theorem element_congr (X : FVec Ideal S16384x4096 .bf16) (Q : FVec Ideal S16384x128 .f32) (A B : FVec Ideal S43x4096x256 .bf16)
    {i i' : Fin 16384} {j j' : Fin 43} {d d' : Fin 256} (h0 : i.val = i'.val) (h1 : j.val = j'.val) (h2 : d.val = d'.val) :
    element X Q A B i j d = element X Q A B i' j' d' := by
  rw [Fin.ext h0, Fin.ext h1, Fin.ext h2]

/-- The array of gated products. -/
def product (X : FVec Ideal S16384x4096 .bf16) (Q : FVec Ideal S16384x128 .f32) (A B : FVec Ideal S43x4096x256 .bf16)
    (i : S16384x11008.Idx) : EReal :=
  element X Q A B (⟨(i 0).val, (i 0).isLt⟩ : Fin 16384)
    (⟨(i 1).val / 256, by have : (i 1).val < 11008 := (i 1).isLt; omega⟩ : Fin 43) (⟨(i 1).val % 256, Nat.mod_lt _ (by decide)⟩ : Fin 256)

/-- What a point leaves in the product's block. -/
theorem point (c : Dev nD) (t : Fin cfg3.N) (r : Fin 1024) (d : Fin 256) : (outsAt3 V c t).1 (ix2 r d)
    = element (V c main_v8_0) (V c main_v8_1) (V c main_v3) (V c main_v7)
      (⟨(grid3.coords t 0).val * 1024 + r.val, by have := lt0 t; omega⟩ : Fin 16384) (⟨(grid3.coords t 1).val, lt1 t⟩ : Fin 43) d := by
  unfold outsAt3
  dsimp only
  unfold out3_A_5
  frame_out
  refine (payload _ _ _ _ r d).trans ?_
  simp only [read0, read1, read2, read3]
  rfl

/-- The array of gated products after the last point. -/
theorem final5 (c : Dev nD) : (dat3 V c).arrAt 5 cfg3.N = product (V c main_v8_0) (V c main_v8_1) (V c main_v3) (V c main_v7) := by
  refine (dat3 V c).arrAt_eq_of_covers 5 _ (by decide +kernel) fun t hf y => ?_
  blk_simp
  have e : (win3_5.blk t).view.emb y = (ix2
      (⟨(grid3.coords t 0).val * 1024 + (y 0).val, by have := lt0 t; have : (y 0).val < 1024 := (y 0).isLt; omega⟩ : Fin 16384)
      (⟨(grid3.coords t 1).val * 256 + (y 1).val, by have := lt1 t; have : (y 1).val < 256 := (y 1).isLt; omega⟩ : Fin 11008) : S16384x11008.Idx) := by
    blk_ext [idx t]
  have ey : y = (ix2 (⟨(y 0).val, (y 0).isLt⟩ : Fin 1024) (⟨(y 1).val, (y 1).isLt⟩ : Fin 256) : S1024x256.Idx) := by blk_ext []
  have hy : (y 1).val < 256 := (y 1).isLt
  rw [e, after3_5]
  refine (congrArg (outsAt3 V c t).1 ey).trans ((point V c t _ _).trans ?_)
  refine element_congr _ _ _ _ rfl ?_ ?_
  · show (grid3.coords t 1).val = ((grid3.coords t 1).val * 256 + (y 1).val) / 256
    omega
  · show (y 1).val = ((grid3.coords t 1).val * 256 + (y 1).val) % 256
    omega

/-- The cast weights of a block, read at a place. -/
theorem plain (x0 : Vec Ideal S1x16x4096 .f32) (a : Fin 16) (b : Fin 4096) :
    k3_pay3 (F := Ideal) x0 (ix2 a b) = (show EReal from x0 (ix3 (0 : Fin 1) a b)) := by
  pointwise [k3_pay3]

/-- One column tile of a block of the down weights. -/
theorem piece (T : FVec Ideal S16x4096 .bf16) (y : S8x16x512.Idx) (o p : ℕ) (x : S1x16x512.Idx)
    (h0 : (y 0).val = p + (x 0).val) (h1 : (y 1).val = (x 1).val) (h2 : (y 2).val = (x 2).val)
    (hs : S16x4096.Slices ![0, o] S16x512) (ho : o = p * 512) (hc) :
    (shapeCast S1x16x512 (extractStridedSlice S16x512 ![0, o] T hs) hc : FVec Ideal S1x16x512 .bf16) x
    = T (ix2 (⟨(y 1).val, (y 1).isLt⟩ : Fin 16)
        (⟨(y 0).val * 512 + (y 2).val, by have : (y 0).val < 8 := (y 0).isLt; have : (y 2).val < 512 := (y 2).isLt; omega⟩ : Fin 4096)) := by
  subst ho
  idx_vars x
  have : x0.val < 1 := x0.isLt
  pointwise
  have h0' : (y 0).val = p + x0.val := h0
  have h2' : (y 2).val = x2.val := h2
  exact congrArg T (congrArg₂ ix2 (Fin.ext h1.symm) (Fin.ext (by dsimp only; omega)))

/-- What a point leaves in the down weights' block. -/
theorem tiles (c : Dev nD) (t : Fin cfg3.N) (y : S8x16x512.Idx) : (outsAt3 V c t).2 y
    = k3_pay3 (F := Ideal) (iblk3 V c 4 t) (ix2 (⟨(y 1).val, (y 1).isLt⟩ : Fin 16)
        (⟨(y 0).val * 512 + (y 2).val, by have : (y 0).val < 8 := (y 0).isLt; have : (y 2).val < 512 := (y 2).isLt; omega⟩ : Fin 4096)) := by
  unfold outsAt3
  dsimp only
  unfold out3_A_6
  frame_out
  canon_tiles x h
  case piece1 => exact piece (k3_pay3 (F := Ideal) (iblk3 V c 4 t)) y 3072 6 x h0 h1 h2 slices_S16x4096_o0_3072_S16x512 rfl _
  case piece7 =>
    exact piece (k3_pay3 (F := Ideal) (iblk3 V c 4 t)) y 0 0 x (h0.trans (Nat.zero_add _).symm) h1 h2 slices_S16x4096_o0_0_S16x512 rfl _
  all_goals
    have k := fun o => piece (k3_pay3 (F := Ideal) (iblk3 V c 4 t)) y o _ x h0 h1 h2
    exact k _ _ (by decide) _

/-- Layer 3's down weights in column tiles. -/
def downTiles (W : FVec Ideal S4x11008x4096 .f32) : FVec Ideal S8x11008x512 .bf16 := fun y =>
  (show EReal from W (ix3 (3 : Fin 4) (⟨(y 1).val, (y 1).isLt⟩ : Fin 11008)
    (⟨(y 0).val * 512 + (y 2).val, by have : (y 0).val < 8 := (y 0).isLt; have : (y 2).val < 512 := (y 2).isLt; omega⟩ : Fin 4096)))

/-- The down weights' array after the last point. -/
theorem final6 (c : Dev nD) : (dat3 V c).arrAt 6 cfg3.N = downTiles (V c main_arg3) := by
  refine (dat3 V c).arrAt_eq_of_covers 6 _ (by decide +kernel) fun t hf y => ?_
  blk_simp
  rw [after3_6, tiles, plain, read4]
  have e : (win3_6.blk t).view.emb y = (ix3 (⟨(y 0).val, (y 0).isLt⟩ : Fin 8)
      (⟨((grid3.coords t 0).val * 43 + (grid3.coords t 1).val) * 16 + (y 1).val,
        by have := lt0 t; have := lt1 t; have : (y 1).val < 16 := (y 1).isLt; omega⟩ : Fin 11008)
      (⟨(y 2).val, (y 2).isLt⟩ : Fin 512) : S8x11008x512.Idx) := by
    blk_ext [idx t]
  rw [e]
  rfl

end Cert.UpIdeal.Gate

end
-- ==== Proof.UpRun.lean ====
/- The run of the gate's and up's projections, its two results named by the arguments. -/
module

public import proofs.«01_k».proof.Proof.UpCast
public import proofs.«01_k».proof.Proof.UpSquares
public import proofs.«01_k».proof.Proof.UpGate
public import Idealize.ShloMosaic.Lib.Claim

@[expose] public section

set_option maxRecDepth 16384

noncomputable section

namespace Cert.UpIdeal.Run

open Cert.UpIdeal Cert.UpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- The norm's gain, as a column. -/
def gain (g : FVec Ideal S4x4096 .f32) : FVec Ideal S4096x1 .f32 := fun y => g (ix2 (3 : Fin 4) (⟨(y 0).val, (y 0).isLt⟩ : Fin 4096))

theorem gain_eq (g : FVec Ideal S4x4096 .f32) :
    (shapeCast S4096x1 (shapeCast S4096 (extractStridedSlice S1x4096 ![3, 0] g slices_S4x4096_S1x4096_3_0) shapeCasts_S1x4096_S4096)
      shapeCasts_S4096_S4096x1 : FVec Ideal S4096x1 .f32) = gain g := by
  funext y
  idx_vars y
  have : y1.val < 1 := y1.isLt
  pointwise [gain]

/-- The gain the first cast reads. -/
theorem entry0 (c : Dev nD) : V1 m ρ c main_v2 = gain (m ((c : Thread nD τ).loc main_arg4)) := by
  refine Eq.trans ?_ (gain_eq _)
  show W1 m ρ c (Proc.devRef .tc main_v2) = _
  unfold W1
  after_results
  rfl

theorem entry1 (c : Dev nD) : V3 m ρ c main_v6 = gain (m ((c : Thread nD τ).loc main_arg4)) := by
  refine Eq.trans ?_ (gain_eq _)
  show W3 m ρ c (Proc.devRef .tc main_v6) = _
  unfold W3
  after_results
  rw [W2_args m ρ c main_arg4 (by decide)]
  rfl

/-- The cast gate weights, as the last call finds them. -/
theorem gate (c : Dev nD) : V5 m ρ c main_v3 = Cast.gainedTiles (m ((c : Thread nD τ).loc main_arg1)) (gain (m ((c : Thread nD τ).loc main_arg4))) := by
  have e := (W5_of m ρ c main_v3 (by decide)).trans ((W4_of m ρ c main_v3 (by decide)).trans ((W3_of m ρ c main_v3 (by decide)).trans
    ((W2_arr m ρ c 2).trans (Cast.final0 (V1 m ρ) c))))
  refine e.trans ?_
  rw [entry0]
  exact congrArg (fun W => Cast.gainedTiles W _) (W1_args m ρ c main_arg1 (by decide))

/-- The cast up weights, as the last call finds them. -/
theorem up (c : Dev nD) : V5 m ρ c main_v7 = Cast.gainedTiles (m ((c : Thread nD τ).loc main_arg2)) (gain (m ((c : Thread nD τ).loc main_arg4))) := by
  have e := (W5_of m ρ c main_v7 (by decide)).trans ((W4_arr m ρ c 2).trans (Cast.final1 (V3 m ρ) c))
  refine e.trans ?_
  rw [entry1]
  exact congrArg (fun W => Cast.gainedTiles W _) (W3_args m ρ c main_arg2 (by decide))

/-- The residual, as the last call finds it. -/
theorem residual (c : Dev nD) (a : Fin 16384) (k : Fin 4096) : V5 m ρ c main_v8_0 (ix2 a k) = m ((c : Thread nD τ).loc main_arg0) (ix2 a k) := by
  have e := congrFun (W5_arr m ρ c 1) (ix2 a k)
  refine e.trans ((Squares.final1 (V4 m ρ) c a k).trans ?_)
  exact congrFun (W4_args m ρ c main_arg0 (by decide)) (ix2 a k)

/-- The rows' squares, as the last call finds them. -/
theorem squares (c : Dev nD) (a : Fin 16384) (l : Fin 128) :
    V5 m ρ c main_v8_1 (ix2 a l) = Squares.lane (fun k => m ((c : Thread nD τ).loc main_arg0) (ix2 a k)) l := by
  have e := congrFun (W5_arr m ρ c 2) (ix2 a l)
  refine e.trans ((Squares.final2 (V4 m ρ) c a l).trans ?_)
  exact congrArg (fun f => Squares.lane f l) (funext fun k => congrFun (W4_args m ρ c main_arg0 (by decide)) (ix2 a k))

set_option backward.isDefEq.respectTransparency.types false in
/-- Every final state has the two results at what the last call leaves, and the arguments as launched. -/
theorem run : θ_run defs (onTc (τ := τ) (main (F := Ideal))) ⟨m, fun _ => 0, ρ⟩ (fun r => ∀ c : Dev nD,
      (r.2.mem ((c.tc : Thread nD τ).loc main_v9_0) = (dat3 (V5 m ρ) c).arrAt 5 cfg3.N
      ∧ r.2.mem ((c.tc : Thread nD τ).loc main_v9_1) = (dat3 (V5 m ρ) c).arrAt 6 cfg3.N)
      ∧ ∀ a ∈ argRefs, r.2.mem ((c.tc : Thread nD τ).loc a) = m ((c.tc : Thread nD τ).loc a)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => ⟨⟨(h c _ (mem_uc main_v9_0 (by decide))).trans (W6_arr m ρ c 5),
        (h c _ (mem_uc main_v9_1 (by decide))).trans (W6_arr m ρ c 6)⟩,
      fun a ha => (h c _ (mem_uc a ((by decide : ∀ b ∈ argRefs, ¬ (Proc.devRef .tc b : DevRef τ sig).isScoped) a ha))).trans (W6_args m ρ c a ha)⟩)

end Cert.UpIdeal.Run

end
-- ==== Proof.UpReference.lean ====
/- The plain statement of the gate's and up's projections, read at a place. -/
module

public import proofs.«01_k».proof.Proof.Gen.UpReferenceIdeal.Read
public import proofs.«01_k».proof.Proof.Norm
public import Idealize.ShloMosaic.Lib.Pointwise

@[expose] public section

set_option maxRecDepth 16384

noncomputable section

namespace Cert.UpReferenceIdeal.At

open Cert.UpReferenceIdeal Cert.UpReferenceIdeal.Read Idealize.ShloMosaic
open Cert

/-- The reciprocal root of a row's mean square. -/
theorem root (x0 : FVec Ideal S16384x4096 .f32) (i : Fin 16384) :
    val_main_v9 (F := Ideal) x0 (ix2 i (0 : Fin 1)) = Norm.rstd (∑ k : Fin 4096, (show EReal from x0 (ix2 i k)) * (show EReal from x0 (ix2 i k))) := by
  have e : val_main_v3 (F := Ideal) x0 (ix1 i) = ∑ k : Fin 4096, (show EReal from x0 (ix2 i k)) * (show EReal from x0 (ix2 i k)) := by
    pointwise [val_main_v3, val_main_v2, val_main_cst]
  have e' : val_main_v9 (F := Ideal) x0 (ix2 i (0 : Fin 1)) = Norm.rstd (val_main_v3 (F := Ideal) x0 (ix1 i)) := by
    generalize h : val_main_v3 (F := Ideal) x0 = s
    unfold val_main_v9 val_main_v8 val_main_v6 val_main_v4
    rw [h]
    pointwise [val_main_v5, val_main_v7, val_main_cst_0, val_main_cst_1]
    rfl
  rw [e', e]

/-- The normalised and gained row. -/
theorem normed (x0 : FVec Ideal S16384x4096 .f32) (x4 : FVec Ideal S4x4096 .f32) (i : Fin 16384) (k : Fin 4096) :
    val_main_v14 (F := Ideal) x0 x4 (ix2 i k)
    = (show EReal from x0 (ix2 i k)) * Norm.rstd (∑ k : Fin 4096, (show EReal from x0 (ix2 i k)) * (show EReal from x0 (ix2 i k)))
      * (show EReal from x4 (ix2 (3 : Fin 4) k)) := by
  rw [← root]
  unfold val_main_v14 val_main_v11 val_main_v10
  generalize val_main_v9 (F := Ideal) x0 = s
  pointwise [val_main_v13, val_main_v12, val_main_v1, val_main_v0]

/-- The gate's projection. -/
theorem gate (x0 : FVec Ideal S16384x4096 .f32) (x1 : FVec Ideal S4x4096x11008 .f32) (x4 : FVec Ideal S4x4096 .f32) (i : Fin 16384) (n : Fin 11008) :
    val_main_v17 (F := Ideal) x0 x1 x4 (ix2 i n)
    = ∑ k : Fin 4096, (show EReal from val_main_v14 (F := Ideal) x0 x4 (ix2 i k)) * (show EReal from x1 (ix3 (3 : Fin 4) k n)) := by
  unfold val_main_v17
  generalize val_main_v14 (F := Ideal) x0 x4 = s
  pointwise [val_main_v16, val_main_v15]

/-- The other projection. -/
theorem up (x0 : FVec Ideal S16384x4096 .f32) (x1 : FVec Ideal S4x4096x11008 .f32) (x4 : FVec Ideal S4x4096 .f32) (i : Fin 16384) (n : Fin 11008) :
    val_main_v21 (F := Ideal) x0 x1 x4 (ix2 i n)
    = ∑ k : Fin 4096, (show EReal from val_main_v14 (F := Ideal) x0 x4 (ix2 i k)) * (show EReal from x1 (ix3 (3 : Fin 4) k n)) := by
  unfold val_main_v21
  generalize val_main_v14 (F := Ideal) x0 x4 = s
  pointwise [val_main_v20, val_main_v19]

/-- The gated product. -/
theorem product (x0 : FVec Ideal S16384x4096 .f32) (x1 x2 : FVec Ideal S4x4096x11008 .f32) (x4 : FVec Ideal S4x4096 .f32) (i : S16384x11008.Idx) :
    val_main_v23 (F := Ideal) x0 x1 x2 x4 i
    = (show EReal from val_main_v17 (F := Ideal) x0 x1 x4 i) * Ideal.div 1 (1 + Ideal.exp (-(show EReal from val_main_v17 (F := Ideal) x0 x1 x4 i)))
      * (show EReal from val_main_v21 (F := Ideal) x0 x2 x4 i) := by
  unfold val_main_v23 val_main_v22 val_main_v18 val_main_call0_v5 val_main_call0_v3 val_main_call0_v1 val_main_call0_v0
  generalize val_main_v17 (F := Ideal) x0 x1 x4 = g
  generalize val_main_v21 (F := Ideal) x0 x2 x4 = u
  idx_vars i
  pointwise [val_main_call0_v2, val_main_call0_v4, val_main_call0_cst, val_main_call0_cst_0]

/-- The down weights' tiles. -/
theorem tiles (x3 : FVec Ideal S4x11008x4096 .f32) (j : Fin 8) (k : Fin 11008) (d : Fin 512) :
    val_main_v28 (F := Ideal) x3 (ix3 j k d) = (show EReal from x3 (ix3 (3 : Fin 4) k (⟨j.val * 512 + d.val, by omega⟩ : Fin 4096))) := by
  pointwise [val_main_v28, val_main_v27, val_main_v26, val_main_v25, val_main_v24]

end Cert.UpReferenceIdeal.At

end
-- ==== Proof.UpClaims.lean ====
/- The claims about the gate's and up's projections: their frames, and that kernel and reference leave the same arrays. -/
module

public import proofs.«01_k».proof.Defs
public import proofs.«01_k».proof.Proof.Gen.Up
public import proofs.«01_k».proof.Proof.Gen.Up.Frame
public import proofs.«01_k».proof.Proof.Gen.UpIdeal
public import proofs.«01_k».proof.Proof.Gen.UpReferenceIdeal
public import proofs.«01_k».proof.Proof.Gen.UpReferenceIdeal.Run
public import proofs.«01_k».proof.Proof.UpRun
public import proofs.«01_k».proof.Proof.UpReference

@[expose] public section

set_option maxRecDepth 16384

noncomputable section

namespace Cert.Proof.Up

open Idealize.ShloMosaic Idealize.SL.Sem
open Cert Cert.UpIdeal

/-- A row's squares, lane by lane, are its squares. -/
theorem lanes (x : Fin 4096 → EReal) : ∑ l : Fin 128, Squares.lane x l = ∑ k : Fin 4096, x k * x k :=
  Norm.lanes fun k => x k * x k

/-- One projection: the row scaled after the contraction with the gained weights is the contraction of the normalised row. -/
theorem projection (x0 : FVec Ideal S16384x4096 .f32) (w : FVec Ideal S4x4096x11008 .f32) (g : FVec Ideal S4x4096 .f32)
    (X : FVec Ideal S16384x4096 .bf16) (Q : FVec Ideal S16384x128 .f32) (A : FVec Ideal S43x4096x256 .bf16)
    (hX : ∀ i k, X (ix2 i k) = x0 (ix2 i k)) (hQ : ∀ i l, Q (ix2 i l) = Squares.lane (fun k => x0 (ix2 i k)) l)
    (hA : A = Cast.gainedTiles w (Run.gain g)) (i : Fin 16384) (n : Fin 11008) :
    (∑ k : Fin 4096, (show EReal from X (ix2 i k)) * (show EReal from A (ix3 (⟨n.val / 256, by omega⟩ : Fin 43) k (⟨n.val % 256, Nat.mod_lt _ (by decide)⟩ : Fin 256))))
        * Norm.rstd (∑ l : Fin 128, (show EReal from Q (ix2 i l)))
    = ∑ k : Fin 4096, (show EReal from UpReferenceIdeal.Read.val_main_v14 (F := Ideal) x0 g (ix2 i k)) * (show EReal from w (ix3 (3 : Fin 4) k n)) := by
  have hn : ∀ k, A (ix3 (⟨n.val / 256, by omega⟩ : Fin 43) k (⟨n.val % 256, Nat.mod_lt _ (by decide)⟩ : Fin 256))
      = (show EReal from w (ix3 (3 : Fin 4) k n)) * (show EReal from g (ix2 (3 : Fin 4) k)) := fun k => by
    rw [hA]
    have e : (⟨n.val / 256 * 256 + n.val % 256, by omega⟩ : Fin 11008) = n := Fin.ext (by dsimp only; omega)
    exact congrArg (fun j => (show EReal from w (ix3 (3 : Fin 4) k j)) * (show EReal from g (ix2 (3 : Fin 4) k))) e
  have hs : ∑ l : Fin 128, (show EReal from Q (ix2 i l)) = ∑ k : Fin 4096, (show EReal from x0 (ix2 i k)) * (show EReal from x0 (ix2 i k)) :=
    (Finset.sum_congr rfl fun l _ => hQ i l).trans (lanes _)
  have hr := Norm.rstd_bounds (∑ k : Fin 4096, (show EReal from x0 (ix2 i k)) * (show EReal from x0 (ix2 i k)))
    (Finset.sum_nonneg fun k _ => Norm.sq_nonneg _)
  rw [hs]
  refine Eq.trans (congrArg (· * _) (Finset.sum_congr rfl fun k _ => Ideal.mul_congr (hX i k) (hn k))) ?_
  refine (Norm.pull _ hr.1 hr.2 (fun k => x0 (ix2 i k)) (fun k => g (ix2 (3 : Fin 4) k)) (fun k => w (ix3 (3 : Fin 4) k n))).trans ?_
  exact Finset.sum_congr rfl fun k _ => congrArg (· * _) (UpReferenceIdeal.At.normed x0 g i k).symm

variable (m : (ℓ : Loc nD τ sig) → Buf (Elt Ideal) ℓ) (ρ : Dev nD → PrngReg)

/-- The array of gated products is the reference's. -/
theorem products (c : Dev nD) : (Gen.dat3 (Gen.V5 m ρ) c).arrAt 5 cfg3.N
    = UpReferenceIdeal.Read.val_main_v23 (F := Ideal) (m ((c.tc : Thread nD τ).loc main_arg0)) (m ((c.tc : Thread nD τ).loc main_arg1))
        (m ((c.tc : Thread nD τ).loc main_arg2)) (m ((c.tc : Thread nD τ).loc main_arg4)) := by
  rw [Gate.final5]
  funext i
  idx_vars i
  rw [UpReferenceIdeal.At.product]
  refine Eq.trans (b := Gate.gated _ _) rfl ?_
  rw [UpReferenceIdeal.At.gate, UpReferenceIdeal.At.up,
    ← projection _ _ _ _ _ _ (Run.residual m ρ c) (Run.squares m ρ c) (Run.gate m ρ c),
    ← projection _ _ _ _ _ _ (Run.residual m ρ c) (Run.squares m ρ c) (Run.up m ρ c), ← Norm.silu]
  rfl

/-- The down weights' tiles are the reference's. -/
theorem tiles (c : Dev nD) : (Gen.dat3 (Gen.V5 m ρ) c).arrAt 6 cfg3.N
    = UpReferenceIdeal.Read.val_main_v28 (F := Ideal) (m ((c.tc : Thread nD τ).loc main_arg3)) := by
  rw [Gate.final6]
  funext i
  idx_vars i
  refine Eq.trans ?_ (UpReferenceIdeal.At.tiles _ _ _ _).symm
  exact congrArg (fun W => Gate.downTiles W _) (Gen.W5_args m ρ c main_arg3 (by decide))

theorem algebraic : Cert.algebraic_UpIdeal_UpReferenceIdeal := by
  intro m ρ m' ρ' _ hagree
  refine ⟨fun c => (Gen.dat3 (Gen.V5 m ρ) c).arrAt 5 cfg3.N, fun c => (Gen.dat3 (Gen.V5 m ρ) c).arrAt 6 cfg3.N, ?_, ?_⟩
  · exact (θ_run Cert.UpIdeal.defs _ _).mono (fun _ h c => ⟨(h c).1.1, (h c).1.2, (h c).2 _ (by decide), (h c).2 _ (by decide),
      (h c).2 _ (by decide), (h c).2 _ (by decide), (h c).2 _ (by decide)⟩) (Run.run m ρ)
  · refine (θ_run Cert.UpReferenceIdeal.defs _ _).mono (fun _ h c => ⟨(h c).1.trans ?_, (h c).2.1.trans ?_, (h c).2.2⟩)
      (Cert.UpReferenceIdeal.Value.run (F := Ideal) m' ρ')
    · rw [UpReferenceIdeal.Read.val_main_v23_eq, (hagree c).1, (hagree c).2.1, (hagree c).2.2.1, (hagree c).2.2.2.2]
      exact (products m ρ c).symm
    · rw [UpReferenceIdeal.Read.val_main_v28_eq, (hagree c).2.2.2.1]
      exact (tiles m ρ c).symm

theorem frame_kernel : Cert.quiescent_Up := fun m ρ _ => Cert.Up.Gen.frame m ρ
theorem frame_ideal : Cert.quiescent_UpIdeal := fun m ρ _ => Cert.UpIdeal.Gen.frame m ρ
theorem frame_ref : Cert.quiescent_UpReferenceIdeal := fun m ρ _ =>
  (θ_run Cert.UpReferenceIdeal.defs _ _).mono (fun r h => ⟨fun c => (h c).2.2, sem_eq_zero_of_no_sems (by decide) r.2⟩)
    (Cert.UpReferenceIdeal.Value.run (F := Ideal) m ρ)

end Cert.Proof.Up

end
-- ==== Proof.DownValue.lean ====
/- The down projection: what the kernel adds to the residual. -/
module

public import proofs.«01_k».proof.Proof.Gen.DownIdeal.Value
public import proofs.«01_k».proof.Proof.Gen.DownReferenceIdeal.Read
public import Idealize.ShloMosaic.Lib.Pipeline.ValueKit
public import Idealize.ShloMosaic.Lib.Pointwise

@[expose] public section

set_option maxRecDepth 16384

noncomputable section

namespace Cert.DownIdeal.Down

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- One element of the payload. -/
theorem payload (v0 : Vec Ideal S512x512 .f32) (v1 : Vec Ideal S512x11008 .bf16) (v2 : Vec Ideal S1x11008x512 .bf16) (r d : Fin 512) :
    k0_pay1 (F := Ideal) v0 v1 v2 (ix2 r d)
    = (show EReal from v0 (ix2 r d)) + ∑ k : Fin 11008, (show EReal from v1 (ix2 r k)) * (show EReal from v2 (ix3 (0 : Fin 1) k d)) := by
  pointwise [k0_pay1]

theorem idx : ∀ t : Fin cfg0.N, win0_0.index t = ![(grid0.coords t 0).val, 0]
    ∧ win0_1.index t = ![(grid0.coords t 1).val, 0, 0]
    ∧ win0_2.index t = ![(grid0.coords t 0).val, (grid0.coords t 1).val]
    ∧ win0_3.index t = ![(grid0.coords t 0).val, (grid0.coords t 1).val] :=
  (by decide +kernel : ∀ t : Fin grid0.N, _)

theorem lt0 (t : Fin cfg0.N) : (grid0.coords t 0).val < 32 := (grid0.coords t 0).isLt
theorem lt1 (t : Fin cfg0.N) : (grid0.coords t 1).val < 8 := (grid0.coords t 1).isLt

theorem read0 (c : Dev nD) (t : Fin cfg0.N) (r : Fin 512) (k : Fin 11008) : iblk m c 0 t (ix2 r k)
    = m ((c : Thread nD τ).loc main_arg0) (ix2 (⟨(grid0.coords t 0).val * 512 + r.val, by have := lt0 t; omega⟩ : Fin 16384) k) := by
  blk_ext [iblk, V, idx t]
theorem read1 (c : Dev nD) (t : Fin cfg0.N) (k : Fin 11008) (d : Fin 512) : iblk m c 1 t (ix3 (0 : Fin 1) k d)
    = m ((c : Thread nD τ).loc main_arg1) (ix3 (⟨(grid0.coords t 1).val, lt1 t⟩ : Fin 8) k d) := by
  blk_ext [iblk, V, idx t]
theorem read2 (c : Dev nD) (t : Fin cfg0.N) (r d : Fin 512) : iblk m c 2 t (ix2 r d)
    = m ((c : Thread nD τ).loc main_arg2) (ix2 (⟨(grid0.coords t 0).val * 512 + r.val, by have := lt0 t; omega⟩ : Fin 16384)
        (⟨(grid0.coords t 1).val * 512 + d.val, by have := lt1 t; omega⟩ : Fin 4096)) := by
  blk_ext [iblk, V, idx t]

/-- The residual with the down projection added, one place. -/
def element (X : FVec Ideal S16384x11008 .bf16) (W : FVec Ideal S8x11008x512 .bf16) (Y : FVec Ideal S16384x4096 .f32)
    (i : Fin 16384) (j : Fin 8) (d : Fin 512) : EReal :=
  (show EReal from Y (ix2 i (⟨j.val * 512 + d.val, by omega⟩ : Fin 4096)))
  + ∑ k : Fin 11008, (show EReal from X (ix2 i k)) * (show EReal from W (ix3 j k d))

/-- The residual with the down projection added, as an array. -/
def added (X : FVec Ideal S16384x11008 .bf16) (W : FVec Ideal S8x11008x512 .bf16) (Y : FVec Ideal S16384x4096 .f32)
    (i : S16384x4096.Idx) : EReal :=
  element X W Y (⟨(i 0).val, (i 0).isLt⟩ : Fin 16384)
    (⟨(i 1).val / 512, by have : (i 1).val < 4096 := (i 1).isLt; omega⟩ : Fin 8) (⟨(i 1).val % 512, Nat.mod_lt _ (by decide)⟩ : Fin 512)

theorem element_congr (X : FVec Ideal S16384x11008 .bf16) (W : FVec Ideal S8x11008x512 .bf16) (Y : FVec Ideal S16384x4096 .f32)
    {i i' : Fin 16384} {j j' : Fin 8} {d d' : Fin 512} (h0 : i.val = i'.val) (h1 : j.val = j'.val) (h2 : d.val = d'.val) :
    element X W Y i j d = element X W Y i' j' d' := by
  rw [Fin.ext h0, Fin.ext h1, Fin.ext h2]

/-- At every point the block is left at the payload. -/
theorem left (c : Dev nD) (t : Fin cfg0.N) (y : S512x512.Idx) :
    (outsAt0 m c t.val t.isLt).1 y = k0_pay1 (F := Ideal) (iblk m c 2 t) (iblk m c 0 t) (iblk m c 1 t) y := by
  by_cases h0 : t.val % 8 = 0
  · rw [outsAt0_A m c t h0 (by omega)]
    dsimp only
    unfold out0_A_3
    frame_out
  · rw [outsAt0_B m c t h0 (by omega)]
    dsimp only
    unfold out0_B_3
    frame_out

/-- What a point leaves in its block. -/
theorem point (c : Dev nD) (t : Fin cfg0.N) (r d : Fin 512) : (outsAt0 m c t.val t.isLt).1 (ix2 r d)
    = element (m ((c : Thread nD τ).loc main_arg0)) (m ((c : Thread nD τ).loc main_arg1)) (m ((c : Thread nD τ).loc main_arg2))
      (⟨(grid0.coords t 0).val * 512 + r.val, by have := lt0 t; omega⟩ : Fin 16384) (⟨(grid0.coords t 1).val, lt1 t⟩ : Fin 8) d := by
  rw [left, payload]
  simp only [read0, read1, read2]
  rfl

/-- The residual's array after the last point. -/
theorem final (c : Dev nD) : (dats m 0 c).arrAt 3 cfg0.N
    = added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have e : (win0_3.blk t).view.emb y = (ix2
      (⟨(grid0.coords t 0).val * 512 + (y 0).val, by have := lt0 t; have : (y 0).val < 512 := (y 0).isLt; omega⟩ : Fin 16384)
      (⟨(grid0.coords t 1).val * 512 + (y 1).val, by have := lt1 t; have : (y 1).val < 512 := (y 1).isLt; omega⟩ : Fin 4096) : S16384x4096.Idx) := by
    blk_ext [idx t]
  have ey : y = (ix2 (⟨(y 0).val, (y 0).isLt⟩ : Fin 512) (⟨(y 1).val, (y 1).isLt⟩ : Fin 512) : S512x512.Idx) := by blk_ext []
  have hy : (y 1).val < 512 := (y 1).isLt
  rw [e, after0_3]
  refine (congrArg (outsAt0 m c t.val t.isLt).1 ey).trans ((point m c t _ _).trans ?_)
  refine element_congr _ _ _ rfl ?_ ?_
  · show (grid0.coords t 1).val = ((grid0.coords t 1).val * 512 + (y 1).val) / 512
    omega
  · show (y 1).val = ((grid0.coords t 1).val * 512 + (y 1).val) % 512
    omega

/-- The reference read at a place. -/
theorem reference (X : FVec Ideal S16384x11008 .bf16) (W : FVec Ideal S8x11008x512 .bf16) (Y : FVec Ideal S16384x4096 .f32)
    (i : S16384x4096.Idx) : DownReferenceIdeal.Read.val_main_v5 (F := Ideal) X W Y i = added X W Y i := by
  idx_vars i
  pointwise [DownReferenceIdeal.Read.val_main_v5, DownReferenceIdeal.Read.val_main_v4, DownReferenceIdeal.Read.val_main_v3,
    DownReferenceIdeal.Read.val_main_v2, DownReferenceIdeal.Read.val_main_v1, DownReferenceIdeal.Read.val_main_v0]
  refine congrArg (· + _) (congrArg (fun n => Y (ix2 i0 n)) (Fin.ext ?_))
  show i1.val = i1.val / 512 * 512 + i1.val % 512
  omega

end Cert.DownIdeal.Down

end
-- ==== Proof.DownClaims.lean ====
/- The claims about the down projection: its frames, and that kernel and reference leave the same residual. -/
module

public import proofs.«01_k».proof.Defs
public import proofs.«01_k».proof.Proof.Gen.Down
public import proofs.«01_k».proof.Proof.Gen.Down.Frame
public import proofs.«01_k».proof.Proof.Gen.DownIdeal.Frame
public import proofs.«01_k».proof.Proof.Gen.DownReferenceIdeal
public import proofs.«01_k».proof.Proof.Gen.DownReferenceIdeal.Run
public import proofs.«01_k».proof.Proof.DownValue

@[expose] public section

set_option maxRecDepth 16384

noncomputable section

namespace Cert.Proof.Down

open Idealize.ShloMosaic Idealize.SL.Sem
open Cert Cert.DownIdeal

theorem algebraic : Cert.algebraic_DownIdeal_DownReferenceIdeal := by
  intro m ρ m' ρ' _ hagree
  refine ⟨fun c => Down.added (m ((c.tc : Thread nD τ).loc main_arg0)) (m ((c.tc : Thread nD τ).loc main_arg1))
    (m ((c.tc : Thread nD τ).loc main_arg2)), ?_, ?_⟩
  · exact (θ_run Cert.DownIdeal.defs _ _).mono (fun _ h c => ⟨(h c).1.trans (Down.final m c), (h c).2.2.2⟩)
      (Cert.DownIdeal.Value.run_blocks m ρ)
  · refine (θ_run Cert.DownReferenceIdeal.defs _ _).mono (fun _ h c => ⟨(h c).1.trans ?_, (h c).2⟩)
      (Cert.DownReferenceIdeal.Value.run (F := Ideal) m' ρ')
    rw [DownReferenceIdeal.Read.val_main_v5_eq, (hagree c).1, (hagree c).2.1, (hagree c).2.2]
    exact funext fun i => Down.reference _ _ _ i

theorem frame_kernel : Cert.quiescent_Down := fun m ρ _ => Cert.Down.Gen.frame m ρ
theorem frame_ideal : Cert.quiescent_DownIdeal := fun m ρ _ => Cert.DownIdeal.Gen.frame m ρ
theorem frame_ref : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

end Cert.Proof.Down

end
-- ==== Proof.FinalValue.lean ====
/- The final norm of the prompt's rows and of the samples' rows: what its two calls leave. -/
module

public import proofs.«01_k».proof.Proof.Gen.FinalIdeal.Frame
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

namespace Cert.FinalIdeal.Rows

open Cert.FinalIdeal Cert.FinalIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

/-- One element of a normalised and gained row. -/
def element (x g : Fin 4096 → EReal) (k : Fin 4096) : EReal := x k * Norm.rstd (∑ n, x n * x n) * g k

/-- A block of the prompt's rows. -/
theorem prompt (x : Vec Ideal S256x4096 .f32) (g : Vec Ideal S1x4096 .f32) (a : Fin 256) (k : Fin 4096) :
    out0_2 (F := Ideal) x g (ix2 a k) = element (fun n => x (ix2 a n)) (fun n => g (ix2 (0 : Fin 1) n)) k := by
  unfold out0_2
  frame_out
  pointwise [k0_pay1]
  rfl

/-- The samples' rows. -/
theorem sample (x : Vec Ideal S128x4096 .f32) (g : Vec Ideal S1x4096 .f32) (a : Fin 128) (k : Fin 4096) :
    out1_2 (F := Ideal) x g (ix2 a k) = element (fun n => x (ix2 a n)) (fun n => g (ix2 (0 : Fin 1) n)) k := by
  unfold out1_2
  frame_out
  pointwise [k1_pay1]
  rfl

section Arrays

variable (V : (c : Dev nD) → (b : Ref sig .tc) → Buf (Elt Ideal) ((c : Thread nD τ).loc b))

theorem idx0 : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

theorem idx1 : ∀ t : Fin cfg1.N, win1_0.index t = ![(grid1.coords t 0).val, 0] ∧ win1_1.index t = ![0, 0]
    ∧ win1_2.index t = ![(grid1.coords t 0).val, 0] :=
  (by decide +kernel : ∀ t : Fin grid1.N, _)

theorem lt0 (t : Fin cfg0.N) : (grid0.coords t 0).val < 64 := (grid0.coords t 0).isLt
theorem lt1 (t : Fin cfg1.N) : (grid1.coords t 0).val < 1 := (grid1.coords t 0).isLt

/-- The prompt's rows, normalised and gained. -/
def promptRows (X : FVec Ideal S16384x4096 .f32) (g : FVec Ideal S1x4096 .f32) (i : S16384x4096.Idx) : EReal :=
  element (fun n => X (ix2 (⟨(i 0).val, (i 0).isLt⟩ : Fin 16384) n)) (fun n => g (ix2 (0 : Fin 1) n)) (⟨(i 1).val, (i 1).isLt⟩ : Fin 4096)

/-- The samples' rows, normalised and gained. -/
def sampleRows (X : FVec Ideal S128x4096 .f32) (g : FVec Ideal S1x4096 .f32) (i : S128x4096.Idx) : EReal :=
  element (fun n => X (ix2 (⟨(i 0).val, (i 0).isLt⟩ : Fin 128) n)) (fun n => g (ix2 (0 : Fin 1) n)) (⟨(i 1).val, (i 1).isLt⟩ : Fin 4096)

theorem final0 (c : Dev nD) : (dat0 V c).arrAt 2 cfg0.N = promptRows (V c main_arg0) (V c main_v0) := by
  refine (dat0 V c).arrAt_eq_of_covers 2 _ (by decide +kernel) fun t hf y => ?_
  blk_simp
  have e : (win0_2.blk t).view.emb y = (ix2
      (⟨(grid0.coords t 0).val * 256 + (y 0).val, by have := lt0 t; have : (y 0).val < 256 := (y 0).isLt; omega⟩ : Fin 16384)
      (⟨(y 1).val, (y 1).isLt⟩ : Fin 4096) : S16384x4096.Idx) := by
    blk_ext [idx0 t]
  have ey : y = (ix2 (⟨(y 0).val, (y 0).isLt⟩ : Fin 256) (⟨(y 1).val, (y 1).isLt⟩ : Fin 4096) : S256x4096.Idx) := by blk_ext []
  have r0 : ∀ (a : Fin 256) (k : Fin 4096), iblk0 V c 0 t (ix2 a k)
      = V c main_arg0 (ix2 (⟨(grid0.coords t 0).val * 256 + a.val, by have := lt0 t; omega⟩ : Fin 16384) k) := fun a k => by
    blk_ext [iblk0, idx0 t]
  have r1 : ∀ k : Fin 4096, iblk0 V c 1 t (ix2 (0 : Fin 1) k) = V c main_v0 (ix2 (0 : Fin 1) k) := fun k => by
    blk_ext [iblk0, idx0 t]
  rw [e, after0_2]
  refine (congrArg (out0_2 (F := Ideal) (iblk0 V c 0 t) (iblk0 V c 1 t)) ey).trans ((prompt _ _ _ _).trans ?_)
  exact congrArg₂ (fun x g => element x g _) (funext fun k => r0 _ k) (funext fun k => r1 k)

theorem final1 (c : Dev nD) : (dat1 V c).arrAt 2 cfg1.N = sampleRows (V c main_arg1) (V c main_v3) := by
  refine (dat1 V c).arrAt_eq_of_covers 2 _ (by decide +kernel) fun t hf y => ?_
  blk_simp
  have e : (win1_2.blk t).view.emb y = (ix2
      (⟨(y 0).val, (y 0).isLt⟩ : Fin 128)
      (⟨(y 1).val, (y 1).isLt⟩ : Fin 4096) : S128x4096.Idx) := by
    have := lt1 t
    blk_ext [idx1 t]
  have ey : y = (ix2 (⟨(y 0).val, (y 0).isLt⟩ : Fin 128) (⟨(y 1).val, (y 1).isLt⟩ : Fin 4096) : S128x4096.Idx) := by blk_ext []
  have r0 : ∀ (a : Fin 128) (k : Fin 4096), iblk1 V c 0 t (ix2 a k) = V c main_arg1 (ix2 a k) := fun a k => by
    have := lt1 t
    blk_ext [iblk1, idx1 t]
  have r1 : ∀ k : Fin 4096, iblk1 V c 1 t (ix2 (0 : Fin 1) k) = V c main_v3 (ix2 (0 : Fin 1) k) := fun k => by
    blk_ext [iblk1, idx1 t]
  rw [e, after1_2]
  refine (congrArg (out1_2 (F := Ideal) (iblk1 V c 0 t) (iblk1 V c 1 t)) ey).trans ((sample _ _ _ _).trans ?_)
  exact congrArg₂ (fun x g => element x g _) (funext fun k => r0 _ k) (funext fun k => r1 k)

end Arrays

variable (m : (ℓ : Loc nD τ sig) → Buf (Elt Ideal) ℓ) (ρ : Dev nD → PrngReg)

/-- The gain as a row. -/
def gain (g : FVec Ideal S4096 .f32) : FVec Ideal S1x4096 .f32 := shapeCast S1x4096 g shapeCasts_S4096_S1x4096

theorem gain_at (g : FVec Ideal S4096 .f32) (k : Fin 4096) : gain g (ix2 (0 : Fin 1) k) = g (ix1 k) := by
  unfold gain
  pointwise []

theorem entry0 (c : Dev nD) : V1 m ρ c main_v0 = gain (m ((c : Thread nD τ).loc main_arg2)) := by
  show W1 m ρ c (Proc.devRef .tc main_v0) = _
  unfold W1
  after_results
  rfl

theorem entry1 (c : Dev nD) : V3 m ρ c main_v3 = gain (m ((c : Thread nD τ).loc main_arg2)) := by
  show W3 m ρ c (Proc.devRef .tc main_v3) = _
  unfold W3
  after_results
  rw [W2_args m ρ c main_arg2 (by decide)]
  rfl

/-- The prompt's result at the end. -/
theorem prompt_end (c : Dev nD) : W5 m ρ c (Proc.devRef .tc main_v2)
    = shapeCast S1x16384x4096 (promptRows (m ((c : Thread nD τ).loc main_arg0)) (gain (m ((c : Thread nD τ).loc main_arg2))) : FVec Ideal S16384x4096 .f32)
      shapeCasts_S16384x4096_S1x16384x4096 := by
  have e : W2 m ρ c (Proc.devRef .tc main_v1)
      = promptRows (m ((c : Thread nD τ).loc main_arg0)) (gain (m ((c : Thread nD τ).loc main_arg2))) := by
    refine ((W2_arr m ρ c 2).trans (final0 (V1 m ρ) c)).trans ?_
    rw [entry0]
    exact congrArg (fun X => promptRows X _) (W1_args m ρ c main_arg0 (by decide))
  refine (W5_of m ρ c main_v2 (by decide)).trans ((W4_of m ρ c main_v2 (by decide)).trans ?_)
  unfold W3
  after_results
  rw [e]
  rfl

/-- The samples' result at the end. -/
theorem sample_end (c : Dev nD) : W5 m ρ c (Proc.devRef .tc main_v5)
    = shapeCast S8x16x4096 (sampleRows (m ((c : Thread nD τ).loc main_arg1)) (gain (m ((c : Thread nD τ).loc main_arg2))) : FVec Ideal S128x4096 .f32)
      shapeCasts_S128x4096_S8x16x4096 := by
  have e : W4 m ρ c (Proc.devRef .tc main_v4)
      = sampleRows (m ((c : Thread nD τ).loc main_arg1)) (gain (m ((c : Thread nD τ).loc main_arg2))) := by
    refine ((W4_arr m ρ c 2).trans (final1 (V3 m ρ) c)).trans ?_
    rw [entry1]
    exact congrArg (fun X => sampleRows X _) (W3_args m ρ c main_arg1 (by decide))
  unfold W5
  after_results
  rw [e]
  rfl

set_option backward.isDefEq.respectTransparency.types false in
/-- Every final state has the arrays of the last boundary. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.FinalIdeal.Rows

end
-- ==== Proof.FinalClaims.lean ====
/- The claims about the final norm: its frames, and that kernel and reference leave the same two results. -/
module

public import proofs.«01_k».proof.Defs
public import proofs.«01_k».proof.Proof.Gen.Final
public import proofs.«01_k».proof.Proof.Gen.Final.Frame
public import proofs.«01_k».proof.Proof.Gen.FinalIdeal
public import proofs.«01_k».proof.Proof.Gen.FinalReferenceIdeal
public import proofs.«01_k».proof.Proof.Gen.FinalReferenceIdeal.Run
public import proofs.«01_k».proof.Proof.Gen.FinalReferenceIdeal.Read
public import proofs.«01_k».proof.Proof.FinalValue

@[expose] public section

set_option maxRecDepth 16384

noncomputable section

namespace Cert.Proof.Final

open Idealize.ShloMosaic Idealize.SL.Sem
open Cert Cert.FinalIdeal

section Reference

open FinalReferenceIdeal.Read

/-- The prompt's rows are the reference's. -/
theorem prompt (x : FVec Ideal S16384x4096 .f32) (g : FVec Ideal S4096 .f32) :
    (shapeCast S1x16384x4096 (Rows.promptRows x (Rows.gain g) : FVec Ideal S16384x4096 .f32) Gen.shapeCasts_S16384x4096_S1x16384x4096)
    = val_main_v13 (F := Ideal) x g := by
  funext i
  idx_vars i
  obtain rfl : i0 = (0 : Fin 1) := Subsingleton.elim _ _
  have e : val_main_v2 (F := Ideal) x (ix2 (0 : Fin 1) i1) = ∑ n : Fin 4096, (show EReal from x (ix2 i1 n)) * (show EReal from x (ix2 i1 n)) := by
    pointwise [val_main_v2, val_main_v1, val_main_v0, val_main_cst]
  have e' : val_main_v8 (F := Ideal) x (ix3 (0 : Fin 1) i1 (0 : Fin 1)) = Norm.rstd (val_main_v2 (F := Ideal) x (ix2 (0 : Fin 1) i1)) := by
    generalize h : val_main_v2 (F := Ideal) x = s
    unfold val_main_v8 val_main_v7 val_main_v5 val_main_v3
    rw [h]
    pointwise [val_main_v4, val_main_v6, val_main_cst_0, val_main_cst_1]
    rfl
  have e'' : val_main_v13 (F := Ideal) x g (ix3 (0 : Fin 1) i1 i2)
      = (show EReal from x (ix2 i1 i2)) * (show EReal from val_main_v8 (F := Ideal) x (ix3 (0 : Fin 1) i1 (0 : Fin 1))) * (show EReal from g (ix1 i2)) := by
    unfold val_main_v13 val_main_v10 val_main_v9
    generalize val_main_v8 (F := Ideal) x = s
    pointwise [val_main_v12, val_main_v11, val_main_v0]
  rw [e'', e', e]
  pointwise []
  show Rows.element _ _ _ = _
  unfold Rows.element
  simp only [Rows.gain_at]
  rfl

/-- The samples' rows are the reference's. -/
theorem sample (x : FVec Ideal S128x4096 .f32) (g : FVec Ideal S4096 .f32) :
    (shapeCast S8x16x4096 (Rows.sampleRows x (Rows.gain g) : FVec Ideal S128x4096 .f32) Gen.shapeCasts_S128x4096_S8x16x4096)
    = val_main_v27 (F := Ideal) x g := by
  funext i
  idx_vars i
  have e : val_main_v16 (F := Ideal) x (ix2 i0 i1) = ∑ n : Fin 4096, (show EReal from x (ix2 (⟨i0.val * 16 + i1.val, by omega⟩ : Fin 128) n))
      * (show EReal from x (ix2 (⟨i0.val * 16 + i1.val, by omega⟩ : Fin 128) n)) := by
    pointwise [val_main_v16, val_main_v15, val_main_v14, val_main_cst_2]
  have e' : val_main_v22 (F := Ideal) x (ix3 i0 i1 (0 : Fin 1)) = Norm.rstd (val_main_v16 (F := Ideal) x (ix2 i0 i1)) := by
    generalize h : val_main_v16 (F := Ideal) x = s
    unfold val_main_v22 val_main_v21 val_main_v19 val_main_v17
    rw [h]
    pointwise [val_main_v18, val_main_v20, val_main_cst_3, val_main_cst_4]
    rfl
  have e'' : val_main_v27 (F := Ideal) x g (ix3 i0 i1 i2)
      = (show EReal from x (ix2 (⟨i0.val * 16 + i1.val, by omega⟩ : Fin 128) i2))
        * (show EReal from val_main_v22 (F := Ideal) x (ix3 i0 i1 (0 : Fin 1))) * (show EReal from g (ix1 i2)) := by
    unfold val_main_v27 val_main_v24 val_main_v23
    generalize val_main_v22 (F := Ideal) x = s
    pointwise [val_main_v26, val_main_v25, val_main_v14]
  rw [e'', e', e]
  pointwise []
  show Rows.element _ _ _ = _
  unfold Rows.element
  simp only [Rows.gain_at]
  rfl

end Reference

theorem algebraic : Cert.algebraic_FinalIdeal_FinalReferenceIdeal := by
  intro m ρ m' ρ' _ hagree
  refine ⟨fun c => Gen.W5 m ρ c (Proc.devRef .tc main_v2), fun c => Gen.W5 m ρ c (Proc.devRef .tc main_v5), ?_, ?_⟩
  · exact (θ_run Cert.FinalIdeal.defs _ _).mono (fun _ h c => ⟨h c _ (Gen.mem_uc main_v2 (by decide)), h c _ (Gen.mem_uc main_v5 (by decide)),
      (h c _ (Gen.mem_uc main_arg0 (by decide))).trans (Gen.W5_args m ρ c main_arg0 (by decide)),
      (h c _ (Gen.mem_uc main_arg1 (by decide))).trans (Gen.W5_args m ρ c main_arg1 (by decide)),
      (h c _ (Gen.mem_uc main_arg2 (by decide))).trans (Gen.W5_args m ρ c main_arg2 (by decide))⟩) (Rows.run m ρ)
  · refine (θ_run Cert.FinalReferenceIdeal.defs _ _).mono (fun _ h c => ⟨(h c).1.trans ?_, (h c).2.1.trans ?_, (h c).2.2⟩)
      (Cert.FinalReferenceIdeal.Value.run (F := Ideal) m' ρ')
    · rw [FinalReferenceIdeal.Read.val_main_v13_eq, (hagree c).1, (hagree c).2.2]
      exact ((Rows.prompt_end m ρ c).trans (prompt _ _)).symm
    · rw [FinalReferenceIdeal.Read.val_main_v27_eq, (hagree c).2.1, (hagree c).2.2]
      exact ((Rows.sample_end m ρ c).trans (sample _ _)).symm

theorem frame_kernel : Cert.quiescent_Final := fun m ρ _ => Cert.Final.Gen.frame m ρ
theorem frame_ideal : Cert.quiescent_FinalIdeal := fun m ρ _ => Cert.FinalIdeal.Gen.frame m ρ
theorem frame_ref : Cert.quiescent_FinalReferenceIdeal := fun m ρ _ =>
  (θ_run Cert.FinalReferenceIdeal.defs _ _).mono (fun r h => ⟨fun c => (h c).2.2, sem_eq_zero_of_no_sems (by decide) r.2⟩)
    (Cert.FinalReferenceIdeal.Value.run (F := Ideal) m ρ)

end Cert.Proof.Final

end
-- ==== Proof.Row.lean ====
/- One row against gained weights: the squares come lane by lane, the scale after the contraction. -/
module

public import proofs.«01_k».proof.Proof.Norm
public import proofs.«01_k».proof.Proof.UpSquares

@[expose] public section

noncomputable section

namespace Cert.Norm

open Idealize.ShloMosaic
open Cert.UpIdeal.Squares (lane)

/-- A contraction scaled by the reciprocal root of lane sums. -/
def scaled (x q w : Fin 4096 → EReal) (l : Fin 128 → EReal) : EReal := (∑ k, x k * (w k * q k)) * rstd (∑ i, l i)

/-- The contraction of a normalised and gained row. -/
def plain (x g w : Fin 4096 → EReal) : EReal := ∑ k, x k * rstd (∑ n, x n * x n) * g k * w k

/-- The row scaled after the contraction with gained weights is the normalised row's contraction. -/
theorem scaled_eq (x g w : Fin 4096 → EReal) : scaled x g w (lane x) = plain x g w := by
  have e : ∑ l : Fin 128, lane x l = ∑ k : Fin 4096, x k * x k := lanes fun k => x k * x k
  have hr := rstd_bounds (∑ k : Fin 4096, x k * x k) (Finset.sum_nonneg fun k _ => sq_nonneg _)
  unfold scaled
  rw [e]
  exact pull _ hr.1 hr.2 x g w

/-- A further factor on the scale is one on the result. -/
theorem scaled_factor (x g w : Fin 4096 → EReal) (s : EReal) :
    (∑ k, x k * (w k * g k)) * (rstd (∑ i, lane x i) * s) = plain x g w * s := by
  rw [← mul_assoc]
  exact congrArg (· * s) (scaled_eq x g w)

end Cert.Norm

end
-- ==== Proof.HeadsParts.lean ====
/- One point's blocks in the calls of the layer with heads: the gained weights, the residual and its squares, the queries, and a stack's heads. -/
module

public import proofs.«01_k».proof.Proof.Gen.HeadsIdeal.Frame
public import proofs.«01_k».proof.Proof.Row
public import Idealize.ShloMosaic.Lib.Pipeline.ValueKit
public import Idealize.ShloMosaic.Lib.Pointwise

@[expose] public section

set_option maxRecDepth 16384

noncomputable section

namespace Cert.HeadsIdeal.Parts

open Cert.HeadsIdeal Cert.HeadsIdeal.Gen Idealize.ShloMosaic Idealize.ShloMosaic.TcCoe Idealize.SL.Sem
open Idealize.ShloMosaic.Pipeline (Dat)
open Cert.UpIdeal.Squares (lane)

theorem gained (x0 : Vec Ideal S1x256x6144 .f32) (x1 : Vec Ideal S256x1 .f32) (a : Fin 256) (b : Fin 6144) :
    out0_2 (F := Ideal) x0 x1 (ix2 a b) = (show EReal from x0 (ix3 (0 : Fin 1) a b)) * (show EReal from x1 (ix2 a (0 : Fin 1))) := by
  unfold out0_2
  frame_out
  pointwise [k0_pay1]

theorem copied (x : Vec Ideal S256x4096 .f32) (a : Fin 256) (k : Fin 4096) : out1_1 (F := Ideal) x (ix2 a k) = x (ix2 a k) :=
  Cert.UpIdeal.Squares.copied x a k

theorem squares (x : Vec Ideal S256x4096 .f32) (a : Fin 256) (l : Fin 128) :
    out1_2 (F := Ideal) x (ix2 a l) = lane (fun k => x (ix2 a k)) l :=
  Cert.UpIdeal.Squares.squares x a l

/-- A block of queries: the scale has the attention's factor. -/
theorem query (x0 : Vec Ideal S1024x4096 .bf16) (x1 : Vec Ideal S1024x128 .f32) (x2 : Vec Ideal S4096x512 .bf16) (a : Fin 1024) (n : Fin 512) :
    out2_3 (F := Ideal) x0 x1 x2 (ix2 a n) = (∑ k : Fin 4096, (show EReal from x0 (ix2 a k)) * (show EReal from x2 (ix2 k n)))
      * (Norm.rstd (∑ l : Fin 128, (show EReal from x1 (ix2 a l))) * Ideal.ofBits .f32 0x3DB504F3#32) := by
  unfold out2_3
  frame_out
  pointwise [k2_pay1]
  rfl

/-- A block of keys or values before it is laid out by heads. -/
theorem projected (x0 : Vec Ideal S1024x4096 .bf16) (x1 : Vec Ideal S1024x128 .f32) (x2 : Vec Ideal S4096x1024 .bf16) (a n : Fin 1024) :
    k3_pay12 (F := Ideal) x0 x1 x2 (ix2 a n) = (∑ k : Fin 4096, (show EReal from x0 (ix2 a k)) * (show EReal from x2 (ix2 k n)))
      * Norm.rstd (∑ l : Fin 128, (show EReal from x1 (ix2 a l))) := by
  pointwise [k3_pay12, k3_pay7]
  rfl

/-- One head of a block. -/
theorem piece (T : FVec Ideal S1024x1024 .f32) (y : S1x1024x8x128.Idx) (o p : ℕ) (x : S1x1024x1x128.Idx)
    (h1 : (y 1).val = (x 1).val) (h2 : (y 2).val = p + (x 2).val) (h3 : (y 3).val = (x 3).val)
    (hs : S1024x1024.Slices ![0, o] S1024x128) (ho : o = p * 128) (hc) :
    (shapeCast S1x1024x1x128 (extractStridedSlice S1024x128 ![0, o] T hs) hc : FVec Ideal S1x1024x1x128 .f32) x
    = T (ix2 (⟨(y 1).val, (y 1).isLt⟩ : Fin 1024)
        (⟨(y 2).val * 128 + (y 3).val, by have : (y 2).val < 8 := (y 2).isLt; have : (y 3).val < 128 := (y 3).isLt; omega⟩ : Fin 1024)) := by
  subst ho
  idx_vars x
  have : x2.val < 1 := x2.isLt
  have : x0.val < 1 := x0.isLt
  pointwise
  have h2' : (y 2).val = p + x2.val := h2
  have h3' : (y 3).val = x3.val := h3
  exact congrArg T (congrArg₂ ix2 (Fin.ext h1.symm) (Fin.ext (by dsimp only; omega)))

/-- A block of heads. -/
theorem heads (x0 : Vec Ideal S1024x4096 .bf16) (x1 : Vec Ideal S1024x128 .f32) (x2 : Vec Ideal S4096x1024 .bf16) (y : S1x1024x8x128.Idx) :
    out3_3 (F := Ideal) x0 x1 x2 y = k3_pay12 (F := Ideal) x0 x1 x2 (ix2 (⟨(y 1).val, (y 1).isLt⟩ : Fin 1024)
        (⟨(y 2).val * 128 + (y 3).val, by have : (y 2).val < 8 := (y 2).isLt; have : (y 3).val < 128 := (y 3).isLt; omega⟩ : Fin 1024)) := by
  unfold out3_3
  canon_tiles x h
  case piece4 => exact piece (k3_pay12 (F := Ideal) x0 x1 x2) y 384 3 x h1 h2 h3 slices_S1024x1024_o0_384_S1024x128 rfl _
  case piece7 => exact piece (k3_pay12 (F := Ideal) x0 x1 x2) y 0 0 x h1 (h2.trans (Nat.zero_add _).symm) h3 slices_S1024x1024_o0_0_S1024x128 rfl _
  all_goals
    have k := fun o => piece (k3_pay12 (F := Ideal) x0 x1 x2) y o _ x h1 h2 h3
    exact k _ _ (by decide) _

/-- The later calls' blocks are the first's. -/
theorem heads_again (x0 : Vec Ideal S1024x4096 .bf16) (x1 : Vec Ideal S1024x128 .f32) (x2 : Vec Ideal S4096x1024 .bf16) :
    out4_3 (F := Ideal) x0 x1 x2 = out3_3 (F := Ideal) x0 x1 x2 := rfl

/-- The product a block of heads is laid out from, of the blocks themselves. -/
theorem whole (x0 : Vec Ideal S1024x4096 .bf16) (x1 : Vec Ideal S1024x128 .f32) (x2 : Vec Ideal S4096x1024 .bf16) :
    k3_pay12 (F := Ideal) x0 x1 x2 = k3_pay7 (F := Ideal) x0 x2 x1 := by
  unfold k3_pay12
  frame_out

variable (V : (c : Dev nD) → (b : Ref sig .tc) → Buf (Elt Ideal) ((c : Thread nD τ).loc b))

/-- What a point of the second layer's calls leaves in its block of heads. -/
theorem point8 (c : Dev nD) (t : Fin cfg8.N) : (outsAt8 V c t).1 = out3_3 (F := Ideal) (iblk8 V c 0 t) (iblk8 V c 1 t) (iblk8 V c 2 t) := by
  unfold outsAt8
  dsimp only
  unfold out8_A_3
  frame_out
  rw [whole]
  rfl
theorem point9 (c : Dev nD) (t : Fin cfg9.N) : (outsAt9 V c t).1 = out3_3 (F := Ideal) (iblk9 V c 0 t) (iblk9 V c 1 t) (iblk9 V c 2 t) := by
  unfold outsAt9
  dsimp only
  unfold out9_A_3
  frame_out
  rw [whole]
  rfl

end Cert.HeadsIdeal.Parts

end
-- ==== Proof.HeadsArrays.lean ====
/- What each call of the layer with heads leaves: the gained weights, the residual and its squares, the queries, and a stack's heads. -/
module

public import proofs.«01_k».proof.Proof.HeadsParts
public import Idealize.ShloMosaic.Lib.Pipeline.ValueKit
public import Idealize.ShloMosaic.Lib.Pointwise

@[expose] public section

set_option maxRecDepth 16384

noncomputable section

namespace Cert.HeadsIdeal.Parts

open Cert.HeadsIdeal Cert.HeadsIdeal.Gen Idealize.ShloMosaic Idealize.ShloMosaic.TcCoe Idealize.SL.Sem
open Idealize.ShloMosaic.Pipeline (Dat)
open Cert.UpIdeal.Squares (lane)

/-- A layer's weights, gained row by row. -/
def weights (W : FVec Ideal S2x4096x6144 .f32) (s : Fin 2) (g : FVec Ideal S4096x1 .f32) (i : S4096x6144.Idx) : EReal :=
  (show EReal from W (ix3 s (⟨(i 0).val, (i 0).isLt⟩ : Fin 4096) (⟨(i 1).val, (i 1).isLt⟩ : Fin 6144)))
    * (show EReal from g (ix2 (⟨(i 0).val, (i 0).isLt⟩ : Fin 4096) (0 : Fin 1)))

/-- The rows' squares, lane by lane. -/
def lanesOf (X : FVec Ideal S16384x4096 .f32) (i : S16384x128.Idx) : EReal :=
  lane (fun k => X (ix2 (⟨(i 0).val, (i 0).isLt⟩ : Fin 16384) k)) (⟨(i 1).val, (i 1).isLt⟩ : Fin 128)

/-- One projected element. -/
def proj (X : FVec Ideal S16384x4096 .bf16) (Q : FVec Ideal S16384x128 .f32) (A : FVec Ideal S4096x6144 .bf16) (r : Fin 16384) (n : Fin 6144) : EReal :=
  (∑ k : Fin 4096, (show EReal from X (ix2 r k)) * (show EReal from A (ix2 k n))) * Norm.rstd (∑ l : Fin 128, (show EReal from Q (ix2 r l)))

/-- The queries. -/
def queries (X : FVec Ideal S16384x4096 .bf16) (Q : FVec Ideal S16384x128 .f32) (A : FVec Ideal S4096x6144 .bf16) (i : S16384x2048.Idx) : EReal :=
  (∑ k : Fin 4096, (show EReal from X (ix2 (⟨(i 0).val, (i 0).isLt⟩ : Fin 16384) k))
      * (show EReal from A (ix2 k (⟨(i 1).val, by have : (i 1).val < 2048 := (i 1).isLt; omega⟩ : Fin 6144))))
    * (Norm.rstd (∑ l : Fin 128, (show EReal from Q (ix2 (⟨(i 0).val, (i 0).isLt⟩ : Fin 16384) l))) * Ideal.ofBits .f32 0x3DB504F3#32)

/-- The column of the weights a head's element has, in the keys' part (`b = 0`) or the values' (`b = 1`). -/
def column (b : Fin 2) (h : Fin 16) (d : Fin 128) : Fin 6144 := ⟨(b.val + 1) * 2048 + (h.val * 128 + d.val), by omega⟩

/-- A stack's heads of one part. -/
def stack (X : FVec Ideal S16384x4096 .bf16) (Q : FVec Ideal S16384x128 .f32) (A : FVec Ideal S4096x6144 .bf16) (b : Fin 2) (i : S2x16384x16x128.Idx) : EReal :=
  proj X Q A (⟨(i 1).val, (i 1).isLt⟩ : Fin 16384) (column b (⟨(i 2).val, (i 2).isLt⟩ : Fin 16) (⟨(i 3).val, (i 3).isLt⟩ : Fin 128))

variable (V : (c : Dev nD) → (b : Ref sig .tc) → Buf (Elt Ideal) ((c : Thread nD τ).loc b))

theorem idx0 : ∀ t : Fin cfg0.N, win0_0.index t = ![0, (grid0.coords t 0).val, 0] ∧ win0_1.index t = ![(grid0.coords t 0).val, 0]
    ∧ win0_2.index t = ![(grid0.coords t 0).val, 0] :=
  (by decide +kernel : ∀ t : Fin grid0.N, _)
theorem idx5 : ∀ t : Fin cfg5.N, win5_0.index t = ![1, (grid5.coords t 0).val, 0] ∧ win5_1.index t = ![(grid5.coords t 0).val, 0]
    ∧ win5_2.index t = ![(grid5.coords t 0).val, 0] :=
  (by decide +kernel : ∀ t : Fin grid5.N, _)
theorem idx1 : ∀ t : Fin cfg1.N, win1_0.index t = ![(grid1.coords t 0).val, 0] ∧ win1_1.index t = ![(grid1.coords t 0).val, 0]
    ∧ win1_2.index t = ![(grid1.coords t 0).val, 0] :=
  (by decide +kernel : ∀ t : Fin grid1.N, _)
theorem idx6 : ∀ t : Fin cfg6.N, win6_0.index t = ![(grid6.coords t 0).val, 0] ∧ win6_1.index t = ![(grid6.coords t 0).val, 0]
    ∧ win6_2.index t = ![(grid6.coords t 0).val, 0] :=
  (by decide +kernel : ∀ t : Fin grid6.N, _)
theorem idx2 : ∀ t : Fin cfg2.N, win2_0.index t = ![(grid2.coords t 0).val, 0] ∧ win2_1.index t = ![(grid2.coords t 0).val, 0]
    ∧ win2_2.index t = ![0, (grid2.coords t 1).val] ∧ win2_3.index t = ![(grid2.coords t 0).val, (grid2.coords t 1).val] :=
  (by decide +kernel : ∀ t : Fin grid2.N, _)
theorem idx7 : ∀ t : Fin cfg7.N, win7_0.index t = ![(grid7.coords t 0).val, 0] ∧ win7_1.index t = ![(grid7.coords t 0).val, 0]
    ∧ win7_2.index t = ![0, (grid7.coords t 1).val] ∧ win7_3.index t = ![(grid7.coords t 0).val, (grid7.coords t 1).val] :=
  (by decide +kernel : ∀ t : Fin grid7.N, _)
theorem idx3 : ∀ t : Fin cfg3.N, win3_0.index t = ![(grid3.coords t 0).val, 0] ∧ win3_1.index t = ![(grid3.coords t 0).val, 0]
    ∧ win3_2.index t = ![0, 2 + (grid3.coords t 1).val] ∧ win3_3.index t = ![0, (grid3.coords t 0).val, (grid3.coords t 1).val, 0] :=
  (by decide +kernel : ∀ t : Fin grid3.N, _)
theorem idx4 : ∀ t : Fin cfg4.N, win4_0.index t = ![(grid4.coords t 0).val, 0] ∧ win4_1.index t = ![(grid4.coords t 0).val, 0]
    ∧ win4_2.index t = ![0, 4 + (grid4.coords t 1).val] ∧ win4_3.index t = ![0, (grid4.coords t 0).val, (grid4.coords t 1).val, 0] :=
  (by decide +kernel : ∀ t : Fin grid4.N, _)
theorem idx8 : ∀ t : Fin cfg8.N, win8_0.index t = ![(grid8.coords t 0).val, 0] ∧ win8_1.index t = ![(grid8.coords t 0).val, 0]
    ∧ win8_2.index t = ![0, 2 + (grid8.coords t 1).val] ∧ win8_3.index t = ![1, (grid8.coords t 0).val, (grid8.coords t 1).val, 0] :=
  (by decide +kernel : ∀ t : Fin grid8.N, _)
theorem idx9 : ∀ t : Fin cfg9.N, win9_0.index t = ![(grid9.coords t 0).val, 0] ∧ win9_1.index t = ![(grid9.coords t 0).val, 0]
    ∧ win9_2.index t = ![0, 4 + (grid9.coords t 1).val] ∧ win9_3.index t = ![1, (grid9.coords t 0).val, (grid9.coords t 1).val, 0] :=
  (by decide +kernel : ∀ t : Fin grid9.N, _)

theorem lt0 (t : Fin cfg0.N) : (grid0.coords t 0).val < 16 := (grid0.coords t 0).isLt
theorem lt5 (t : Fin cfg5.N) : (grid5.coords t 0).val < 16 := (grid5.coords t 0).isLt
theorem lt1 (t : Fin cfg1.N) : (grid1.coords t 0).val < 64 := (grid1.coords t 0).isLt
theorem lt6 (t : Fin cfg6.N) : (grid6.coords t 0).val < 64 := (grid6.coords t 0).isLt
theorem lt2 (t : Fin cfg2.N) : (grid2.coords t 0).val < 16 ∧ (grid2.coords t 1).val < 4 := ⟨(grid2.coords t 0).isLt, (grid2.coords t 1).isLt⟩
theorem lt7 (t : Fin cfg7.N) : (grid7.coords t 0).val < 16 ∧ (grid7.coords t 1).val < 4 := ⟨(grid7.coords t 0).isLt, (grid7.coords t 1).isLt⟩
theorem lt3 (t : Fin cfg3.N) : (grid3.coords t 0).val < 16 ∧ (grid3.coords t 1).val < 2 := ⟨(grid3.coords t 0).isLt, (grid3.coords t 1).isLt⟩
theorem lt4 (t : Fin cfg4.N) : (grid4.coords t 0).val < 16 ∧ (grid4.coords t 1).val < 2 := ⟨(grid4.coords t 0).isLt, (grid4.coords t 1).isLt⟩
theorem lt8 (t : Fin cfg8.N) : (grid8.coords t 0).val < 16 ∧ (grid8.coords t 1).val < 2 := ⟨(grid8.coords t 0).isLt, (grid8.coords t 1).isLt⟩
theorem lt9 (t : Fin cfg9.N) : (grid9.coords t 0).val < 16 ∧ (grid9.coords t 1).val < 2 := ⟨(grid9.coords t 0).isLt, (grid9.coords t 1).isLt⟩

/-- A block of gained weights, once its inputs are read. -/
theorem weights_block (W : FVec Ideal S2x4096x6144 .f32) (s : Fin 2) (g : FVec Ideal S4096x1 .f32) (p : ℕ) (hp : p < 16)
    (x0 : Vec Ideal S1x256x6144 .f32) (x1 : Vec Ideal S256x1 .f32)
    (h0 : ∀ (a : Fin 256) (b : Fin 6144), x0 (ix3 (0 : Fin 1) a b) = W (ix3 s (⟨p * 256 + a.val, by omega⟩ : Fin 4096) b))
    (h1 : ∀ a : Fin 256, x1 (ix2 a (0 : Fin 1)) = g (ix2 (⟨p * 256 + a.val, by omega⟩ : Fin 4096) (0 : Fin 1)))
    (y : S256x6144.Idx) (i : S4096x6144.Idx) (e0 : (i 0).val = p * 256 + (y 0).val) (e1 : (i 1).val = (y 1).val) :
    out0_2 (F := Ideal) x0 x1 y = weights W s g i := by
  idx_vars y
  idx_vars i
  have : y0.val < 256 := y0.isLt
  have e0 : i0 = (⟨p * 256 + y0.val, by omega⟩ : Fin 4096) := Fin.ext e0
  have e1 : i1 = y1 := Fin.ext e1
  rw [e0, e1, gained, h0, h1]
  rfl

/-- What the first layer's cast leaves. -/
theorem final0 (c : Dev nD) : (dat0 V c).arrAt 2 cfg0.N = weights (V c main_arg2) 0 (V c main_v2) := by
  refine (dat0 V c).arrAt_eq_of_covers 2 _ (by decide +kernel) fun t hf y => ?_
  have := lt0 t
  blk_simp
  rw [after0_2]
  exact weights_block _ _ _ _ (lt0 t) _ _ (fun a b => by blk_ext [iblk0, idx0 t]) (fun a => by blk_ext [iblk0, idx0 t]) y _
    (by blk_simp [Pipeline.Window.cell_apply, idx0 t]) (by blk_simp [Pipeline.Window.cell_apply, idx0 t])

/-- What the second layer's cast leaves. -/
theorem final5 (c : Dev nD) : (dat5 V c).arrAt 2 cfg5.N = weights (V c main_arg2) 1 (V c main_v10) := by
  refine (dat5 V c).arrAt_eq_of_covers 2 _ (by decide +kernel) fun t hf y => ?_
  have := lt5 t
  blk_simp
  rw [after5_2]
  exact weights_block _ _ _ _ (lt5 t) _ _ (fun a b => by blk_ext [iblk5, idx5 t]) (fun a => by blk_ext [iblk5, idx5 t]) y _
    (by blk_simp [Pipeline.Window.cell_apply, idx5 t]) (by blk_simp [Pipeline.Window.cell_apply, idx5 t])

/-- A block of the residual and of its squares, once the input is read. -/
theorem copied_block (X : FVec Ideal S16384x4096 .f32) (p : ℕ) (hp : p < 64) (x : Vec Ideal S256x4096 .f32)
    (h : ∀ (a : Fin 256) (k : Fin 4096), x (ix2 a k) = X (ix2 (⟨p * 256 + a.val, by omega⟩ : Fin 16384) k))
    (y : S256x4096.Idx) (i : S16384x4096.Idx) (e0 : (i 0).val = p * 256 + (y 0).val) (e1 : (i 1).val = (y 1).val) :
    out1_1 (F := Ideal) x y = X i := by
  idx_vars y
  idx_vars i
  have : y0.val < 256 := y0.isLt
  have e0 : i0 = (⟨p * 256 + y0.val, by omega⟩ : Fin 16384) := Fin.ext e0
  have e1 : i1 = y1 := Fin.ext e1
  rw [e0, e1, copied, h]

theorem squares_block (X : FVec Ideal S16384x4096 .f32) (p : ℕ) (hp : p < 64) (x : Vec Ideal S256x4096 .f32)
    (h : ∀ (a : Fin 256) (k : Fin 4096), x (ix2 a k) = X (ix2 (⟨p * 256 + a.val, by omega⟩ : Fin 16384) k))
    (y : S256x128.Idx) (i : S16384x128.Idx) (e0 : (i 0).val = p * 256 + (y 0).val) (e1 : (i 1).val = (y 1).val) :
    out1_2 (F := Ideal) x y = lanesOf X i := by
  idx_vars y
  idx_vars i
  have : y0.val < 256 := y0.isLt
  have e0 : i0 = (⟨p * 256 + y0.val, by omega⟩ : Fin 16384) := Fin.ext e0
  have e1 : i1 = y1 := Fin.ext e1
  rw [e0, e1, squares]
  exact congrArg (fun f => lane f _) (funext fun k => h _ k)

theorem read1 (c : Dev nD) (t : Fin cfg1.N) (a : Fin 256) (k : Fin 4096) : iblk1 V c 0 t (ix2 a k)
    = V c main_arg0 (ix2 (⟨(grid1.coords t 0).val * 256 + a.val, by have := lt1 t; omega⟩ : Fin 16384) k) := by
  blk_ext [iblk1, idx1 t]
theorem read6 (c : Dev nD) (t : Fin cfg6.N) (a : Fin 256) (k : Fin 4096) : iblk6 V c 0 t (ix2 a k)
    = V c main_arg1 (ix2 (⟨(grid6.coords t 0).val * 256 + a.val, by have := lt6 t; omega⟩ : Fin 16384) k) := by
  blk_ext [iblk6, idx6 t]

/-- The residual of each layer, passed on, and its squares. -/
theorem final1_1 (c : Dev nD) : (dat1 V c).arrAt 1 cfg1.N = fun i : S16384x4096.Idx => (V c main_arg0 i : EReal) := by
  refine (dat1 V c).arrAt_eq_of_covers 1 _ (by decide +kernel) fun t hf y => ?_
  blk_simp
  rw [after1_1]
  exact copied_block _ _ (lt1 t) _ (read1 V c t) y _ (by blk_simp [Pipeline.Window.cell_apply, idx1 t]) (by blk_simp [Pipeline.Window.cell_apply, idx1 t])
theorem final1_2 (c : Dev nD) : (dat1 V c).arrAt 2 cfg1.N = lanesOf (V c main_arg0) := by
  refine (dat1 V c).arrAt_eq_of_covers 2 _ (by decide +kernel) fun t hf y => ?_
  blk_simp
  rw [after1_2]
  exact squares_block _ _ (lt1 t) _ (read1 V c t) y _ (by blk_simp [Pipeline.Window.cell_apply, idx1 t]) (by blk_simp [Pipeline.Window.cell_apply, idx1 t])
theorem final6_1 (c : Dev nD) : (dat6 V c).arrAt 1 cfg6.N = fun i : S16384x4096.Idx => (V c main_arg1 i : EReal) := by
  refine (dat6 V c).arrAt_eq_of_covers 1 _ (by decide +kernel) fun t hf y => ?_
  blk_simp
  rw [after6_1]
  exact copied_block _ _ (lt6 t) _ (read6 V c t) y _ (by blk_simp [Pipeline.Window.cell_apply, idx6 t]) (by blk_simp [Pipeline.Window.cell_apply, idx6 t])
theorem final6_2 (c : Dev nD) : (dat6 V c).arrAt 2 cfg6.N = lanesOf (V c main_arg1) := by
  refine (dat6 V c).arrAt_eq_of_covers 2 _ (by decide +kernel) fun t hf y => ?_
  blk_simp
  rw [after6_2]
  exact squares_block _ _ (lt6 t) _ (read6 V c t) y _ (by blk_simp [Pipeline.Window.cell_apply, idx6 t]) (by blk_simp [Pipeline.Window.cell_apply, idx6 t])

/-- A block of queries, once its inputs are read. -/
theorem queries_block (X : FVec Ideal S16384x4096 .bf16) (Q : FVec Ideal S16384x128 .f32) (A : FVec Ideal S4096x6144 .bf16)
    (p q : ℕ) (hp : p < 16) (hq : q < 4) (x0 : Vec Ideal S1024x4096 .bf16) (x1 : Vec Ideal S1024x128 .f32) (x2 : Vec Ideal S4096x512 .bf16)
    (h0 : ∀ (a : Fin 1024) (k : Fin 4096), x0 (ix2 a k) = X (ix2 (⟨p * 1024 + a.val, by omega⟩ : Fin 16384) k))
    (h1 : ∀ (a : Fin 1024) (l : Fin 128), x1 (ix2 a l) = Q (ix2 (⟨p * 1024 + a.val, by omega⟩ : Fin 16384) l))
    (h2 : ∀ (k : Fin 4096) (n : Fin 512), x2 (ix2 k n) = A (ix2 k (⟨q * 512 + n.val, by omega⟩ : Fin 6144)))
    (y : S1024x512.Idx) (i : S16384x2048.Idx) (e0 : (i 0).val = p * 1024 + (y 0).val) (e1 : (i 1).val = q * 512 + (y 1).val) :
    out2_3 (F := Ideal) x0 x1 x2 y = queries X Q A i := by
  idx_vars y
  idx_vars i
  have : y0.val < 1024 := y0.isLt
  have : y1.val < 512 := y1.isLt
  have e0 : i0 = (⟨p * 1024 + y0.val, by omega⟩ : Fin 16384) := Fin.ext e0
  have e1 : i1 = (⟨q * 512 + y1.val, by omega⟩ : Fin 2048) := Fin.ext e1
  rw [e0, e1, query]
  simp only [h0, h1, h2]
  rfl

/-- The queries of each layer. -/
theorem final2 (c : Dev nD) : (dat2 V c).arrAt 3 cfg2.N = queries (V c main_v4_0) (V c main_v4_1) (V c main_v3) := by
  refine (dat2 V c).arrAt_eq_of_covers 3 _ (by decide +kernel) fun t hf y => ?_
  have := lt2 t
  blk_simp
  rw [after2_3]
  exact queries_block _ _ _ _ _ this.1 this.2 _ _ _ (fun a k => by blk_ext [iblk2, idx2 t]) (fun a k => by blk_ext [iblk2, idx2 t])
    (fun k n => by blk_ext [iblk2, idx2 t]) y _ (by blk_simp [Pipeline.Window.cell_apply, idx2 t]) (by blk_simp [Pipeline.Window.cell_apply, idx2 t])
theorem final7 (c : Dev nD) : (dat7 V c).arrAt 3 cfg7.N = queries (V c main_v12_0) (V c main_v12_1) (V c main_v11) := by
  refine (dat7 V c).arrAt_eq_of_covers 3 _ (by decide +kernel) fun t hf y => ?_
  have := lt7 t
  blk_simp
  rw [after7_3]
  exact queries_block _ _ _ _ _ this.1 this.2 _ _ _ (fun a k => by blk_ext [iblk7, idx7 t]) (fun a k => by blk_ext [iblk7, idx7 t])
    (fun k n => by blk_ext [iblk7, idx7 t]) y _ (by blk_simp [Pipeline.Window.cell_apply, idx7 t]) (by blk_simp [Pipeline.Window.cell_apply, idx7 t])

/-- A block of heads, once its inputs are read. -/
theorem stack_block (X : FVec Ideal S16384x4096 .bf16) (Q : FVec Ideal S16384x128 .f32) (A : FVec Ideal S4096x6144 .bf16)
    (b : Fin 2) (p q : ℕ) (hp : p < 16) (hq : q < 2) (x0 : Vec Ideal S1024x4096 .bf16) (x1 : Vec Ideal S1024x128 .f32) (x2 : Vec Ideal S4096x1024 .bf16)
    (h0 : ∀ (a : Fin 1024) (k : Fin 4096), x0 (ix2 a k) = X (ix2 (⟨p * 1024 + a.val, by omega⟩ : Fin 16384) k))
    (h1 : ∀ (a : Fin 1024) (l : Fin 128), x1 (ix2 a l) = Q (ix2 (⟨p * 1024 + a.val, by omega⟩ : Fin 16384) l))
    (h2 : ∀ (k : Fin 4096) (n : Fin 1024), x2 (ix2 k n) = A (ix2 k (⟨(2 * (b.val + 1) + q) * 1024 + n.val, by omega⟩ : Fin 6144)))
    (y : S1x1024x8x128.Idx) (i : S2x16384x16x128.Idx) (e1 : (i 1).val = p * 1024 + (y 1).val) (e2 : (i 2).val = q * 8 + (y 2).val)
    (e3 : (i 3).val = (y 3).val) :
    out3_3 (F := Ideal) x0 x1 x2 y = stack X Q A b i := by
  rw [heads, projected]
  simp only [h0, h1, h2]
  have l1 : (y 1).val < 1024 := (y 1).isLt
  have l2 : (y 2).val < 8 := (y 2).isLt
  have l3 : (y 3).val < 128 := (y 3).isLt
  unfold stack
  refine Eq.trans (b := proj X Q A (⟨p * 1024 + (y 1).val, by omega⟩ : Fin 16384)
    (⟨(2 * (b.val + 1) + q) * 1024 + ((y 2).val * 128 + (y 3).val), by omega⟩ : Fin 6144)) rfl ?_
  refine congrArg₂ (proj X Q A) (Fin.ext e1.symm) (Fin.ext ?_)
  show (2 * (b.val + 1) + q) * 1024 + ((y 2).val * 128 + (y 3).val) = (b.val + 1) * 2048 + ((i 2).val * 128 + (i 3).val)
  rw [e2, e3]
  omega

/-- A stack with one slab written over another array. -/
def slab (s : ℕ) (G H : S2x16384x16x128.Idx → EReal) (i : S2x16384x16x128.Idx) : EReal := if (i 0).val = s then G i else H i

theorem final3 (c : Dev nD) : (dat3 V c).arrAt 3 cfg3.N
    = slab 0 (stack (V c main_v4_0) (V c main_v4_1) (V c main_v3) 0) (V c main_v6_0) := by
  refine (dat3 V c).arrAt_eq_of_coversWhere 3 (stack (V c main_v4_0) (V c main_v4_1) (V c main_v3) 0) (fun β => β 0 = 0)
    (by decide +kernel) (fun t hf y => ?_) (fun i => by blk_simp [Pipeline.Window.cell_apply]; omega)
  have := lt3 t
  blk_simp
  rw [after3_3]
  exact stack_block _ _ _ 0 _ _ this.1 this.2 _ _ _ (fun a k => by blk_ext [iblk3, idx3 t]) (fun a k => by blk_ext [iblk3, idx3 t])
    (fun k n => by blk_ext [iblk3, idx3 t]) y _ (by blk_simp [Pipeline.Window.cell_apply, idx3 t])
    (by blk_simp [Pipeline.Window.cell_apply, idx3 t]) (by blk_simp [Pipeline.Window.cell_apply, idx3 t])

theorem final4 (c : Dev nD) : (dat4 V c).arrAt 3 cfg4.N
    = slab 0 (stack (V c main_v4_0) (V c main_v4_1) (V c main_v3) 1) (V c main_v7_0) := by
  refine (dat4 V c).arrAt_eq_of_coversWhere 3 (stack (V c main_v4_0) (V c main_v4_1) (V c main_v3) 1) (fun β => β 0 = 0)
    (by decide +kernel) (fun t hf y => ?_) (fun i => by blk_simp [Pipeline.Window.cell_apply]; omega)
  have := lt4 t
  blk_simp
  rw [after4_3, heads_again]
  exact stack_block _ _ _ 1 _ _ this.1 this.2 _ _ _ (fun a k => by blk_ext [iblk4, idx4 t]) (fun a k => by blk_ext [iblk4, idx4 t])
    (fun k n => by blk_ext [iblk4, idx4 t]) y _ (by blk_simp [Pipeline.Window.cell_apply, idx4 t])
    (by blk_simp [Pipeline.Window.cell_apply, idx4 t]) (by blk_simp [Pipeline.Window.cell_apply, idx4 t])

theorem final8 (c : Dev nD) : (dat8 V c).arrAt 3 cfg8.N
    = slab 1 (stack (V c main_v12_0) (V c main_v12_1) (V c main_v11) 0) (V c main_v14_0) := by
  refine (dat8 V c).arrAt_eq_of_coversWhere 3 (stack (V c main_v12_0) (V c main_v12_1) (V c main_v11) 0) (fun β => β 0 = 1)
    (by decide +kernel) (fun t hf y => ?_) (fun i => by blk_simp [Pipeline.Window.cell_apply]; omega)
  have := lt8 t
  blk_simp
  rw [after8_3, point8]
  exact stack_block _ _ _ 0 _ _ this.1 this.2 _ _ _ (fun a k => by blk_ext [iblk8, idx8 t]) (fun a k => by blk_ext [iblk8, idx8 t])
    (fun k n => by blk_ext [iblk8, idx8 t]) y _ (by blk_simp [Pipeline.Window.cell_apply, idx8 t])
    (by blk_simp [Pipeline.Window.cell_apply, idx8 t]) (by blk_simp [Pipeline.Window.cell_apply, idx8 t])

theorem final9 (c : Dev nD) : (dat9 V c).arrAt 3 cfg9.N
    = slab 1 (stack (V c main_v12_0) (V c main_v12_1) (V c main_v11) 1) (V c main_v15_0) := by
  refine (dat9 V c).arrAt_eq_of_coversWhere 3 (stack (V c main_v12_0) (V c main_v12_1) (V c main_v11) 1) (fun β => β 0 = 1)
    (by decide +kernel) (fun t hf y => ?_) (fun i => by blk_simp [Pipeline.Window.cell_apply]; omega)
  have := lt9 t
  blk_simp
  rw [after9_3, point9]
  exact stack_block _ _ _ 1 _ _ this.1 this.2 _ _ _ (fun a k => by blk_ext [iblk9, idx9 t]) (fun a k => by blk_ext [iblk9, idx9 t])
    (fun k n => by blk_ext [iblk9, idx9 t]) y _ (by blk_simp [Pipeline.Window.cell_apply, idx9 t])
    (by blk_simp [Pipeline.Window.cell_apply, idx9 t]) (by blk_simp [Pipeline.Window.cell_apply, idx9 t])

end Cert.HeadsIdeal.Parts

end
-- ==== Proof.HeadsRun.lean ====
/- The run of the layer with heads, its results named by the arguments. -/
module

public import proofs.«01_k».proof.Proof.HeadsArrays
public import Idealize.ShloMosaic.Lib.Claim

@[expose] public section

set_option maxRecDepth 16384

noncomputable section

namespace Cert.HeadsIdeal.Run

open Cert.HeadsIdeal Cert.HeadsIdeal.Gen Cert.HeadsIdeal.Parts Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- A layer's gain, as a column. -/
def gain (s : Fin 4) (g : FVec Ideal S4x4096 .f32) : FVec Ideal S4096x1 .f32 := fun y => g (ix2 s (⟨(y 0).val, (y 0).isLt⟩ : Fin 4096))

theorem gain1_eq (g : FVec Ideal S4x4096 .f32) :
    (shapeCast S4096x1 (shapeCast S4096 (extractStridedSlice S1x4096 ![1, 0] g slices_S4x4096_S1x4096_1_0) shapeCasts_S1x4096_S4096)
      shapeCasts_S4096_S4096x1 : FVec Ideal S4096x1 .f32) = gain 1 g := by
  funext y
  idx_vars y
  have : y1.val < 1 := y1.isLt
  pointwise [gain]
theorem gain3_eq (g : FVec Ideal S4x4096 .f32) :
    (shapeCast S4096x1 (shapeCast S4096 (extractStridedSlice S1x4096 ![3, 0] g slices_S4x4096_S1x4096_3_0) shapeCasts_S1x4096_S4096)
      shapeCasts_S4096_S4096x1 : FVec Ideal S4096x1 .f32) = gain 3 g := by
  funext y
  idx_vars y
  have : y1.val < 1 := y1.isLt
  pointwise [gain]

theorem entry1 (c : Dev nD) : V1 m ρ c main_v2 = gain 1 (m ((c : Thread nD τ).loc main_arg3)) := by
  refine Eq.trans ?_ (gain1_eq _)
  show W1 m ρ c (Proc.devRef .tc main_v2) = _
  unfold W1
  after_results
  rfl
theorem entry3 (c : Dev nD) : V7 m ρ c main_v10 = gain 3 (m ((c : Thread nD τ).loc main_arg3)) := by
  refine Eq.trans ?_ (gain3_eq _)
  show W7 m ρ c (Proc.devRef .tc main_v10) = _
  unfold W7
  after_results
  rw [W6_args m ρ c main_arg3 (by decide)]
  rfl

/-- The first layer's gained weights, residual and squares, where they are first left. -/
theorem weights1 (c : Dev nD) : W2 m ρ c (Proc.devRef .tc main_v3)
    = weights (m ((c : Thread nD τ).loc main_arg2)) 0 (gain 1 (m ((c : Thread nD τ).loc main_arg3))) := by
  refine ((W2_arr m ρ c 2).trans (final0 (V1 m ρ) c)).trans ?_
  rw [entry1]
  exact congrArg (fun W => weights W 0 _) (W1_args m ρ c main_arg2 (by decide))
theorem rows1 (c : Dev nD) : W3 m ρ c (Proc.devRef .tc main_v4_0) = fun i : S16384x4096.Idx => (m ((c : Thread nD τ).loc main_arg0) i : EReal) :=
  ((W3_arr m ρ c 1).trans (final1_1 (V2 m ρ) c)).trans (W2_args m ρ c main_arg0 (by decide))
theorem squares1 (c : Dev nD) : W3 m ρ c (Proc.devRef .tc main_v4_1) = lanesOf (m ((c : Thread nD τ).loc main_arg0)) :=
  ((W3_arr m ρ c 2).trans (final1_2 (V2 m ρ) c)).trans (congrArg lanesOf (W2_args m ρ c main_arg0 (by decide)))

/-- The second layer's. -/
theorem weights3 (c : Dev nD) : W8 m ρ c (Proc.devRef .tc main_v11)
    = weights (m ((c : Thread nD τ).loc main_arg2)) 1 (gain 3 (m ((c : Thread nD τ).loc main_arg3))) := by
  refine ((W8_arr m ρ c 2).trans (final5 (V7 m ρ) c)).trans ?_
  rw [entry3]
  exact congrArg (fun W => weights W 1 _) (W7_args m ρ c main_arg2 (by decide))
theorem rows3 (c : Dev nD) : W9 m ρ c (Proc.devRef .tc main_v12_0) = fun i : S16384x4096.Idx => (m ((c : Thread nD τ).loc main_arg1) i : EReal) :=
  ((W9_arr m ρ c 1).trans (final6_1 (V8 m ρ) c)).trans (W8_args m ρ c main_arg1 (by decide))
theorem squares3 (c : Dev nD) : W9 m ρ c (Proc.devRef .tc main_v12_1) = lanesOf (m ((c : Thread nD τ).loc main_arg1)) :=
  ((W9_arr m ρ c 2).trans (final6_2 (V8 m ρ) c)).trans (congrArg lanesOf (W8_args m ρ c main_arg1 (by decide)))

/-! A layer's projections depend on the residual `x`, the weights `w` with their slab, and the gain with its row. -/

/-- The queries of a layer. -/
def queriesOf (x : FVec Ideal S16384x4096 .f32) (w : FVec Ideal S2x4096x6144 .f32) (s : Fin 2) (g : FVec Ideal S4x4096 .f32) (n : Fin 4)
    (i : S16384x2048.Idx) : EReal :=
  queries (fun i => x i) (lanesOf x) (weights w s (gain n g)) i
/-- The heads of a layer. -/
def headsOf (x : FVec Ideal S16384x4096 .f32) (w : FVec Ideal S2x4096x6144 .f32) (s : Fin 2) (g : FVec Ideal S4x4096 .f32) (n : Fin 4)
    (b : Fin 2) (i : S2x16384x16x128.Idx) : EReal :=
  stack (fun i => x i) (lanesOf x) (weights w s (gain n g)) b i

/-- The queries at the end. -/
theorem q1_end (c : Dev nD) : W15 m ρ c (Proc.devRef .tc main_v5)
    = queriesOf (m ((c : Thread nD τ).loc main_arg0)) (m ((c : Thread nD τ).loc main_arg2)) 0 (m ((c : Thread nD τ).loc main_arg3)) 1 := by
  have e := (W15_of m ρ c main_v5 (by decide)).trans ((W14_of m ρ c main_v5 (by decide)).trans ((W13_of m ρ c main_v5 (by decide)).trans
    ((W12_of m ρ c main_v5 (by decide)).trans ((W11_of m ρ c main_v5 (by decide)).trans ((W10_of m ρ c main_v5 (by decide)).trans
    ((W9_of m ρ c main_v5 (by decide)).trans ((W8_of m ρ c main_v5 (by decide)).trans ((W7_of m ρ c main_v5 (by decide)).trans
    ((W6_of m ρ c main_v5 (by decide)).trans ((W5_of m ρ c main_v5 (by decide)).trans ((W4_arr m ρ c 3).trans (final2 (V3 m ρ) c))))))))))))
  refine e.trans ?_
  have e0 : V3 m ρ c main_v4_0 = _ := rows1 m ρ c
  have e1 : V3 m ρ c main_v4_1 = _ := squares1 m ρ c
  have e2 : V3 m ρ c main_v3 = _ := (W3_of m ρ c main_v3 (by decide)).trans (weights1 m ρ c)
  rw [e0, e1, e2]
  rfl
theorem q3_end (c : Dev nD) : W15 m ρ c (Proc.devRef .tc main_v13)
    = queriesOf (m ((c : Thread nD τ).loc main_arg1)) (m ((c : Thread nD τ).loc main_arg2)) 1 (m ((c : Thread nD τ).loc main_arg3)) 3 := by
  have e := (W15_of m ρ c main_v13 (by decide)).trans ((W14_of m ρ c main_v13 (by decide)).trans ((W13_of m ρ c main_v13 (by decide)).trans
    ((W12_of m ρ c main_v13 (by decide)).trans ((W11_of m ρ c main_v13 (by decide)).trans ((W10_arr m ρ c 3).trans (final7 (V9 m ρ) c))))))
  refine e.trans ?_
  have e0 : V9 m ρ c main_v12_0 = _ := rows3 m ρ c
  have e1 : V9 m ρ c main_v12_1 = _ := squares3 m ρ c
  have e2 : V9 m ρ c main_v11 = _ := (W9_of m ρ c main_v11 (by decide)).trans (weights3 m ρ c)
  rw [e0, e1, e2]
  rfl

/-- Both layers' heads of one part: the second layer's slab over the first's. -/
theorem slabs (G H U : S2x16384x16x128.Idx → EReal) : slab 1 G (slab 0 H U) = fun i => if (i 0).val = 1 then G i else H i := by
  funext i
  have : (i 0).val < 2 := (i 0).isLt
  unfold slab
  split
  · rfl
  · rw [if_pos (by omega)]

/-- The heads at the end. -/
def both (x1 x3 : FVec Ideal S16384x4096 .f32) (w : FVec Ideal S2x4096x6144 .f32) (g : FVec Ideal S4x4096 .f32) (b : Fin 2)
    (i : S2x16384x16x128.Idx) : EReal :=
  if (i 0).val = 1 then headsOf x3 w 1 g 3 b i else headsOf x1 w 0 g 1 b i

theorem k_stack (c : Dev nD) : W14 m ρ c (Proc.devRef .tc main_v14_0) = both (m ((c : Thread nD τ).loc main_arg0)) (m ((c : Thread nD τ).loc main_arg1))
    (m ((c : Thread nD τ).loc main_arg2)) (m ((c : Thread nD τ).loc main_arg3)) 0 := by
  refine ((W14_of m ρ c main_v14_0 (by decide)).trans ((W13_of m ρ c main_v14_0 (by decide)).trans
    ((W12_arr m ρ c 3).trans (final8 (V11 m ρ) c)))).trans ?_
  have e0 : V11 m ρ c main_v12_0 = _ := (W11_of m ρ c main_v12_0 (by decide)).trans ((W10_of m ρ c main_v12_0 (by decide)).trans (rows3 m ρ c))
  have e1 : V11 m ρ c main_v12_1 = _ := (W11_of m ρ c main_v12_1 (by decide)).trans ((W10_of m ρ c main_v12_1 (by decide)).trans (squares3 m ρ c))
  have e2 : V11 m ρ c main_v11 = _ := (W11_of m ρ c main_v11 (by decide)).trans ((W10_of m ρ c main_v11 (by decide)).trans
    ((W9_of m ρ c main_v11 (by decide)).trans (weights3 m ρ c)))
  have f0 : V4 m ρ c main_v4_0 = _ := (W4_of m ρ c main_v4_0 (by decide)).trans (rows1 m ρ c)
  have f1 : V4 m ρ c main_v4_1 = _ := (W4_of m ρ c main_v4_1 (by decide)).trans (squares1 m ρ c)
  have f2 : V4 m ρ c main_v3 = _ := (W4_of m ρ c main_v3 (by decide)).trans ((W3_of m ρ c main_v3 (by decide)).trans (weights1 m ρ c))
  have e3 : V11 m ρ c main_v14_0 = W10 m ρ c (Proc.devRef .tc main_v6_0) := by
    show W11 m ρ c (Proc.devRef .tc main_v14_0) = _
    unfold W11
    after_results
    rfl
  have e4 : W10 m ρ c (Proc.devRef .tc main_v6_0) = _ := (W10_of m ρ c main_v6_0 (by decide)).trans ((W9_of m ρ c main_v6_0 (by decide)).trans
    ((W8_of m ρ c main_v6_0 (by decide)).trans ((W7_of m ρ c main_v6_0 (by decide)).trans ((W6_of m ρ c main_v6_0 (by decide)).trans
    ((W5_arr m ρ c 3).trans (final3 (V4 m ρ) c))))))
  rw [f0, f1, f2] at e4
  rw [e0, e1, e2, e3, e4]
  exact slabs _ _ _

theorem v_stack (c : Dev nD) : W14 m ρ c (Proc.devRef .tc main_v15_0) = both (m ((c : Thread nD τ).loc main_arg0)) (m ((c : Thread nD τ).loc main_arg1))
    (m ((c : Thread nD τ).loc main_arg2)) (m ((c : Thread nD τ).loc main_arg3)) 1 := by
  refine ((W14_arr m ρ c 3).trans (final9 (V13 m ρ) c)).trans ?_
  have e0 : V13 m ρ c main_v12_0 = _ := (W13_of m ρ c main_v12_0 (by decide)).trans ((W12_of m ρ c main_v12_0 (by decide)).trans
    ((W11_of m ρ c main_v12_0 (by decide)).trans ((W10_of m ρ c main_v12_0 (by decide)).trans (rows3 m ρ c))))
  have e1 : V13 m ρ c main_v12_1 = _ := (W13_of m ρ c main_v12_1 (by decide)).trans ((W12_of m ρ c main_v12_1 (by decide)).trans
    ((W11_of m ρ c main_v12_1 (by decide)).trans ((W10_of m ρ c main_v12_1 (by decide)).trans (squares3 m ρ c))))
  have e2 : V13 m ρ c main_v11 = _ := (W13_of m ρ c main_v11 (by decide)).trans ((W12_of m ρ c main_v11 (by decide)).trans
    ((W11_of m ρ c main_v11 (by decide)).trans ((W10_of m ρ c main_v11 (by decide)).trans ((W9_of m ρ c main_v11 (by decide)).trans (weights3 m ρ c)))))
  have f0 : V5 m ρ c main_v4_0 = _ := (W5_of m ρ c main_v4_0 (by decide)).trans ((W4_of m ρ c main_v4_0 (by decide)).trans (rows1 m ρ c))
  have f1 : V5 m ρ c main_v4_1 = _ := (W5_of m ρ c main_v4_1 (by decide)).trans ((W4_of m ρ c main_v4_1 (by decide)).trans (squares1 m ρ c))
  have f2 : V5 m ρ c main_v3 = _ := (W5_of m ρ c main_v3 (by decide)).trans ((W4_of m ρ c main_v3 (by decide)).trans
    ((W3_of m ρ c main_v3 (by decide)).trans (weights1 m ρ c)))
  have e3 : V13 m ρ c main_v15_0 = W12 m ρ c (Proc.devRef .tc main_v7_0) := by
    show W13 m ρ c (Proc.devRef .tc main_v15_0) = _
    unfold W13
    after_results
    rfl
  have e4 : W12 m ρ c (Proc.devRef .tc main_v7_0) = _ := (W12_of m ρ c main_v7_0 (by decide)).trans ((W11_of m ρ c main_v7_0 (by decide)).trans
    ((W10_of m ρ c main_v7_0 (by decide)).trans ((W9_of m ρ c main_v7_0 (by decide)).trans ((W8_of m ρ c main_v7_0 (by decide)).trans
    ((W7_of m ρ c main_v7_0 (by decide)).trans ((W6_arr m ρ c 3).trans (final4 (V5 m ρ) c)))))))
  rw [f0, f1, f2] at e4
  rw [e0, e1, e2, e3, e4]
  exact slabs _ _ _

/-- The stacks with a unit axis. -/
theorem k_end (c : Dev nD) : W15 m ρ c (Proc.devRef .tc main_v16)
    = shapeCast S2x1x16384x16x128 (both (m ((c : Thread nD τ).loc main_arg0)) (m ((c : Thread nD τ).loc main_arg1))
        (m ((c : Thread nD τ).loc main_arg2)) (m ((c : Thread nD τ).loc main_arg3)) 0 : FVec Ideal S2x16384x16x128 .f32)
      shapeCasts_S2x16384x16x128_S2x1x16384x16x128 := by
  unfold W15
  after_results
  rw [k_stack]
  rfl
theorem v_end (c : Dev nD) : W15 m ρ c (Proc.devRef .tc main_v17)
    = shapeCast S2x1x16384x16x128 (both (m ((c : Thread nD τ).loc main_arg0)) (m ((c : Thread nD τ).loc main_arg1))
        (m ((c : Thread nD τ).loc main_arg2)) (m ((c : Thread nD τ).loc main_arg3)) 1 : FVec Ideal S2x16384x16x128 .f32)
      shapeCasts_S2x16384x16x128_S2x1x16384x16x128 := by
  unfold W15
  after_results
  rw [v_stack]
  rfl

set_option backward.isDefEq.respectTransparency.types false in
/-- Every final state has the arrays of the last boundary. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => h)

end Cert.HeadsIdeal.Run

end
-- ==== Proof.HeadsReference.lean ====
/- The plain statement of the layer with heads, read at a place. -/
module

public import proofs.«01_k».proof.Proof.Gen.HeadsReferenceIdeal.Read
public import proofs.«01_k».proof.Proof.UpReference
public import proofs.«01_k».proof.Proof.Row
public import Idealize.ShloMosaic.Lib.Pointwise

@[expose] public section

set_option maxRecDepth 16384

noncomputable section

namespace Cert.HeadsReferenceIdeal.At

open Cert.HeadsReferenceIdeal Cert.HeadsReferenceIdeal.Read Idealize.ShloMosaic
open Cert

variable (x y : FVec Ideal S16384x4096 .f32) (w : FVec Ideal S2x4096x6144 .f32) (g : FVec Ideal S4x4096 .f32)

/-- The first layer's normalised and gained row. -/
theorem normed1 (i : Fin 16384) (k : Fin 4096) : val_main_v14 (F := Ideal) x g (ix2 i k)
    = (show EReal from x (ix2 i k)) * Norm.rstd (∑ k : Fin 4096, (show EReal from x (ix2 i k)) * (show EReal from x (ix2 i k)))
      * (show EReal from g (ix2 (1 : Fin 4) k)) := by
  have root : val_main_v9 (F := Ideal) x (ix2 i (0 : Fin 1)) = _ := UpReferenceIdeal.At.root x i
  rw [← root]
  unfold val_main_v14 val_main_v11 val_main_v10
  generalize val_main_v9 (F := Ideal) x = s
  pointwise [val_main_v13, val_main_v12, val_main_v1, val_main_v0]

/-- The second layer's. -/
theorem normed3 (i : Fin 16384) (k : Fin 4096) : val_main_v35 (F := Ideal) x g (ix2 i k)
    = (show EReal from x (ix2 i k)) * Norm.rstd (∑ k : Fin 4096, (show EReal from x (ix2 i k)) * (show EReal from x (ix2 i k)))
      * (show EReal from g (ix2 (3 : Fin 4) k)) :=
  UpReferenceIdeal.At.normed x g i k

/-- One projected element of a layer. -/
def element (s : Fin 2) (n : Fin 4) (r : Fin 16384) (j : Fin 6144) : EReal :=
  Norm.plain (fun k => x (ix2 r k)) (fun k => g (ix2 n k)) (fun k => w (ix3 s k j))

theorem layer1 (r : Fin 16384) (j : Fin 6144) : val_main_v17 (F := Ideal) x w g (ix2 r j) = element x w g 0 1 r j := by
  have e : val_main_v17 (F := Ideal) x w g (ix2 r j)
      = ∑ k : Fin 4096, (show EReal from val_main_v14 (F := Ideal) x g (ix2 r k)) * (show EReal from w (ix3 (0 : Fin 2) k j)) := by
    unfold val_main_v17
    generalize val_main_v14 (F := Ideal) x g = s
    pointwise [val_main_v16, val_main_v15]
  rw [e]
  exact Finset.sum_congr rfl fun k _ => congrArg (· * _) (normed1 x g r k)

theorem layer3 (r : Fin 16384) (j : Fin 6144) : val_main_v38 (F := Ideal) x w g (ix2 r j) = element x w g 1 3 r j := by
  have e : val_main_v38 (F := Ideal) x w g (ix2 r j)
      = ∑ k : Fin 4096, (show EReal from val_main_v35 (F := Ideal) x g (ix2 r k)) * (show EReal from w (ix3 (1 : Fin 2) k j)) := by
    unfold val_main_v38
    generalize val_main_v35 (F := Ideal) x g = s
    pointwise [val_main_v37, val_main_v36]
  rw [e]
  exact Finset.sum_congr rfl fun k _ => congrArg (· * _) (normed3 x g r k)

/-- The queries of each layer. -/
theorem q1 (r : Fin 16384) (j : Fin 2048) : val_main_v44 (F := Ideal) x w g (ix2 r j)
    = element x w g 0 1 r (⟨j.val, by omega⟩ : Fin 6144) * Ideal.ofBits .f32 0x3DB504F3#32 := by
  rw [← layer1]
  unfold val_main_v44 val_main_v43 val_main_v18
  generalize val_main_v17 (F := Ideal) x w g = s
  pointwise [val_main_v42, val_main_cst_5]
theorem q3 (r : Fin 16384) (j : Fin 2048) : val_main_v47 (F := Ideal) x w g (ix2 r j)
    = element x w g 1 3 r (⟨j.val, by omega⟩ : Fin 6144) * Ideal.ofBits .f32 0x3DB504F3#32 := by
  rw [← layer3]
  unfold val_main_v47 val_main_v46 val_main_v39
  generalize val_main_v38 (F := Ideal) x w g = s
  pointwise [val_main_v45, val_main_cst_6]

/-- The keys of both layers. -/
theorem keys (s : Fin 2) (z : Fin 1) (r : Fin 16384) (h : Fin 16) (d : Fin 128) : val_main_v52 (F := Ideal) x y w g (ix5 s z r h d)
    = if s.val = 1 then element y w g 1 3 r (⟨2048 + (h.val * 128 + d.val), by omega⟩ : Fin 6144)
      else element x w g 0 1 r (⟨2048 + (h.val * 128 + d.val), by omega⟩ : Fin 6144) := by
  rw [← layer1, ← layer3]
  unfold val_main_v52 val_main_v50 val_main_v51 val_main_v48 val_main_v49 val_main_v19 val_main_v40
  generalize val_main_v17 (F := Ideal) x w g = a
  generalize val_main_v38 (F := Ideal) y w g = b
  pointwise []
  by_cases h1 : s.val = 1
  · rw [dif_neg (by omega), if_pos h1]
  · rw [dif_pos (by omega), if_neg h1]

/-- The values of both layers. -/
theorem values (s : Fin 2) (z : Fin 1) (r : Fin 16384) (h : Fin 16) (d : Fin 128) : val_main_v57 (F := Ideal) x y w g (ix5 s z r h d)
    = if s.val = 1 then element y w g 1 3 r (⟨4096 + (h.val * 128 + d.val), by omega⟩ : Fin 6144)
      else element x w g 0 1 r (⟨4096 + (h.val * 128 + d.val), by omega⟩ : Fin 6144) := by
  rw [← layer1, ← layer3]
  unfold val_main_v57 val_main_v55 val_main_v56 val_main_v53 val_main_v54 val_main_v20 val_main_v41
  generalize val_main_v17 (F := Ideal) x w g = a
  generalize val_main_v38 (F := Ideal) y w g = b
  pointwise []
  by_cases h1 : s.val = 1
  · rw [dif_neg (by omega), if_pos h1]
  · rw [dif_pos (by omega), if_neg h1]

end Cert.HeadsReferenceIdeal.At

end
-- ==== Proof.HeadsClaims.lean ====
/- The claims about the layer with heads: its frames, and that kernel and reference leave the same queries, keys and values. -/
module

public import proofs.«01_k».proof.Defs
public import proofs.«01_k».proof.Proof.Gen.Heads
public import proofs.«01_k».proof.Proof.Gen.Heads.Frame
public import proofs.«01_k».proof.Proof.Gen.HeadsIdeal
public import proofs.«01_k».proof.Proof.Gen.HeadsReferenceIdeal
public import proofs.«01_k».proof.Proof.Gen.HeadsReferenceIdeal.Run
public import proofs.«01_k».proof.Proof.HeadsRun
public import proofs.«01_k».proof.Proof.HeadsReference

@[expose] public section

set_option maxRecDepth 16384

noncomputable section

namespace Cert.Proof.Heads

open Idealize.ShloMosaic Idealize.SL.Sem
open Cert Cert.HeadsIdeal

variable (x y : FVec Ideal S16384x4096 .f32) (w : FVec Ideal S2x4096x6144 .f32) (g : FVec Ideal S4x4096 .f32)

/-- A layer's query, scaled in the kernel's way, is the plain one times the factor. -/
theorem query (s : Fin 2) (n : Fin 4) (r : Fin 16384) (j : Fin 2048) : Run.queriesOf x w s g n (ix2 r j)
    = HeadsReferenceIdeal.At.element x w g s n r (⟨j.val, by omega⟩ : Fin 6144) * Ideal.ofBits .f32 0x3DB504F3#32 :=
  Norm.scaled_factor (fun k => x (ix2 r k)) (fun k => g (ix2 n k)) (fun k => w (ix3 s k (⟨j.val, by omega⟩ : Fin 6144))) _

/-- A layer's head element is the plain one. -/
theorem head (s : Fin 2) (n : Fin 4) (b : Fin 2) (p : Fin 2) (r : Fin 16384) (h : Fin 16) (d : Fin 128) :
    Run.headsOf x w s g n b (ix4 p r h d) = HeadsReferenceIdeal.At.element x w g s n r (Parts.column b h d) :=
  Norm.scaled_eq (fun k => x (ix2 r k)) (fun k => g (ix2 n k)) (fun k => w (ix3 s k (Parts.column b h d)))

theorem q1 : Run.queriesOf x w 0 g 1 = HeadsReferenceIdeal.Read.val_main_v44 (F := Ideal) x w g := by
  funext i
  idx_vars i
  rw [query, HeadsReferenceIdeal.At.q1]
theorem q3 : Run.queriesOf x w 1 g 3 = HeadsReferenceIdeal.Read.val_main_v47 (F := Ideal) x w g := by
  funext i
  idx_vars i
  rw [query, HeadsReferenceIdeal.At.q3]

theorem stacked (b : Fin 2) (p : Fin 2) (z : Fin 1) (r : Fin 16384) (h : Fin 16) (d : Fin 128) :
    (shapeCast S2x1x16384x16x128 (Run.both x y w g b : FVec Ideal S2x16384x16x128 .f32) Gen.shapeCasts_S2x16384x16x128_S2x1x16384x16x128
      : FVec Ideal S2x1x16384x16x128 .f32) (ix5 p z r h d)
    = if p.val = 1 then HeadsReferenceIdeal.At.element y w g 1 3 r (Parts.column b h d)
      else HeadsReferenceIdeal.At.element x w g 0 1 r (Parts.column b h d) := by
  rw [← head x w g 0 1 b p r h d, ← head y w g 1 3 b p r h d]
  have e : ∀ A : FVec Ideal S2x16384x16x128 .f32, (shapeCast S2x1x16384x16x128 A Gen.shapeCasts_S2x16384x16x128_S2x1x16384x16x128
      : FVec Ideal S2x1x16384x16x128 .f32) (ix5 p z r h d) = A (ix4 p r h d) := fun A => by
    pointwise []
  rw [e]
  rfl

theorem keys : (shapeCast S2x1x16384x16x128 (Run.both x y w g 0 : FVec Ideal S2x16384x16x128 .f32) Gen.shapeCasts_S2x16384x16x128_S2x1x16384x16x128
      : FVec Ideal S2x1x16384x16x128 .f32) = HeadsReferenceIdeal.Read.val_main_v52 (F := Ideal) x y w g := by
  funext i
  idx_vars i
  rw [stacked, HeadsReferenceIdeal.At.keys]
  rfl
theorem values : (shapeCast S2x1x16384x16x128 (Run.both x y w g 1 : FVec Ideal S2x16384x16x128 .f32) Gen.shapeCasts_S2x16384x16x128_S2x1x16384x16x128
      : FVec Ideal S2x1x16384x16x128 .f32) = HeadsReferenceIdeal.Read.val_main_v57 (F := Ideal) x y w g := by
  funext i
  idx_vars i
  rw [stacked, HeadsReferenceIdeal.At.values]
  rfl

theorem algebraic : Cert.algebraic_HeadsIdeal_HeadsReferenceIdeal := by
  intro m ρ m' ρ' _ hagree
  refine ⟨fun c => Gen.W15 m ρ c (Proc.devRef .tc main_v5), fun c => Gen.W15 m ρ c (Proc.devRef .tc main_v13),
    fun c => Gen.W15 m ρ c (Proc.devRef .tc main_v16), fun c => Gen.W15 m ρ c (Proc.devRef .tc main_v17), ?_, ?_⟩
  · exact (θ_run Cert.HeadsIdeal.defs _ _).mono (fun _ h c => ⟨h c _ (Gen.mem_uc main_v5 (by decide)), h c _ (Gen.mem_uc main_v13 (by decide)),
      h c _ (Gen.mem_uc main_v16 (by decide)), h c _ (Gen.mem_uc main_v17 (by decide)),
      (h c _ (Gen.mem_uc main_arg0 (by decide))).trans (Gen.W15_args m ρ c main_arg0 (by decide)),
      (h c _ (Gen.mem_uc main_arg1 (by decide))).trans (Gen.W15_args m ρ c main_arg1 (by decide)),
      (h c _ (Gen.mem_uc main_arg2 (by decide))).trans (Gen.W15_args m ρ c main_arg2 (by decide)),
      (h c _ (Gen.mem_uc main_arg3 (by decide))).trans (Gen.W15_args m ρ c main_arg3 (by decide))⟩) (Run.run m ρ)
  · refine (θ_run Cert.HeadsReferenceIdeal.defs _ _).mono (fun _ h c => ⟨(h c).1.trans ?_, (h c).2.1.trans ?_, (h c).2.2.1.trans ?_,
      (h c).2.2.2.1.trans ?_, (h c).2.2.2.2⟩) (Cert.HeadsReferenceIdeal.Value.run (F := Ideal) m' ρ')
    · rw [HeadsReferenceIdeal.Read.val_main_v44_eq, (hagree c).1, (hagree c).2.2.1, (hagree c).2.2.2]
      exact ((Run.q1_end m ρ c).trans (q1 _ _ _)).symm
    · rw [HeadsReferenceIdeal.Read.val_main_v47_eq, (hagree c).2.1, (hagree c).2.2.1, (hagree c).2.2.2]
      exact ((Run.q3_end m ρ c).trans (q3 _ _ _)).symm
    · rw [HeadsReferenceIdeal.Read.val_main_v52_eq, (hagree c).1, (hagree c).2.1, (hagree c).2.2.1, (hagree c).2.2.2]
      exact ((Run.k_end m ρ c).trans (keys _ _ _ _)).symm
    · rw [HeadsReferenceIdeal.Read.val_main_v57_eq, (hagree c).1, (hagree c).2.1, (hagree c).2.2.1, (hagree c).2.2.2]
      exact ((Run.v_end m ρ c).trans (values _ _ _ _)).symm

theorem frame_kernel : Cert.quiescent_Heads := fun m ρ _ => Cert.Heads.Gen.frame m ρ
theorem frame_ideal : Cert.quiescent_HeadsIdeal := fun m ρ _ => Cert.HeadsIdeal.Gen.frame m ρ
theorem frame_ref : Cert.quiescent_HeadsReferenceIdeal := fun m ρ _ =>
  (θ_run Cert.HeadsReferenceIdeal.defs _ _).mono (fun r h => ⟨fun c => (h c).2.2.2.2, sem_eq_zero_of_no_sems (by decide) r.2⟩)
    (Cert.HeadsReferenceIdeal.Value.run (F := Ideal) m ρ)

end Cert.Proof.Heads

end
-- ==== Proof.RowsArrays.lean ====
/- What each call of the sampled rows' projections leaves: the gained weights, the residual and its squares, the keys and the values. -/
module

public import proofs.«01_k».proof.Proof.Gen.RowsIdeal.Frame
public import proofs.«01_k».proof.Proof.HeadsArrays
public import Idealize.ShloMosaic.Lib.Pipeline.ValueKit
public import Idealize.ShloMosaic.Lib.Pointwise

@[expose] public section

set_option maxRecDepth 16384

noncomputable section

namespace Cert.RowsIdeal.Parts

open Cert.RowsIdeal Cert.RowsIdeal.Gen Idealize.ShloMosaic Idealize.ShloMosaic.TcCoe Idealize.SL.Sem
open Idealize.ShloMosaic.Pipeline (Dat)
open Cert.UpIdeal.Squares (lane)
open Cert.HeadsIdeal.Parts (weights)

/-- The 32 slices of squares added up, one lane. -/
theorem squares (x : Vec Ideal S128x4096 .f32) (a l : Fin 128) : out1_2 (F := Ideal) x (ix2 a l) = lane (fun k => x (ix2 a k)) l := by
  unfold out1_2
  frame_out
  pointwise [k1_pay1, k1_pay3, k1_pay4, k1_pay5]
  unfold lane
  simp only [Fin.sum_univ_castSucc, Fin.sum_univ_zero, zero_add, Fin.val_castSucc, Fin.val_last, Nat.reduceMul, zero_mul]

theorem copied (x : Vec Ideal S128x4096 .f32) (a : Fin 128) (k : Fin 4096) : out1_1 (F := Ideal) x (ix2 a k) = x (ix2 a k) := by
  unfold out1_1
  frame_out
  pointwise [k1_pay2]

/-- A block of projected rows. -/
theorem projected (x0 : Vec Ideal S128x4096 .bf16) (x1 : Vec Ideal S128x128 .f32) (x2 : Vec Ideal S4096x512 .bf16) (a : Fin 128) (n : Fin 512) :
    out2_3 (F := Ideal) x0 x1 x2 (ix2 a n) = (∑ k : Fin 4096, (show EReal from x0 (ix2 a k)) * (show EReal from x2 (ix2 k n)))
      * Norm.rstd (∑ l : Fin 128, (show EReal from x1 (ix2 a l))) := by
  unfold out2_3
  frame_out
  pointwise [k2_pay1]
  rfl

/-- The rows' squares, lane by lane. -/
def lanesOf (X : FVec Ideal S128x4096 .f32) (i : S128x128.Idx) : EReal :=
  lane (fun k => X (ix2 (⟨(i 0).val, (i 0).isLt⟩ : Fin 128) k)) (⟨(i 1).val, (i 1).isLt⟩ : Fin 128)

/-- The column of the weights an element has, in the keys' part (`b = 0`) or the values' (`b = 1`). -/
def column (b : Fin 2) (j : Fin 2048) : Fin 6144 := ⟨(b.val + 1) * 2048 + j.val, by omega⟩

/-- The projected rows of one part. -/
def proj (X : FVec Ideal S128x4096 .bf16) (Q : FVec Ideal S128x128 .f32) (A : FVec Ideal S4096x6144 .bf16) (b : Fin 2) (i : S128x2048.Idx) : EReal :=
  (∑ k : Fin 4096, (show EReal from X (ix2 (⟨(i 0).val, (i 0).isLt⟩ : Fin 128) k))
      * (show EReal from A (ix2 k (column b (⟨(i 1).val, (i 1).isLt⟩ : Fin 2048)))))
    * Norm.rstd (∑ l : Fin 128, (show EReal from Q (ix2 (⟨(i 0).val, (i 0).isLt⟩ : Fin 128) l)))

variable (V : (c : Dev nD) → (b : Ref sig .tc) → Buf (Elt Ideal) ((c : Thread nD τ).loc b))

theorem idx0 : ∀ t : Fin cfg0.N, win0_0.index t = ![0, (grid0.coords t 0).val, 0] ∧ win0_1.index t = ![(grid0.coords t 0).val, 0]
    ∧ win0_2.index t = ![(grid0.coords t 0).val, 0] :=
  (by decide +kernel : ∀ t : Fin grid0.N, _)
theorem idx4 : ∀ t : Fin cfg4.N, win4_0.index t = ![1, (grid4.coords t 0).val, 0] ∧ win4_1.index t = ![(grid4.coords t 0).val, 0]
    ∧ win4_2.index t = ![(grid4.coords t 0).val, 0] :=
  (by decide +kernel : ∀ t : Fin grid4.N, _)
theorem idx1 : ∀ t : Fin cfg1.N, win1_0.index t = ![0, 0] ∧ win1_1.index t = ![0, 0] ∧ win1_2.index t = ![0, 0] :=
  (by decide +kernel : ∀ t : Fin grid1.N, _)
theorem idx5 : ∀ t : Fin cfg5.N, win5_0.index t = ![0, 0] ∧ win5_1.index t = ![0, 0] ∧ win5_2.index t = ![0, 0] :=
  (by decide +kernel : ∀ t : Fin grid5.N, _)
theorem idx2 : ∀ t : Fin cfg2.N, win2_0.index t = ![0, 0] ∧ win2_1.index t = ![0, 0]
    ∧ win2_2.index t = ![0, 4 + (grid2.coords t 1).val] ∧ win2_3.index t = ![0, (grid2.coords t 1).val] :=
  (by decide +kernel : ∀ t : Fin grid2.N, _)
theorem idx3 : ∀ t : Fin cfg3.N, win3_0.index t = ![0, 0] ∧ win3_1.index t = ![0, 0]
    ∧ win3_2.index t = ![0, 8 + (grid3.coords t 1).val] ∧ win3_3.index t = ![0, (grid3.coords t 1).val] :=
  (by decide +kernel : ∀ t : Fin grid3.N, _)
theorem idx6 : ∀ t : Fin cfg6.N, win6_0.index t = ![0, 0] ∧ win6_1.index t = ![0, 0]
    ∧ win6_2.index t = ![0, 4 + (grid6.coords t 1).val] ∧ win6_3.index t = ![0, (grid6.coords t 1).val] :=
  (by decide +kernel : ∀ t : Fin grid6.N, _)
theorem idx7 : ∀ t : Fin cfg7.N, win7_0.index t = ![0, 0] ∧ win7_1.index t = ![0, 0]
    ∧ win7_2.index t = ![0, 8 + (grid7.coords t 1).val] ∧ win7_3.index t = ![0, (grid7.coords t 1).val] :=
  (by decide +kernel : ∀ t : Fin grid7.N, _)

theorem lt0 (t : Fin cfg0.N) : (grid0.coords t 0).val < 16 := (grid0.coords t 0).isLt
theorem lt4 (t : Fin cfg4.N) : (grid4.coords t 0).val < 16 := (grid4.coords t 0).isLt
theorem lt2 (t : Fin cfg2.N) : (grid2.coords t 1).val < 4 := (grid2.coords t 1).isLt
theorem lt3 (t : Fin cfg3.N) : (grid3.coords t 1).val < 4 := (grid3.coords t 1).isLt
theorem lt6 (t : Fin cfg6.N) : (grid6.coords t 1).val < 4 := (grid6.coords t 1).isLt
theorem lt7 (t : Fin cfg7.N) : (grid7.coords t 1).val < 4 := (grid7.coords t 1).isLt

/-- What each layer's cast leaves. -/
theorem final0 (c : Dev nD) : (dat0 V c).arrAt 2 cfg0.N = weights (V c main_arg2) 0 (V c main_v2) := by
  refine (dat0 V c).arrAt_eq_of_covers 2 _ (by decide +kernel) fun t hf y => ?_
  have := lt0 t
  blk_simp
  rw [after0_2]
  exact HeadsIdeal.Parts.weights_block _ _ _ _ (lt0 t) _ _ (fun a b => by blk_ext [iblk0, idx0 t]) (fun a => by blk_ext [iblk0, idx0 t]) y _
    (by blk_simp [Pipeline.Window.cell_apply, idx0 t]) (by blk_simp [Pipeline.Window.cell_apply, idx0 t])
theorem final4 (c : Dev nD) : (dat4 V c).arrAt 2 cfg4.N = weights (V c main_arg2) 1 (V c main_v11) := by
  refine (dat4 V c).arrAt_eq_of_covers 2 _ (by decide +kernel) fun t hf y => ?_
  have := lt4 t
  blk_simp
  rw [after4_2]
  exact HeadsIdeal.Parts.weights_block _ _ _ _ (lt4 t) _ _ (fun a b => by blk_ext [iblk4, idx4 t]) (fun a => by blk_ext [iblk4, idx4 t]) y _
    (by blk_simp [Pipeline.Window.cell_apply, idx4 t]) (by blk_simp [Pipeline.Window.cell_apply, idx4 t])

/-- The whole residual in one block, and its squares, once the input is read. -/
theorem copied_block (X : FVec Ideal S128x4096 .f32) (x : Vec Ideal S128x4096 .f32)
    (h : ∀ (a : Fin 128) (k : Fin 4096), x (ix2 a k) = X (ix2 a k))
    (y i : S128x4096.Idx) (e0 : (i 0).val = (y 0).val) (e1 : (i 1).val = (y 1).val) : out1_1 (F := Ideal) x y = X i := by
  idx_vars y
  idx_vars i
  have e0 : i0 = y0 := Fin.ext e0
  have e1 : i1 = y1 := Fin.ext e1
  rw [e0, e1, copied, h]
theorem squares_block (X : FVec Ideal S128x4096 .f32) (x : Vec Ideal S128x4096 .f32)
    (h : ∀ (a : Fin 128) (k : Fin 4096), x (ix2 a k) = X (ix2 a k))
    (y i : S128x128.Idx) (e0 : (i 0).val = (y 0).val) (e1 : (i 1).val = (y 1).val) : out1_2 (F := Ideal) x y = lanesOf X i := by
  idx_vars y
  idx_vars i
  have e0 : i0 = y0 := Fin.ext e0
  have e1 : i1 = y1 := Fin.ext e1
  rw [e0, e1, squares]
  exact congrArg (fun f => lane f _) (funext fun k => h _ k)

/-- The residual of each layer, passed on, and its squares. -/
theorem final1_1 (c : Dev nD) : (dat1 V c).arrAt 1 cfg1.N = fun i : S128x4096.Idx => (V c main_arg0 i : EReal) := by
  refine (dat1 V c).arrAt_eq_of_covers 1 _ (by decide +kernel) fun t hf y => ?_
  blk_simp
  rw [after1_1]
  exact copied_block _ _ (fun a k => by blk_ext [iblk1, idx1 t]) y _ (by blk_simp [Pipeline.Window.cell_apply, idx1 t])
    (by blk_simp [Pipeline.Window.cell_apply, idx1 t])
theorem final1_2 (c : Dev nD) : (dat1 V c).arrAt 2 cfg1.N = lanesOf (V c main_arg0) := by
  refine (dat1 V c).arrAt_eq_of_covers 2 _ (by decide +kernel) fun t hf y => ?_
  blk_simp
  rw [after1_2]
  exact squares_block _ _ (fun a k => by blk_ext [iblk1, idx1 t]) y _ (by blk_simp [Pipeline.Window.cell_apply, idx1 t])
    (by blk_simp [Pipeline.Window.cell_apply, idx1 t])
theorem final5_1 (c : Dev nD) : (dat5 V c).arrAt 1 cfg5.N = fun i : S128x4096.Idx => (V c main_arg1 i : EReal) := by
  refine (dat5 V c).arrAt_eq_of_covers 1 _ (by decide +kernel) fun t hf y => ?_
  blk_simp
  rw [after5_1]
  exact copied_block _ _ (fun a k => by blk_ext [iblk5, idx5 t]) y _ (by blk_simp [Pipeline.Window.cell_apply, idx5 t])
    (by blk_simp [Pipeline.Window.cell_apply, idx5 t])
theorem final5_2 (c : Dev nD) : (dat5 V c).arrAt 2 cfg5.N = lanesOf (V c main_arg1) := by
  refine (dat5 V c).arrAt_eq_of_covers 2 _ (by decide +kernel) fun t hf y => ?_
  blk_simp
  rw [after5_2]
  exact squares_block _ _ (fun a k => by blk_ext [iblk5, idx5 t]) y _ (by blk_simp [Pipeline.Window.cell_apply, idx5 t])
    (by blk_simp [Pipeline.Window.cell_apply, idx5 t])

/-- A block of projected rows, once its inputs are read. -/
theorem proj_block (X : FVec Ideal S128x4096 .bf16) (Q : FVec Ideal S128x128 .f32) (A : FVec Ideal S4096x6144 .bf16) (b : Fin 2)
    (q : ℕ) (hq : q < 4) (x0 : Vec Ideal S128x4096 .bf16) (x1 : Vec Ideal S128x128 .f32) (x2 : Vec Ideal S4096x512 .bf16)
    (h0 : ∀ (a : Fin 128) (k : Fin 4096), x0 (ix2 a k) = X (ix2 a k)) (h1 : ∀ a l : Fin 128, x1 (ix2 a l) = Q (ix2 a l))
    (h2 : ∀ (k : Fin 4096) (n : Fin 512), x2 (ix2 k n) = A (ix2 k (⟨(4 * (b.val + 1) + q) * 512 + n.val, by omega⟩ : Fin 6144)))
    (y : S128x512.Idx) (i : S128x2048.Idx) (e0 : (i 0).val = (y 0).val) (e1 : (i 1).val = q * 512 + (y 1).val) :
    out2_3 (F := Ideal) x0 x1 x2 y = proj X Q A b i := by
  idx_vars y
  idx_vars i
  have : y1.val < 512 := y1.isLt
  have e0 : i0 = y0 := Fin.ext e0
  have e1 : i1 = (⟨q * 512 + y1.val, by omega⟩ : Fin 2048) := Fin.ext e1
  rw [e0, e1, projected]
  simp only [h0, h1, h2]
  have e : (⟨(4 * (b.val + 1) + q) * 512 + y1.val, by omega⟩ : Fin 6144) = column b (⟨q * 512 + y1.val, by omega⟩ : Fin 2048) :=
    Fin.ext (show (4 * (b.val + 1) + q) * 512 + y1.val = (b.val + 1) * 2048 + (q * 512 + y1.val) by omega)
  rw [e]
  rfl

/-- The keys and the values of each layer. -/
theorem final2 (c : Dev nD) : (dat2 V c).arrAt 3 cfg2.N = proj (V c main_v4_0) (V c main_v4_1) (V c main_v3) 0 := by
  refine (dat2 V c).arrAt_eq_of_covers 3 _ (by decide +kernel) fun t hf y => ?_
  have := lt2 t
  blk_simp
  rw [after2_3]
  exact proj_block _ _ _ 0 _ this _ _ _ (fun a k => by blk_ext [iblk2, idx2 t]) (fun a k => by blk_ext [iblk2, idx2 t])
    (fun k n => by blk_ext [iblk2, idx2 t]) y _ (by blk_simp [Pipeline.Window.cell_apply, idx2 t]) (by blk_simp [Pipeline.Window.cell_apply, idx2 t])
theorem final3 (c : Dev nD) : (dat3 V c).arrAt 3 cfg3.N = proj (V c main_v4_0) (V c main_v4_1) (V c main_v3) 1 := by
  refine (dat3 V c).arrAt_eq_of_covers 3 _ (by decide +kernel) fun t hf y => ?_
  have := lt3 t
  blk_simp
  rw [after3_3]
  exact proj_block _ _ _ 1 _ this _ _ _ (fun a k => by blk_ext [iblk3, idx3 t]) (fun a k => by blk_ext [iblk3, idx3 t])
    (fun k n => by blk_ext [iblk3, idx3 t]) y _ (by blk_simp [Pipeline.Window.cell_apply, idx3 t]) (by blk_simp [Pipeline.Window.cell_apply, idx3 t])
theorem final6 (c : Dev nD) : (dat6 V c).arrAt 3 cfg6.N = proj (V c main_v13_0) (V c main_v13_1) (V c main_v12) 0 := by
  refine (dat6 V c).arrAt_eq_of_covers 3 _ (by decide +kernel) fun t hf y => ?_
  have := lt6 t
  blk_simp
  rw [after6_3]
  exact proj_block _ _ _ 0 _ this _ _ _ (fun a k => by blk_ext [iblk6, idx6 t]) (fun a k => by blk_ext [iblk6, idx6 t])
    (fun k n => by blk_ext [iblk6, idx6 t]) y _ (by blk_simp [Pipeline.Window.cell_apply, idx6 t]) (by blk_simp [Pipeline.Window.cell_apply, idx6 t])
theorem final7 (c : Dev nD) : (dat7 V c).arrAt 3 cfg7.N = proj (V c main_v13_0) (V c main_v13_1) (V c main_v12) 1 := by
  refine (dat7 V c).arrAt_eq_of_covers 3 _ (by decide +kernel) fun t hf y => ?_
  have := lt7 t
  blk_simp
  rw [after7_3]
  exact proj_block _ _ _ 1 _ this _ _ _ (fun a k => by blk_ext [iblk7, idx7 t]) (fun a k => by blk_ext [iblk7, idx7 t])
    (fun k n => by blk_ext [iblk7, idx7 t]) y _ (by blk_simp [Pipeline.Window.cell_apply, idx7 t]) (by blk_simp [Pipeline.Window.cell_apply, idx7 t])

end Cert.RowsIdeal.Parts

end
-- ==== Proof.RowsRun.lean ====
/- The run of the sampled rows' projections, its results named by the arguments. -/
module

public import proofs.«01_k».proof.Proof.RowsArrays
public import proofs.«01_k».proof.Proof.HeadsRun
public import Idealize.ShloMosaic.Lib.Claim

@[expose] public section

set_option maxRecDepth 16384

noncomputable section

namespace Cert.RowsIdeal.Run

open Cert.RowsIdeal Cert.RowsIdeal.Gen Cert.RowsIdeal.Parts Idealize.ShloMosaic Idealize.ShloMosaic.TcCoe Idealize.ShloMosaic.Tactic
open Cert.HeadsIdeal.Parts (weights)
open Cert.HeadsIdeal.Run (gain gain1_eq gain3_eq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

theorem entry1 (c : Dev nD) : V1 m ρ c main_v2 = gain 1 (m ((c : Thread nD τ).loc main_arg3)) := by
  refine Eq.trans ?_ (gain1_eq _)
  show W1 m ρ c (Proc.devRef .tc main_v2) = _
  unfold W1
  after_results
  rfl
theorem entry3 (c : Dev nD) : V7 m ρ c main_v11 = gain 3 (m ((c : Thread nD τ).loc main_arg3)) := by
  refine Eq.trans ?_ (gain3_eq _)
  show W7 m ρ c (Proc.devRef .tc main_v11) = _
  unfold W7
  after_results
  rw [W6_args m ρ c main_arg3 (by decide)]
  rfl

/-- Each layer's gained weights, residual and squares, where they are first left. -/
theorem weights1 (c : Dev nD) : W2 m ρ c (Proc.devRef .tc main_v3)
    = weights (m ((c : Thread nD τ).loc main_arg2)) 0 (gain 1 (m ((c : Thread nD τ).loc main_arg3))) := by
  refine ((W2_arr m ρ c 2).trans (final0 (V1 m ρ) c)).trans ?_
  rw [entry1]
  exact congrArg (fun W => weights W 0 _) (W1_args m ρ c main_arg2 (by decide))
theorem rows1 (c : Dev nD) : W3 m ρ c (Proc.devRef .tc main_v4_0) = fun i : S128x4096.Idx => (m ((c : Thread nD τ).loc main_arg0) i : EReal) :=
  ((W3_arr m ρ c 1).trans (final1_1 (V2 m ρ) c)).trans (W2_args m ρ c main_arg0 (by decide))
theorem squares1 (c : Dev nD) : W3 m ρ c (Proc.devRef .tc main_v4_1) = lanesOf (m ((c : Thread nD τ).loc main_arg0)) :=
  ((W3_arr m ρ c 2).trans (final1_2 (V2 m ρ) c)).trans (congrArg lanesOf (W2_args m ρ c main_arg0 (by decide)))
theorem weights3 (c : Dev nD) : W8 m ρ c (Proc.devRef .tc main_v12)
    = weights (m ((c : Thread nD τ).loc main_arg2)) 1 (gain 3 (m ((c : Thread nD τ).loc main_arg3))) := by
  refine ((W8_arr m ρ c 2).trans (final4 (V7 m ρ) c)).trans ?_
  rw [entry3]
  exact congrArg (fun W => weights W 1 _) (W7_args m ρ c main_arg2 (by decide))
theorem rows3 (c : Dev nD) : W9 m ρ c (Proc.devRef .tc main_v13_0) = fun i : S128x4096.Idx => (m ((c : Thread nD τ).loc main_arg1) i : EReal) :=
  ((W9_arr m ρ c 1).trans (final5_1 (V8 m ρ) c)).trans (W8_args m ρ c main_arg1 (by decide))
theorem squares3 (c : Dev nD) : W9 m ρ c (Proc.devRef .tc main_v13_1) = lanesOf (m ((c : Thread nD τ).loc main_arg1)) :=
  ((W9_arr m ρ c 2).trans (final5_2 (V8 m ρ) c)).trans (congrArg lanesOf (W8_args m ρ c main_arg1 (by decide)))

/-- A part's rows of a layer: of the residual `x`, the weights `w` with their slab, and the gain with its row. -/
def rowsOf (x : FVec Ideal S128x4096 .f32) (w : FVec Ideal S2x4096x6144 .f32) (s : Fin 2) (g : FVec Ideal S4x4096 .f32) (n : Fin 4)
    (b : Fin 2) (i : S128x2048.Idx) : EReal :=
  proj (fun i => x i) (lanesOf x) (weights w s (gain n g)) b i

/-- Two layers' rows, laid out by sample and head and stacked. -/
def stacked (p q : FVec Ideal S128x2048 .f32) : FVec Ideal S2x8x16x16x128 .f32 :=
  concatenate S2x8x16x16x128 0
    [⟨S1x8x16x16x128, broadcastInDim S1x8x16x16x128 ![1, 2, 3, 4] bcast_S8x16x16x128_S1x8x16x16x128_1_2_3_4
        (shapeCast S8x16x16x128 p shapeCasts_S128x2048_S8x16x16x128 : FVec Ideal S8x16x16x128 .f32)⟩,
     ⟨S1x8x16x16x128, broadcastInDim S1x8x16x16x128 ![1, 2, 3, 4] bcast_S8x16x16x128_S1x8x16x16x128_1_2_3_4
        (shapeCast S8x16x16x128 q shapeCasts_S128x2048_S8x16x16x128 : FVec Ideal S8x16x16x128 .f32)⟩]
    concatenates_S1x8x16x16x128_S1x8x16x16x128_S2x8x16x16x128_d0

/-- The four products, where they are left. -/
theorem keys1 (c : Dev nD) : W4 m ρ c (Proc.devRef .tc main_v5)
    = rowsOf (m ((c : Thread nD τ).loc main_arg0)) (m ((c : Thread nD τ).loc main_arg2)) 0 (m ((c : Thread nD τ).loc main_arg3)) 1 0 := by
  refine ((W4_arr m ρ c 3).trans (final2 (V3 m ρ) c)).trans ?_
  have e0 : V3 m ρ c main_v4_0 = _ := rows1 m ρ c
  have e1 : V3 m ρ c main_v4_1 = _ := squares1 m ρ c
  have e2 : V3 m ρ c main_v3 = _ := (W3_of m ρ c main_v3 (by decide)).trans (weights1 m ρ c)
  rw [e0, e1, e2]
  rfl
theorem values1 (c : Dev nD) : W6 m ρ c (Proc.devRef .tc main_v7)
    = rowsOf (m ((c : Thread nD τ).loc main_arg0)) (m ((c : Thread nD τ).loc main_arg2)) 0 (m ((c : Thread nD τ).loc main_arg3)) 1 1 := by
  refine ((W6_arr m ρ c 3).trans (final3 (V5 m ρ) c)).trans ?_
  have e0 : V5 m ρ c main_v4_0 = _ := (W5_of m ρ c main_v4_0 (by decide)).trans ((W4_of m ρ c main_v4_0 (by decide)).trans (rows1 m ρ c))
  have e1 : V5 m ρ c main_v4_1 = _ := (W5_of m ρ c main_v4_1 (by decide)).trans ((W4_of m ρ c main_v4_1 (by decide)).trans (squares1 m ρ c))
  have e2 : V5 m ρ c main_v3 = _ := (W5_of m ρ c main_v3 (by decide)).trans ((W4_of m ρ c main_v3 (by decide)).trans
    ((W3_of m ρ c main_v3 (by decide)).trans (weights1 m ρ c)))
  rw [e0, e1, e2]
  rfl
theorem keys3 (c : Dev nD) : W10 m ρ c (Proc.devRef .tc main_v14)
    = rowsOf (m ((c : Thread nD τ).loc main_arg1)) (m ((c : Thread nD τ).loc main_arg2)) 1 (m ((c : Thread nD τ).loc main_arg3)) 3 0 := by
  refine ((W10_arr m ρ c 3).trans (final6 (V9 m ρ) c)).trans ?_
  have e0 : V9 m ρ c main_v13_0 = _ := rows3 m ρ c
  have e1 : V9 m ρ c main_v13_1 = _ := squares3 m ρ c
  have e2 : V9 m ρ c main_v12 = _ := (W9_of m ρ c main_v12 (by decide)).trans (weights3 m ρ c)
  rw [e0, e1, e2]
  rfl
theorem values3 (c : Dev nD) : W12 m ρ c (Proc.devRef .tc main_v16)
    = rowsOf (m ((c : Thread nD τ).loc main_arg1)) (m ((c : Thread nD τ).loc main_arg2)) 1 (m ((c : Thread nD τ).loc main_arg3)) 3 1 := by
  refine ((W12_arr m ρ c 3).trans (final7 (V11 m ρ) c)).trans ?_
  have e0 : V11 m ρ c main_v13_0 = _ := (W11_of m ρ c main_v13_0 (by decide)).trans ((W10_of m ρ c main_v13_0 (by decide)).trans (rows3 m ρ c))
  have e1 : V11 m ρ c main_v13_1 = _ := (W11_of m ρ c main_v13_1 (by decide)).trans ((W10_of m ρ c main_v13_1 (by decide)).trans (squares3 m ρ c))
  have e2 : V11 m ρ c main_v12 = _ := (W11_of m ρ c main_v12 (by decide)).trans ((W10_of m ρ c main_v12 (by decide)).trans
    ((W9_of m ρ c main_v12 (by decide)).trans (weights3 m ρ c)))
  rw [e0, e1, e2]
  rfl

/-- The products laid out by sample and head, at the last call's exit. -/
theorem laid_keys1 (c : Dev nD) : W12 m ρ c (Proc.devRef .tc main_v6)
    = (shapeCast S8x16x16x128 (rowsOf (m ((c : Thread nD τ).loc main_arg0)) (m ((c : Thread nD τ).loc main_arg2)) 0
        (m ((c : Thread nD τ).loc main_arg3)) 1 0 : FVec Ideal S128x2048 .f32) shapeCasts_S128x2048_S8x16x16x128 : FVec Ideal S8x16x16x128 .f32) := by
  have e := (W12_of m ρ c main_v6 (by decide)).trans ((W11_of m ρ c main_v6 (by decide)).trans ((W10_of m ρ c main_v6 (by decide)).trans
    ((W9_of m ρ c main_v6 (by decide)).trans ((W8_of m ρ c main_v6 (by decide)).trans ((W7_of m ρ c main_v6 (by decide)).trans
    (W6_of m ρ c main_v6 (by decide)))))))
  refine e.trans ?_
  unfold W5
  after_results
  rw [keys1]
  rfl
theorem laid_values1 (c : Dev nD) : W12 m ρ c (Proc.devRef .tc main_v8)
    = (shapeCast S8x16x16x128 (rowsOf (m ((c : Thread nD τ).loc main_arg0)) (m ((c : Thread nD τ).loc main_arg2)) 0
        (m ((c : Thread nD τ).loc main_arg3)) 1 1 : FVec Ideal S128x2048 .f32) shapeCasts_S128x2048_S8x16x16x128 : FVec Ideal S8x16x16x128 .f32) := by
  have e := (W12_of m ρ c main_v8 (by decide)).trans ((W11_of m ρ c main_v8 (by decide)).trans ((W10_of m ρ c main_v8 (by decide)).trans
    ((W9_of m ρ c main_v8 (by decide)).trans (W8_of m ρ c main_v8 (by decide)))))
  refine e.trans ?_
  unfold W7
  after_results
  rw [values1]
  rfl
theorem laid_keys3 (c : Dev nD) : W12 m ρ c (Proc.devRef .tc main_v15)
    = (shapeCast S8x16x16x128 (rowsOf (m ((c : Thread nD τ).loc main_arg1)) (m ((c : Thread nD τ).loc main_arg2)) 1
        (m ((c : Thread nD τ).loc main_arg3)) 3 0 : FVec Ideal S128x2048 .f32) shapeCasts_S128x2048_S8x16x16x128 : FVec Ideal S8x16x16x128 .f32) := by
  refine (W12_of m ρ c main_v15 (by decide)).trans ?_
  unfold W11
  after_results
  rw [keys3]
  rfl

/-- The two results at the end. -/
theorem keys_end (c : Dev nD) : W13 m ρ c (Proc.devRef .tc main_v20)
    = stacked (rowsOf (m ((c : Thread nD τ).loc main_arg0)) (m ((c : Thread nD τ).loc main_arg2)) 0 (m ((c : Thread nD τ).loc main_arg3)) 1 0)
      (rowsOf (m ((c : Thread nD τ).loc main_arg1)) (m ((c : Thread nD τ).loc main_arg2)) 1 (m ((c : Thread nD τ).loc main_arg3)) 3 0) := by
  unfold W13
  after_results
  rw [laid_keys1, laid_keys3]
  rfl
theorem values_end (c : Dev nD) : W13 m ρ c (Proc.devRef .tc main_v23)
    = stacked (rowsOf (m ((c : Thread nD τ).loc main_arg0)) (m ((c : Thread nD τ).loc main_arg2)) 0 (m ((c : Thread nD τ).loc main_arg3)) 1 1)
      (rowsOf (m ((c : Thread nD τ).loc main_arg1)) (m ((c : Thread nD τ).loc main_arg2)) 1 (m ((c : Thread nD τ).loc main_arg3)) 3 1) := by
  unfold W13
  after_results
  rw [laid_values1, values3]
  rfl

set_option backward.isDefEq.respectTransparency.types false in
/-- Every final state has the arrays of the last boundary. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

end Cert.RowsIdeal.Run

end
-- ==== Proof.RowsReference.lean ====
/- The plain statement of the sampled rows' projections, read at a place. -/
module

public import proofs.«01_k».proof.Proof.Gen.RowsReferenceIdeal.Read
public import proofs.«01_k».proof.Proof.Row
public import Idealize.ShloMosaic.Lib.Pointwise

@[expose] public section

set_option maxRecDepth 16384

noncomputable section

namespace Cert.RowsReferenceIdeal.At

open Cert.RowsReferenceIdeal Cert.RowsReferenceIdeal.Read Idealize.ShloMosaic
open Cert

variable (x : FVec Ideal S128x4096 .f32) (w : FVec Ideal S2x4096x6144 .f32) (g : FVec Ideal S4x4096 .f32)

/-- The reciprocal root of a row's mean square. -/
theorem root (i : Fin 128) :
    val_main_v9 (F := Ideal) x (ix2 i (0 : Fin 1)) = Norm.rstd (∑ k : Fin 4096, (show EReal from x (ix2 i k)) * (show EReal from x (ix2 i k))) := by
  have e : val_main_v3 (F := Ideal) x (ix1 i) = ∑ k : Fin 4096, (show EReal from x (ix2 i k)) * (show EReal from x (ix2 i k)) := by
    pointwise [val_main_v3, val_main_v2, val_main_cst]
  rw [← e]
  unfold val_main_v9 val_main_v8 val_main_v6 val_main_v4
  generalize val_main_v3 (F := Ideal) x = s
  pointwise [val_main_v5, val_main_v7, val_main_cst_0, val_main_cst_1]
  rfl

/-- A layer's normalised and gained row. -/
theorem normed1 (i : Fin 128) (k : Fin 4096) : val_main_v14 (F := Ideal) x g (ix2 i k)
    = (show EReal from x (ix2 i k)) * Norm.rstd (∑ k : Fin 4096, (show EReal from x (ix2 i k)) * (show EReal from x (ix2 i k)))
      * (show EReal from g (ix2 (1 : Fin 4) k)) := by
  rw [← root]
  unfold val_main_v14 val_main_v11 val_main_v10
  generalize val_main_v9 (F := Ideal) x = s
  pointwise [val_main_v13, val_main_v12, val_main_v1, val_main_v0]
theorem normed3 (i : Fin 128) (k : Fin 4096) : val_main_v35 (F := Ideal) x g (ix2 i k)
    = (show EReal from x (ix2 i k)) * Norm.rstd (∑ k : Fin 4096, (show EReal from x (ix2 i k)) * (show EReal from x (ix2 i k)))
      * (show EReal from g (ix2 (3 : Fin 4) k)) := by
  rw [← (show val_main_v30 (F := Ideal) x (ix2 i (0 : Fin 1)) = _ from root x i)]
  unfold val_main_v35 val_main_v32 val_main_v31
  generalize val_main_v30 (F := Ideal) x = s
  pointwise [val_main_v34, val_main_v33, val_main_v22, val_main_v21]

/-- One projected element of a layer. -/
def element (s : Fin 2) (n : Fin 4) (r : Fin 128) (j : Fin 6144) : EReal :=
  Norm.plain (fun k => x (ix2 r k)) (fun k => g (ix2 n k)) (fun k => w (ix3 s k j))

theorem layer1 (r : Fin 128) (j : Fin 6144) : val_main_v17 (F := Ideal) x w g (ix2 r j) = element x w g 0 1 r j := by
  have e : val_main_v17 (F := Ideal) x w g (ix2 r j)
      = ∑ k : Fin 4096, (show EReal from val_main_v14 (F := Ideal) x g (ix2 r k)) * (show EReal from w (ix3 (0 : Fin 2) k j)) := by
    unfold val_main_v17
    generalize val_main_v14 (F := Ideal) x g = s
    pointwise [val_main_v16, val_main_v15]
  rw [e]
  exact Finset.sum_congr rfl fun k _ => congrArg (· * _) (normed1 x g r k)

theorem layer3 (r : Fin 128) (j : Fin 6144) : val_main_v38 (F := Ideal) x w g (ix2 r j) = element x w g 1 3 r j := by
  have e : val_main_v38 (F := Ideal) x w g (ix2 r j)
      = ∑ k : Fin 4096, (show EReal from val_main_v35 (F := Ideal) x g (ix2 r k)) * (show EReal from w (ix3 (1 : Fin 2) k j)) := by
    unfold val_main_v38
    generalize val_main_v35 (F := Ideal) x g = s
    pointwise [val_main_v37, val_main_v36]
  rw [e]
  exact Finset.sum_congr rfl fun k _ => congrArg (· * _) (normed3 x g r k)

/-- A projection's columns from 2048 or from 4096. -/
theorem keys1 (r : Fin 128) (j : Fin 2048) : val_main_v19 (F := Ideal) x w g (ix2 r j) = element x w g 0 1 r (⟨2048 + j.val, by omega⟩ : Fin 6144) := by
  rw [← layer1]
  unfold val_main_v19
  generalize val_main_v17 (F := Ideal) x w g = a
  pointwise []
theorem values1 (r : Fin 128) (j : Fin 2048) : val_main_v20 (F := Ideal) x w g (ix2 r j) = element x w g 0 1 r (⟨4096 + j.val, by omega⟩ : Fin 6144) := by
  rw [← layer1]
  unfold val_main_v20
  generalize val_main_v17 (F := Ideal) x w g = a
  pointwise []
theorem keys3 (r : Fin 128) (j : Fin 2048) : val_main_v40 (F := Ideal) x w g (ix2 r j) = element x w g 1 3 r (⟨2048 + j.val, by omega⟩ : Fin 6144) := by
  rw [← layer3]
  unfold val_main_v40
  generalize val_main_v38 (F := Ideal) x w g = a
  pointwise []
theorem values3 (r : Fin 128) (j : Fin 2048) : val_main_v41 (F := Ideal) x w g (ix2 r j) = element x w g 1 3 r (⟨4096 + j.val, by omega⟩ : Fin 6144) := by
  rw [← layer3]
  unfold val_main_v41
  generalize val_main_v38 (F := Ideal) x w g = a
  pointwise []

end Cert.RowsReferenceIdeal.At

end
-- ==== Proof.RowsClaims.lean ====
/- The claims about the sampled rows' projections: their frames, and that kernel and reference leave the same keys and values. -/
module

public import proofs.«01_k».proof.Defs
public import proofs.«01_k».proof.Proof.Gen.Rows
public import proofs.«01_k».proof.Proof.Gen.Rows.Frame
public import proofs.«01_k».proof.Proof.Gen.RowsIdeal
public import proofs.«01_k».proof.Proof.Gen.RowsReferenceIdeal
public import proofs.«01_k».proof.Proof.Gen.RowsReferenceIdeal.Run
public import proofs.«01_k».proof.Proof.RowsRun
public import proofs.«01_k».proof.Proof.RowsReference

@[expose] public section

set_option maxRecDepth 16384

noncomputable section

namespace Cert.Proof.Rows

open Idealize.ShloMosaic Idealize.SL.Sem
open Cert Cert.RowsIdeal

variable (x y : FVec Ideal S128x4096 .f32) (w : FVec Ideal S2x4096x6144 .f32) (g : FVec Ideal S4x4096 .f32)

/-- A projected element is the plain one. -/
theorem row (s : Fin 2) (n : Fin 4) (b : Fin 2) (r : Fin 128) (j : Fin 2048) :
    Run.rowsOf x w s g n b (ix2 r j) = RowsReferenceIdeal.At.element x w g s n r (Parts.column b j) :=
  Norm.scaled_eq (fun k => x (ix2 r k)) (fun k => g (ix2 n k)) (fun k => w (ix3 s k (Parts.column b j)))

theorem keys1 : Run.rowsOf x w 0 g 1 0 = RowsReferenceIdeal.Read.val_main_v19 (F := Ideal) x w g := by
  funext i
  idx_vars i
  rw [row, RowsReferenceIdeal.At.keys1]
  rfl
theorem values1 : Run.rowsOf x w 0 g 1 1 = RowsReferenceIdeal.Read.val_main_v20 (F := Ideal) x w g := by
  funext i
  idx_vars i
  rw [row, RowsReferenceIdeal.At.values1]
  rfl
theorem keys3 : Run.rowsOf y w 1 g 3 0 = RowsReferenceIdeal.Read.val_main_v40 (F := Ideal) y w g := by
  funext i
  idx_vars i
  rw [row, RowsReferenceIdeal.At.keys3]
  rfl
theorem values3 : Run.rowsOf y w 1 g 3 1 = RowsReferenceIdeal.Read.val_main_v41 (F := Ideal) y w g := by
  funext i
  idx_vars i
  rw [row, RowsReferenceIdeal.At.values3]
  rfl

theorem keys : Run.stacked (Run.rowsOf x w 0 g 1 0) (Run.rowsOf y w 1 g 3 0) = RowsReferenceIdeal.Read.val_main_v46 (F := Ideal) x y w g := by
  rw [keys1, keys3]
  rfl
theorem values : Run.stacked (Run.rowsOf x w 0 g 1 1) (Run.rowsOf y w 1 g 3 1) = RowsReferenceIdeal.Read.val_main_v51 (F := Ideal) x y w g := by
  rw [values1, values3]
  rfl

theorem algebraic : Cert.algebraic_RowsIdeal_RowsReferenceIdeal := by
  intro m ρ m' ρ' _ hagree
  refine ⟨fun c => Gen.W13 m ρ c (Proc.devRef .tc main_v20), fun c => Gen.W13 m ρ c (Proc.devRef .tc main_v23), ?_, ?_⟩
  · exact (θ_run Cert.RowsIdeal.defs _ _).mono (fun _ h c => ⟨h c _ (Gen.mem_uc main_v20 (by decide)), h c _ (Gen.mem_uc main_v23 (by decide)),
      (h c _ (Gen.mem_uc main_arg0 (by decide))).trans (Gen.W13_args m ρ c main_arg0 (by decide)),
      (h c _ (Gen.mem_uc main_arg1 (by decide))).trans (Gen.W13_args m ρ c main_arg1 (by decide)),
      (h c _ (Gen.mem_uc main_arg2 (by decide))).trans (Gen.W13_args m ρ c main_arg2 (by decide)),
      (h c _ (Gen.mem_uc main_arg3 (by decide))).trans (Gen.W13_args m ρ c main_arg3 (by decide))⟩) (Run.run m ρ)
  · refine (θ_run Cert.RowsReferenceIdeal.defs _ _).mono (fun _ h c => ⟨(h c).1.trans ?_, (h c).2.1.trans ?_, (h c).2.2⟩)
      (Cert.RowsReferenceIdeal.Value.run (F := Ideal) m' ρ')
    · rw [RowsReferenceIdeal.Read.val_main_v46_eq, (hagree c).1, (hagree c).2.1, (hagree c).2.2.1, (hagree c).2.2.2]
      exact ((Run.keys_end m ρ c).trans (keys _ _ _ _)).symm
    · rw [RowsReferenceIdeal.Read.val_main_v51_eq, (hagree c).1, (hagree c).2.1, (hagree c).2.2.1, (hagree c).2.2.2]
      exact ((Run.values_end m ρ c).trans (values _ _ _ _)).symm

theorem frame_kernel : Cert.quiescent_Rows := fun m ρ _ => Cert.Rows.Gen.frame m ρ
theorem frame_ideal : Cert.quiescent_RowsIdeal := fun m ρ _ => Cert.RowsIdeal.Gen.frame m ρ
theorem frame_ref : Cert.quiescent_RowsReferenceIdeal := fun m ρ _ =>
  (θ_run Cert.RowsReferenceIdeal.defs _ _).mono (fun r h => ⟨fun c => (h c).2.2, sem_eq_zero_of_no_sems (by decide) r.2⟩)
    (Cert.RowsReferenceIdeal.Value.run (F := Ideal) m ρ)

end Cert.Proof.Rows

end
-- ==== Proof.MixerParts.lean ====
/- One point's blocks in the calls of mixers A and B's projection: the rotary tables, the gained weights in tiles, and a tile of the product with its rotary factors and scale. -/
module

public import proofs.«01_k».proof.Proof.Gen.MixerIdeal.Frame
public import proofs.«01_k».proof.Proof.Row
public import Idealize.ShloMosaic.Lib.Pipeline.ValueKit
public import Idealize.ShloMosaic.Lib.Pointwise

@[expose] public section

set_option maxRecDepth 16384

noncomputable section

namespace Cert.MixerIdeal.Parts

open Cert.MixerIdeal Cert.MixerIdeal.Gen Idealize.ShloMosaic Idealize.ShloMosaic.TcCoe Idealize.SL.Sem
open Idealize.ShloMosaic.Pipeline (Dat)
open Cert.UpIdeal.Squares (lane)

/-- A row's number, as the tables' blocks count it. -/
theorem word (p a : ℕ) : BitVec.ofNat 32 a + (0#32 + BitVec.ofNat 32 p * 1024#32) = BitVec.ofNat 32 (p * 1024 + a) := by
  rw [BitVec.ofNat_add, BitVec.ofNat_mul, BitVec.zero_add, BitVec.add_comm]

/-- A row's angle at a lane. -/
def angle (v : FVec Ideal S1x128 .f32) (r : ℕ) (l : Fin 128) : EReal :=
  (show EReal from FloatOps.sitofp (F := Ideal) .f32 (BitVec.ofNat 32 r)) * (show EReal from v (ix2 (0 : Fin 1) l))

theorem angles (i : grid0.Coords) (v : Vec Ideal S1x128 .f32) (a : Fin 1024) (l : Fin 128) :
    k0_pay1 (F := Ideal) i v (ix2 a l) = angle v ((i 0).val * 1024 + a.val) l := by
  unfold angle
  rw [← word]
  pointwise [k0_pay1]
  rfl

theorem cosines (i : grid0.Coords) (v : Vec Ideal S1x128 .f32) (a : Fin 1024) (l : Fin 128) :
    out0_1 (F := Ideal) i v (ix2 a l) = Ideal.cos (angle v ((i 0).val * 1024 + a.val) l) := by
  rw [← angles]
  unfold out0_1
  frame_out
  generalize hT : k0_pay1 (F := Ideal) i v = T
  unfold k0_pay2
  rw [hT]
  pointwise []

theorem sines (i : grid0.Coords) (v : Vec Ideal S1x128 .f32) (a : Fin 1024) (l : Fin 128) :
    out0_2 (F := Ideal) i v (ix2 a l) = if l.val < 64 then 0 - Ideal.sin (angle v ((i 0).val * 1024 + a.val) l)
      else Ideal.sin (angle v ((i 0).val * 1024 + a.val) l) := by
  rw [← angles]
  unfold out0_2
  frame_out
  generalize hT : k0_pay1 (F := Ideal) i v = T
  unfold k0_pay3
  rw [hT]
  have low : ∀ l : Fin 128, IntOp.cmpi .slt (BitVec.ofNat 32 l.val) 64#32 = if l.val < 64 then 1#1 else 0#1 := by decide
  pointwise []
  rw [low]
  split <;> rfl

/-- One column tile of a block of weights. -/
theorem cut (T : FVec Ideal S256x9216 .bf16) (y : S18x256x512.Idx) (o p : ℕ) (x : S1x256x512.Idx)
    (h0 : (y 0).val = p + (x 0).val) (h1 : (y 1).val = (x 1).val) (h2 : (y 2).val = (x 2).val)
    (hs : S256x9216.Slices ![0, o] S256x512) (ho : o = p * 512) (hc) :
    (shapeCast S1x256x512 (extractStridedSlice S256x512 ![0, o] T hs) hc : FVec Ideal S1x256x512 .bf16) x
    = T (ix2 (⟨(y 1).val, (y 1).isLt⟩ : Fin 256)
        (⟨(y 0).val * 512 + (y 2).val, by have : (y 0).val < 18 := (y 0).isLt; have : (y 2).val < 512 := (y 2).isLt; omega⟩ : Fin 9216)) := by
  subst ho
  idx_vars x
  have : x0.val < 1 := x0.isLt
  pointwise
  have h0' : (y 0).val = p + x0.val := h0
  have h2' : (y 2).val = x2.val := h2
  exact congrArg T (congrArg₂ ix2 (Fin.ext h1.symm) (Fin.ext (by dsimp only; omega)))

/-- The gained weights of a block. -/
theorem gained (x0 : Vec Ideal S1x256x9216 .f32) (x1 : Vec Ideal S256x1 .f32) (a : Fin 256) (b : Fin 9216) :
    k1_pay21 (F := Ideal) x0 x1 (ix2 a b) = (show EReal from x0 (ix3 (0 : Fin 1) a b)) * (show EReal from x1 (ix2 a (0 : Fin 1))) := by
  pointwise [k1_pay21, k1_pay6]

/-- What a point of the cast leaves in its block. -/
theorem tiles (x0 : Vec Ideal S1x256x9216 .f32) (x1 : Vec Ideal S256x1 .f32) (y : S18x256x512.Idx) :
    out1_2 (F := Ideal) x0 x1 y = k1_pay21 (F := Ideal) x0 x1 (ix2 (⟨(y 1).val, (y 1).isLt⟩ : Fin 256)
      (⟨(y 0).val * 512 + (y 2).val, by have : (y 0).val < 18 := (y 0).isLt; have : (y 2).val < 512 := (y 2).isLt; omega⟩ : Fin 9216)) := by
  unfold out1_2
  canon_tiles x h
  case piece17 =>
    exact cut (k1_pay21 (F := Ideal) x0 x1) y 0 0 x (h0.trans (Nat.zero_add _).symm) h1 h2 slices_S256x9216_o0_0_S256x512 rfl _
  case piece4 =>
    exact cut (k1_pay21 (F := Ideal) x0 x1) y 6656 13 x h0 h1 h2 slices_S256x9216_o0_6656_S256x512 rfl _
  all_goals
    have k := fun o => cut (k1_pay21 (F := Ideal) x0 x1) y o _ x h0 h1 h2
    exact k _ _ (by decide) _

theorem copied (x : Vec Ideal S256x4096 .f32) (a : Fin 256) (k : Fin 4096) : out2_1 (F := Ideal) x (ix2 a k) = x (ix2 a k) :=
  Cert.UpIdeal.Squares.copied x a k

theorem squares (x : Vec Ideal S256x4096 .f32) (a : Fin 256) (l : Fin 128) :
    out2_2 (F := Ideal) x (ix2 a l) = lane (fun k => x (ix2 a k)) l :=
  Cert.UpIdeal.Squares.squares x a l

/-- The attention's factor on the tiles of queries. -/
def factor (j : ℕ) : EReal := if j < 4 ∨ (6 ≤ j ∧ j < 10) then Ideal.ofBits .f32 0x3DB504F3#32 else Ideal.ofBits .f32 0x3F800000#32

/-- The bit that picks the factor. -/
theorem bit : ∀ j : Fin 18, Scalar.ori (Scalar.cmpi .slt (Scalar.muli (BitVec.ofNat 32 j.val) 512#32) 2048#32)
    (Scalar.andi (Scalar.cmpi .sge (Scalar.muli (BitVec.ofNat 32 j.val) 512#32) 3072#32)
      (Scalar.cmpi .slt (Scalar.muli (BitVec.ofNat 32 j.val) 512#32) 5120#32))
    = if j.val < 4 ∨ (6 ≤ j.val ∧ j.val < 10) then 1#1 else 0#1 := by decide

theorem factor_eq (j : Fin 18) : Scalar.select (if j.val < 4 ∨ (6 ≤ j.val ∧ j.val < 10) then 1#1 else 0#1)
    (Ideal.ofBits .f32 0x3DB504F3#32) (Ideal.ofBits .f32 0x3F800000#32) = factor j.val := by
  unfold factor
  split <;> rfl

theorem factor3 (i : grid3.Coords) : k3_pay2 (F := Ideal) i = factor (i 1).val := by
  rw [← factor_eq (⟨(i 1).val, (i 1).isLt⟩ : Fin 18), ← bit]
  rfl
theorem factor4 (i : grid4.Coords) : k4_pay2 (F := Ideal) i = factor (i 1).val := by
  rw [← factor_eq (⟨(i 1).val, (i 1).isLt⟩ : Fin 18), ← bit]
  rfl

/-- The lane of a tile a rotary pair's other half lies in. -/
def other (n : Fin 512) : Fin 512 := ⟨n.val / 128 * 128 + (n.val % 128 + 64) % 128, by omega⟩

/-- A tile's column within its head. -/
def inner (n : Fin 512) : Fin 128 := ⟨n.val % 128, by omega⟩

/-- One row of a tile with its rotary factors. -/
def turned (T : Fin 512 → EReal) (C S : Fin 128 → EReal) (n : Fin 512) : EReal :=
  T n * C (inner n) + T (other n) * S (inner n)

/-- One row of a tile of the product, with what the tile's number `j` asks of it. -/
def mixRow (x : Fin 4096 → EReal) (q : Fin 128 → EReal) (w : Fin 4096 → Fin 512 → EReal) (C S : Fin 128 → EReal) (j : ℕ) (n : Fin 512) : EReal :=
  (if j < 5 then turned (fun n => (∑ k, x k * w k n) * Norm.rstd (∑ l, q l)) C S n else (∑ k, x k * w k n) * Norm.rstd (∑ l, q l)) * factor j

theorem product3 (x0 : Vec Ideal S2048x4096 .bf16) (x1 : Vec Ideal S2048x128 .f32) (x2 : Vec Ideal S1x4096x512 .bf16) (a : Fin 2048) (n : Fin 512) :
    k3_pay1 (F := Ideal) x0 x2 x1 (ix2 a n) = (∑ k : Fin 4096, (show EReal from x0 (ix2 a k)) * (show EReal from x2 (ix3 (0 : Fin 1) k n)))
      * Norm.rstd (∑ l : Fin 128, (show EReal from x1 (ix2 a l))) := by
  pointwise [k3_pay1]
  rfl
theorem product4 (x0 : Vec Ideal S512x4096 .bf16) (x1 : Vec Ideal S512x128 .f32) (x2 : Vec Ideal S1x4096x512 .bf16) (a : Fin 512) (n : Fin 512) :
    k4_pay1 (F := Ideal) x0 x2 x1 (ix2 a n) = (∑ k : Fin 4096, (show EReal from x0 (ix2 a k)) * (show EReal from x2 (ix3 (0 : Fin 1) k n)))
      * Norm.rstd (∑ l : Fin 128, (show EReal from x1 (ix2 a l))) := by
  pointwise [k4_pay1]
  rfl

/-- One head of a rotated block. -/
theorem piece3 (T : FVec Ideal S2048x512 .f32) (C S : FVec Ideal S2048x128 .f32) (s : EReal) (y : S2048x512.Idx) (o p : ℕ) (x : S2048x128.Idx)
    (h0 : (y 0).val = (x 0).val) (h1 : (y 1).val = o + (x 1).val) (hs : S2048x512.Slices ![0, o] S2048x128) (ho : o = p * 128) (hc hr hb) :
    (truncf .bf16 (mulf (addf (mulf (extractStridedSlice S2048x128 ![0, o] T hs) (shapeCast S2048x128 C hc))
        (mulf (dynamicRotate 1 64#32 none (extractStridedSlice S2048x128 ![0, o] T hs) hr) (shapeCast S2048x128 S hc)))
        (broadcast S2048x128 (s : Ideal .f32))) hb : FVec Ideal S2048x128 .bf16) x
    = turned (fun n => T (ix2 (⟨(y 0).val, (y 0).isLt⟩ : Fin 2048) n)) (fun l => C (ix2 (⟨(y 0).val, (y 0).isLt⟩ : Fin 2048) l))
        (fun l => S (ix2 (⟨(y 0).val, (y 0).isLt⟩ : Fin 2048) l)) (⟨(y 1).val, (y 1).isLt⟩ : Fin 512) * s := by
  subst ho
  idx_vars x
  idx_vars y
  have l1 : x1.val < 128 := x1.isLt
  have h1 : y1.val = p * 128 + x1.val := h1
  have h0 : y0 = x0 := Fin.ext h0
  subst h0
  pointwise
  unfold turned
  have e1 : inner y1 = x1 := Fin.ext (by show y1.val % 128 = _; omega)
  refine congrArg (· * s) (congrArg₂ (fun a b : EReal => a + b) (congrArg₂ (fun a b : EReal => a * b) (congrArg (fun n => T (ix2 y0 n)) (Fin.ext ?_)) ?_)
    (congrArg₂ (fun a b : EReal => a * b) (congrArg (fun n => T (ix2 y0 n)) (Fin.ext ?_)) ?_))
  · exact h1.symm
  · exact congrArg (fun l => C (ix2 y0 l)) e1.symm
  · show _ = y1.val / 128 * 128 + (y1.val % 128 + 64) % 128
    dsimp only
    omega
  · exact congrArg (fun l => S (ix2 y0 l)) e1.symm
theorem piece4 (T : FVec Ideal S512x512 .f32) (C S : FVec Ideal S512x128 .f32) (s : EReal) (y : S512x512.Idx) (o p : ℕ) (x : S512x128.Idx)
    (h0 : (y 0).val = (x 0).val) (h1 : (y 1).val = o + (x 1).val) (hs : S512x512.Slices ![0, o] S512x128) (ho : o = p * 128) (hc hr) :
    (mulf (addf (mulf (extractStridedSlice S512x128 ![0, o] T hs) (shapeCast S512x128 C hc))
        (mulf (dynamicRotate 1 64#32 none (extractStridedSlice S512x128 ![0, o] T hs) hr) (shapeCast S512x128 S hc)))
        (broadcast S512x128 (s : Ideal .f32)) : FVec Ideal S512x128 .f32) x
    = turned (fun n => T (ix2 (⟨(y 0).val, (y 0).isLt⟩ : Fin 512) n)) (fun l => C (ix2 (⟨(y 0).val, (y 0).isLt⟩ : Fin 512) l))
        (fun l => S (ix2 (⟨(y 0).val, (y 0).isLt⟩ : Fin 512) l)) (⟨(y 1).val, (y 1).isLt⟩ : Fin 512) * s := by
  subst ho
  idx_vars x
  idx_vars y
  have l1 : x1.val < 128 := x1.isLt
  have h1 : y1.val = p * 128 + x1.val := h1
  have h0 : y0 = x0 := Fin.ext h0
  subst h0
  pointwise
  unfold turned
  have e1 : inner y1 = x1 := Fin.ext (by show y1.val % 128 = _; omega)
  refine congrArg (· * s) (congrArg₂ (fun a b : EReal => a + b) (congrArg₂ (fun a b : EReal => a * b) (congrArg (fun n => T (ix2 y0 n)) (Fin.ext ?_)) ?_)
    (congrArg₂ (fun a b : EReal => a * b) (congrArg (fun n => T (ix2 y0 n)) (Fin.ext ?_)) ?_))
  · exact h1.symm
  · exact congrArg (fun l => C (ix2 y0 l)) e1.symm
  · show _ = y1.val / 128 * 128 + (y1.val % 128 + 64) % 128
    dsimp only
    omega
  · exact congrArg (fun l => S (ix2 y0 l)) e1.symm

end Cert.MixerIdeal.Parts

end
-- ==== Proof.MixerArrays.lean ====
/- What each call of mixers A and B's projection leaves: the rotary tables, the gained weights in tiles, the residual with its squares, and the projected rows. -/
module

public import proofs.«01_k».proof.Proof.MixerParts
public import Idealize.ShloMosaic.Lib.Pipeline.ValueKit
public import Idealize.ShloMosaic.Lib.Pointwise

@[expose] public section

set_option maxRecDepth 16384

noncomputable section

namespace Cert.MixerIdeal.Parts

open Cert.MixerIdeal Cert.MixerIdeal.Gen Idealize.ShloMosaic Idealize.ShloMosaic.TcCoe Idealize.SL.Sem
open Idealize.ShloMosaic.Pipeline (Dat)
open Cert.UpIdeal.Squares (lane)

/-- The tables of cosines, and of sines with the first half's sign. -/
def cosTable (v : FVec Ideal S1x128 .f32) (i : S16384x128.Idx) : EReal := Ideal.cos (angle v (i 0).val (⟨(i 1).val, (i 1).isLt⟩ : Fin 128))
def sinTable (v : FVec Ideal S1x128 .f32) (i : S16384x128.Idx) : EReal :=
  if (i 1).val < 64 then 0 - Ideal.sin (angle v (i 0).val (⟨(i 1).val, (i 1).isLt⟩ : Fin 128))
  else Ideal.sin (angle v (i 0).val (⟨(i 1).val, (i 1).isLt⟩ : Fin 128))

/-- A layer's weights, gained row by row, in column tiles. -/
def gainedTiles (W : FVec Ideal S2x4096x9216 .f32) (s : Fin 2) (g : FVec Ideal S4096x1 .f32) (y : S18x4096x512.Idx) : EReal :=
  (show EReal from W (ix3 s (⟨(y 1).val, (y 1).isLt⟩ : Fin 4096)
    (⟨(y 0).val * 512 + (y 2).val, by have : (y 0).val < 18 := (y 0).isLt; have : (y 2).val < 512 := (y 2).isLt; omega⟩ : Fin 9216)))
  * (show EReal from g (ix2 (⟨(y 1).val, (y 1).isLt⟩ : Fin 4096) (0 : Fin 1)))

/-- The rows' squares, lane by lane. -/
def lanesOf (X : FVec Ideal S16384x4096 .f32) (i : S16384x128.Idx) : EReal :=
  lane (fun k => X (ix2 (⟨(i 0).val, (i 0).isLt⟩ : Fin 16384) k)) (⟨(i 1).val, (i 1).isLt⟩ : Fin 128)

/-- All rows' projections. -/
def mixed (X : FVec Ideal S16384x4096 .bf16) (Q : FVec Ideal S16384x128 .f32) (A : FVec Ideal S18x4096x512 .bf16) (C S : FVec Ideal S16384x128 .f32)
    (i : S16384x9216.Idx) : EReal :=
  mixRow (fun k => X (ix2 (⟨(i 0).val, (i 0).isLt⟩ : Fin 16384) k)) (fun l => Q (ix2 (⟨(i 0).val, (i 0).isLt⟩ : Fin 16384) l))
    (fun k n => A (ix3 (⟨(i 1).val / 512, by have : (i 1).val < 9216 := (i 1).isLt; omega⟩ : Fin 18) k n))
    (fun l => C (ix2 (⟨(i 0).val, (i 0).isLt⟩ : Fin 16384) l)) (fun l => S (ix2 (⟨(i 0).val, (i 0).isLt⟩ : Fin 16384) l))
    ((i 1).val / 512) (⟨(i 1).val % 512, Nat.mod_lt _ (by decide)⟩ : Fin 512)

/-- The last rows' projections. -/
def mixedTail (X : FVec Ideal S512x4096 .bf16) (Q : FVec Ideal S512x128 .f32) (A : FVec Ideal S18x4096x512 .bf16) (C S : FVec Ideal S512x128 .f32)
    (i : S512x9216.Idx) : EReal :=
  mixRow (fun k => X (ix2 (⟨(i 0).val, (i 0).isLt⟩ : Fin 512) k)) (fun l => Q (ix2 (⟨(i 0).val, (i 0).isLt⟩ : Fin 512) l))
    (fun k n => A (ix3 (⟨(i 1).val / 512, by have : (i 1).val < 9216 := (i 1).isLt; omega⟩ : Fin 18) k n))
    (fun l => C (ix2 (⟨(i 0).val, (i 0).isLt⟩ : Fin 512) l)) (fun l => S (ix2 (⟨(i 0).val, (i 0).isLt⟩ : Fin 512) l))
    ((i 1).val / 512) (⟨(i 1).val % 512, Nat.mod_lt _ (by decide)⟩ : Fin 512)

theorem mixRow_congr {x x' : Fin 4096 → EReal} {q q' : Fin 128 → EReal} {w w' : Fin 4096 → Fin 512 → EReal} {C C' S S' : Fin 128 → EReal}
    {j j' : ℕ} {n n' : Fin 512} (hx : ∀ k, x k = x' k) (hq : ∀ l, q l = q' l) (hw : ∀ k n, w k n = w' k n) (hC : ∀ l, C l = C' l)
    (hS : ∀ l, S l = S' l) (hj : j = j') (hn : n = n') : mixRow x q w C S j n = mixRow x' q' w' C' S' j' n' := by
  obtain rfl := funext hx
  obtain rfl := funext hq
  obtain rfl : w = w' := funext fun k => funext (hw k)
  obtain rfl := funext hC
  obtain rfl := funext hS
  rw [hj, hn]

variable (V : (c : Dev nD) → (b : Ref sig .tc) → Buf (Elt Ideal) ((c : Thread nD τ).loc b))

theorem idx0 : ∀ t : Fin cfg0.N, win0_0.index t = ![0, 0] ∧ win0_1.index t = ![(grid0.coords t 0).val, 0]
    ∧ win0_2.index t = ![(grid0.coords t 0).val, 0] :=
  (by decide +kernel : ∀ t : Fin grid0.N, _)
theorem idx1 : ∀ t : Fin cfg1.N, win1_0.index t = ![0, (grid1.coords t 0).val, 0] ∧ win1_1.index t = ![(grid1.coords t 0).val, 0]
    ∧ win1_2.index t = ![0, (grid1.coords t 0).val, 0] :=
  (by decide +kernel : ∀ t : Fin grid1.N, _)
theorem idx5 : ∀ t : Fin cfg5.N, win5_0.index t = ![1, (grid5.coords t 0).val, 0] ∧ win5_1.index t = ![(grid5.coords t 0).val, 0]
    ∧ win5_2.index t = ![0, (grid5.coords t 0).val, 0] :=
  (by decide +kernel : ∀ t : Fin grid5.N, _)
theorem idx2 : ∀ t : Fin cfg2.N, win2_0.index t = ![(grid2.coords t 0).val, 0] ∧ win2_1.index t = ![(grid2.coords t 0).val, 0]
    ∧ win2_2.index t = ![(grid2.coords t 0).val, 0] :=
  (by decide +kernel : ∀ t : Fin grid2.N, _)
theorem idx6 : ∀ t : Fin cfg6.N, win6_0.index t = ![(grid6.coords t 0).val, 0] ∧ win6_1.index t = ![(grid6.coords t 0).val, 0]
    ∧ win6_2.index t = ![(grid6.coords t 0).val, 0] :=
  (by decide +kernel : ∀ t : Fin grid6.N, _)
theorem idx3 : ∀ t : Fin cfg3.N, win3_0.index t = ![(grid3.coords t 0).val, 0] ∧ win3_1.index t = ![(grid3.coords t 0).val, 0]
    ∧ win3_2.index t = ![(grid3.coords t 1).val, 0, 0] ∧ win3_3.index t = ![(grid3.coords t 0).val, 0] ∧ win3_4.index t = ![(grid3.coords t 0).val, 0]
    ∧ win3_5.index t = ![(grid3.coords t 0).val, (grid3.coords t 1).val] :=
  (by decide +kernel : ∀ t : Fin grid3.N, _)
theorem idx7 : ∀ t : Fin cfg7.N, win7_0.index t = ![(grid7.coords t 0).val, 0] ∧ win7_1.index t = ![(grid7.coords t 0).val, 0]
    ∧ win7_2.index t = ![(grid7.coords t 1).val, 0, 0] ∧ win7_3.index t = ![(grid7.coords t 0).val, 0] ∧ win7_4.index t = ![(grid7.coords t 0).val, 0]
    ∧ win7_5.index t = ![(grid7.coords t 0).val, (grid7.coords t 1).val] :=
  (by decide +kernel : ∀ t : Fin grid7.N, _)
theorem idx4 : ∀ t : Fin cfg4.N, win4_0.index t = ![0, 0] ∧ win4_1.index t = ![0, 0]
    ∧ win4_2.index t = ![(grid4.coords t 1).val, 0, 0] ∧ win4_3.index t = ![0, 0] ∧ win4_4.index t = ![0, 0]
    ∧ win4_5.index t = ![0, (grid4.coords t 1).val] :=
  (by decide +kernel : ∀ t : Fin grid4.N, _)
theorem idx8 : ∀ t : Fin cfg8.N, win8_0.index t = ![0, 0] ∧ win8_1.index t = ![0, 0]
    ∧ win8_2.index t = ![(grid8.coords t 1).val, 0, 0] ∧ win8_3.index t = ![0, 0] ∧ win8_4.index t = ![0, 0]
    ∧ win8_5.index t = ![0, (grid8.coords t 1).val] :=
  (by decide +kernel : ∀ t : Fin grid8.N, _)

theorem lt0 (t : Fin cfg0.N) : (grid0.coords t 0).val < 16 := (grid0.coords t 0).isLt
theorem lt1 (t : Fin cfg1.N) : (grid1.coords t 0).val < 16 := (grid1.coords t 0).isLt
theorem lt5 (t : Fin cfg5.N) : (grid5.coords t 0).val < 16 := (grid5.coords t 0).isLt
theorem lt2 (t : Fin cfg2.N) : (grid2.coords t 0).val < 64 := (grid2.coords t 0).isLt
theorem lt6 (t : Fin cfg6.N) : (grid6.coords t 0).val < 64 := (grid6.coords t 0).isLt
theorem lt3 (t : Fin cfg3.N) : (grid3.coords t 0).val < 8 ∧ (grid3.coords t 1).val < 18 := ⟨(grid3.coords t 0).isLt, (grid3.coords t 1).isLt⟩
theorem lt7 (t : Fin cfg7.N) : (grid7.coords t 0).val < 8 ∧ (grid7.coords t 1).val < 18 := ⟨(grid7.coords t 0).isLt, (grid7.coords t 1).isLt⟩
theorem lt4 (t : Fin cfg4.N) : (grid4.coords t 1).val < 18 := (grid4.coords t 1).isLt
theorem lt8 (t : Fin cfg8.N) : (grid8.coords t 1).val < 18 := (grid8.coords t 1).isLt

theorem col3 : ∀ t : Fin cfg3.N, (grid3.coords t 1).val = t.val % 18 := (by decide +kernel : ∀ t : Fin grid3.N, _)
theorem col7 : ∀ t : Fin cfg7.N, (grid7.coords t 1).val = t.val % 18 := (by decide +kernel : ∀ t : Fin grid7.N, _)
theorem col4 : ∀ t : Fin cfg4.N, (grid4.coords t 1).val = t.val := (by decide +kernel : ∀ t : Fin grid4.N, _)
theorem col8 : ∀ t : Fin cfg8.N, (grid8.coords t 1).val = t.val := (by decide +kernel : ∀ t : Fin grid8.N, _)

/-- A block of a table, once its input is read. -/
theorem cos_block (v : FVec Ideal S1x128 .f32) (t : Fin cfg0.N) (x : Vec Ideal S1x128 .f32) (h : ∀ l : Fin 128, x (ix2 (0 : Fin 1) l) = v (ix2 (0 : Fin 1) l))
    (y : S1024x128.Idx) (i : S16384x128.Idx) (e0 : (i 0).val = (grid0.coords t 0).val * 1024 + (y 0).val) (e1 : (i 1).val = (y 1).val) :
    out0_1 (F := Ideal) (grid0.coords t) x y = cosTable v i := by
  idx_vars y
  idx_vars i
  have hp := lt0 t
  have : y0.val < 1024 := y0.isLt
  have e0 : i0 = (⟨(grid0.coords t 0).val * 1024 + y0.val, by omega⟩ : Fin 16384) := Fin.ext e0
  have e1 : i1 = y1 := Fin.ext e1
  rw [e0, e1, cosines]
  unfold cosTable angle
  rw [h]
  rfl
theorem sin_block (v : FVec Ideal S1x128 .f32) (t : Fin cfg0.N) (x : Vec Ideal S1x128 .f32) (h : ∀ l : Fin 128, x (ix2 (0 : Fin 1) l) = v (ix2 (0 : Fin 1) l))
    (y : S1024x128.Idx) (i : S16384x128.Idx) (e0 : (i 0).val = (grid0.coords t 0).val * 1024 + (y 0).val) (e1 : (i 1).val = (y 1).val) :
    out0_2 (F := Ideal) (grid0.coords t) x y = sinTable v i := by
  idx_vars y
  idx_vars i
  have hp := lt0 t
  have : y0.val < 1024 := y0.isLt
  have e0 : i0 = (⟨(grid0.coords t 0).val * 1024 + y0.val, by omega⟩ : Fin 16384) := Fin.ext e0
  have e1 : i1 = y1 := Fin.ext e1
  rw [e0, e1, sines]
  unfold sinTable angle
  rw [h]
  rfl

theorem final0_1 (c : Dev nD) : (dat0 V c).arrAt 1 cfg0.N = cosTable (V c main_v7) := by
  refine (dat0 V c).arrAt_eq_of_covers 1 _ (by decide +kernel) fun t hf y => ?_
  have := lt0 t
  blk_simp
  rw [after0_1]
  exact cos_block _ t _ (fun l => by blk_ext [iblk0, idx0 t]) y _
    (by blk_simp [Pipeline.Window.cell_apply, idx0 t]) (by blk_simp [Pipeline.Window.cell_apply, idx0 t])
theorem final0_2 (c : Dev nD) : (dat0 V c).arrAt 2 cfg0.N = sinTable (V c main_v7) := by
  refine (dat0 V c).arrAt_eq_of_covers 2 _ (by decide +kernel) fun t hf y => ?_
  have := lt0 t
  blk_simp
  rw [after0_2]
  exact sin_block _ t _ (fun l => by blk_ext [iblk0, idx0 t]) y _
    (by blk_simp [Pipeline.Window.cell_apply, idx0 t]) (by blk_simp [Pipeline.Window.cell_apply, idx0 t])

/-- A block of tiles of gained weights, once its inputs are read. -/
theorem tiles_block (W : FVec Ideal S2x4096x9216 .f32) (s : Fin 2) (g : FVec Ideal S4096x1 .f32) (p : ℕ) (hp : p < 16)
    (x0 : Vec Ideal S1x256x9216 .f32) (x1 : Vec Ideal S256x1 .f32)
    (h0 : ∀ (a : Fin 256) (b : Fin 9216), x0 (ix3 (0 : Fin 1) a b) = W (ix3 s (⟨p * 256 + a.val, by omega⟩ : Fin 4096) b))
    (h1 : ∀ a : Fin 256, x1 (ix2 a (0 : Fin 1)) = g (ix2 (⟨p * 256 + a.val, by omega⟩ : Fin 4096) (0 : Fin 1)))
    (y : S18x256x512.Idx) (i : S18x4096x512.Idx) (e0 : (i 0).val = (y 0).val) (e1 : (i 1).val = p * 256 + (y 1).val) (e2 : (i 2).val = (y 2).val) :
    out1_2 (F := Ideal) x0 x1 y = gainedTiles W s g i := by
  idx_vars y
  idx_vars i
  have : y1.val < 256 := y1.isLt
  have e0 : i0 = y0 := Fin.ext e0
  have e1 : i1 = (⟨p * 256 + y1.val, by omega⟩ : Fin 4096) := Fin.ext e1
  have e2 : i2 = y2 := Fin.ext e2
  rw [e0, e1, e2, tiles, gained, h0, h1]
  rfl

theorem final1 (c : Dev nD) : (dat1 V c).arrAt 2 cfg1.N = gainedTiles (V c main_arg2) 0 (V c main_v11) := by
  refine (dat1 V c).arrAt_eq_of_covers 2 _ (by decide +kernel) fun t hf y => ?_
  have := lt1 t
  blk_simp
  rw [after1_2]
  exact tiles_block _ _ _ _ (lt1 t) _ _ (fun a b => by blk_ext [iblk1, idx1 t]) (fun a => by blk_ext [iblk1, idx1 t]) y _
    (by blk_simp [Pipeline.Window.cell_apply, idx1 t]) (by blk_simp [Pipeline.Window.cell_apply, idx1 t]) (by blk_simp [Pipeline.Window.cell_apply, idx1 t])
theorem final5 (c : Dev nD) : (dat5 V c).arrAt 2 cfg5.N = gainedTiles (V c main_arg2) 1 (V c main_v30) := by
  refine (dat5 V c).arrAt_eq_of_covers 2 _ (by decide +kernel) fun t hf y => ?_
  have := lt5 t
  blk_simp
  rw [after5_2]
  exact tiles_block _ _ _ _ (lt5 t) _ _ (fun a b => by blk_ext [iblk5, idx5 t]) (fun a => by blk_ext [iblk5, idx5 t]) y _
    (by blk_simp [Pipeline.Window.cell_apply, idx5 t]) (by blk_simp [Pipeline.Window.cell_apply, idx5 t]) (by blk_simp [Pipeline.Window.cell_apply, idx5 t])

/-- A block of the residual and of its squares, once the input is read. -/
theorem copied_block (X : FVec Ideal S16384x4096 .f32) (p : ℕ) (hp : p < 64) (x : Vec Ideal S256x4096 .f32)
    (h : ∀ (a : Fin 256) (k : Fin 4096), x (ix2 a k) = X (ix2 (⟨p * 256 + a.val, by omega⟩ : Fin 16384) k))
    (y : S256x4096.Idx) (i : S16384x4096.Idx) (e0 : (i 0).val = p * 256 + (y 0).val) (e1 : (i 1).val = (y 1).val) :
    out2_1 (F := Ideal) x y = X i := by
  idx_vars y
  idx_vars i
  have : y0.val < 256 := y0.isLt
  have e0 : i0 = (⟨p * 256 + y0.val, by omega⟩ : Fin 16384) := Fin.ext e0
  have e1 : i1 = y1 := Fin.ext e1
  rw [e0, e1, copied, h]
theorem squares_block (X : FVec Ideal S16384x4096 .f32) (p : ℕ) (hp : p < 64) (x : Vec Ideal S256x4096 .f32)
    (h : ∀ (a : Fin 256) (k : Fin 4096), x (ix2 a k) = X (ix2 (⟨p * 256 + a.val, by omega⟩ : Fin 16384) k))
    (y : S256x128.Idx) (i : S16384x128.Idx) (e0 : (i 0).val = p * 256 + (y 0).val) (e1 : (i 1).val = (y 1).val) :
    out2_2 (F := Ideal) x y = lanesOf X i := by
  idx_vars y
  idx_vars i
  have : y0.val < 256 := y0.isLt
  have e0 : i0 = (⟨p * 256 + y0.val, by omega⟩ : Fin 16384) := Fin.ext e0
  have e1 : i1 = y1 := Fin.ext e1
  rw [e0, e1, squares]
  exact congrArg (fun f => lane f _) (funext fun k => h _ k)

theorem read2 (c : Dev nD) (t : Fin cfg2.N) (a : Fin 256) (k : Fin 4096) : iblk2 V c 0 t (ix2 a k)
    = V c main_arg0 (ix2 (⟨(grid2.coords t 0).val * 256 + a.val, by have := lt2 t; omega⟩ : Fin 16384) k) := by
  blk_ext [iblk2, idx2 t]
theorem read6 (c : Dev nD) (t : Fin cfg6.N) (a : Fin 256) (k : Fin 4096) : iblk6 V c 0 t (ix2 a k)
    = V c main_arg1 (ix2 (⟨(grid6.coords t 0).val * 256 + a.val, by have := lt6 t; omega⟩ : Fin 16384) k) := by
  blk_ext [iblk6, idx6 t]

theorem final2_1 (c : Dev nD) : (dat2 V c).arrAt 1 cfg2.N = fun i : S16384x4096.Idx => (V c main_arg0 i : EReal) := by
  refine (dat2 V c).arrAt_eq_of_covers 1 _ (by decide +kernel) fun t hf y => ?_
  have := lt2 t
  blk_simp
  rw [after2_1]
  exact copied_block _ _ (lt2 t) _ (read2 V c t) y _ (by blk_simp [Pipeline.Window.cell_apply, idx2 t]) (by blk_simp [Pipeline.Window.cell_apply, idx2 t])
theorem final2_2 (c : Dev nD) : (dat2 V c).arrAt 2 cfg2.N = lanesOf (V c main_arg0) := by
  refine (dat2 V c).arrAt_eq_of_covers 2 _ (by decide +kernel) fun t hf y => ?_
  have := lt2 t
  blk_simp
  rw [after2_2]
  exact squares_block _ _ (lt2 t) _ (read2 V c t) y _ (by blk_simp [Pipeline.Window.cell_apply, idx2 t]) (by blk_simp [Pipeline.Window.cell_apply, idx2 t])
theorem final6_1 (c : Dev nD) : (dat6 V c).arrAt 1 cfg6.N = fun i : S16384x4096.Idx => (V c main_arg1 i : EReal) := by
  refine (dat6 V c).arrAt_eq_of_covers 1 _ (by decide +kernel) fun t hf y => ?_
  have := lt6 t
  blk_simp
  rw [after6_1]
  exact copied_block _ _ (lt6 t) _ (read6 V c t) y _ (by blk_simp [Pipeline.Window.cell_apply, idx6 t]) (by blk_simp [Pipeline.Window.cell_apply, idx6 t])
theorem final6_2 (c : Dev nD) : (dat6 V c).arrAt 2 cfg6.N = lanesOf (V c main_arg1) := by
  refine (dat6 V c).arrAt_eq_of_covers 2 _ (by decide +kernel) fun t hf y => ?_
  have := lt6 t
  blk_simp
  rw [after6_2]
  exact squares_block _ _ (lt6 t) _ (read6 V c t) y _ (by blk_simp [Pipeline.Window.cell_apply, idx6 t]) (by blk_simp [Pipeline.Window.cell_apply, idx6 t])

end Cert.MixerIdeal.Parts

end
-- ==== Proof.MixerTiles.lean ====
/- The projection's calls of mixers A and B: every column tile of every block of rows, rotated or not. -/
module

public import proofs.«01_k».proof.Proof.MixerArrays
public import Idealize.ShloMosaic.Lib.Pipeline.ValueKit
public import Idealize.ShloMosaic.Lib.Pointwise

@[expose] public section

set_option maxRecDepth 16384

noncomputable section

namespace Cert.MixerIdeal.Parts

open Cert.MixerIdeal Cert.MixerIdeal.Gen Idealize.ShloMosaic Idealize.ShloMosaic.TcCoe Idealize.SL.Sem
open Idealize.ShloMosaic.Pipeline (Dat)

/-- A rotated tile's entry, and an unrotated one's, as an entry of `mixRow`. -/
theorem rotated3 (x0 : Vec Ideal S2048x4096 .bf16) (x1 : Vec Ideal S2048x128 .f32) (x2 : Vec Ideal S1x4096x512 .bf16)
    (x3 x4 : Vec Ideal S2048x128 .f32) (a : Fin 2048) (n : Fin 512) (j : ℕ) (hj : j < 5) :
    turned (fun n => k3_pay1 (F := Ideal) x0 x2 x1 (ix2 a n)) (fun l => x3 (ix2 a l)) (fun l => x4 (ix2 a l)) n * factor j
      = mixRow (fun k => x0 (ix2 a k)) (fun l => x1 (ix2 a l)) (fun k n => x2 (ix3 (0 : Fin 1) k n)) (fun l => x3 (ix2 a l)) (fun l => x4 (ix2 a l)) j n := by
  unfold mixRow
  rw [if_pos hj]
  exact congrArg (fun T => turned T _ _ n * factor j) (funext fun n => product3 x0 x1 x2 a n)
theorem rotated4 (x0 : Vec Ideal S512x4096 .bf16) (x1 : Vec Ideal S512x128 .f32) (x2 : Vec Ideal S1x4096x512 .bf16)
    (x3 x4 : Vec Ideal S512x128 .f32) (a : Fin 512) (n : Fin 512) (j : ℕ) (hj : j < 5) :
    turned (fun n => k4_pay1 (F := Ideal) x0 x2 x1 (ix2 a n)) (fun l => x3 (ix2 a l)) (fun l => x4 (ix2 a l)) n * factor j
      = mixRow (fun k => x0 (ix2 a k)) (fun l => x1 (ix2 a l)) (fun k n => x2 (ix3 (0 : Fin 1) k n)) (fun l => x3 (ix2 a l)) (fun l => x4 (ix2 a l)) j n := by
  unfold mixRow
  rw [if_pos hj]
  exact congrArg (fun T => turned T _ _ n * factor j) (funext fun n => product4 x0 x1 x2 a n)

theorem kept3 (x0 : Vec Ideal S2048x4096 .bf16) (x1 : Vec Ideal S2048x128 .f32) (x2 : Vec Ideal S1x4096x512 .bf16)
    (x3 x4 : Vec Ideal S2048x128 .f32) (i : grid3.Coords) (a : Fin 2048) (n : Fin 512) (hj : ¬(i 1).val < 5) :
    k3_pay3 (F := Ideal) i x0 x2 x1 (ix2 a n)
      = mixRow (fun k => x0 (ix2 a k)) (fun l => x1 (ix2 a l)) (fun k n => x2 (ix3 (0 : Fin 1) k n)) (fun l => x3 (ix2 a l)) (fun l => x4 (ix2 a l))
        (i 1).val n := by
  unfold mixRow
  rw [if_neg hj]
  refine Eq.trans ?_ (congrArg₂ (fun p q : EReal => p * q) (product3 x0 x1 x2 a n) (factor3 i))
  generalize hT : k3_pay1 (F := Ideal) x0 x2 x1 = T
  generalize hs : k3_pay2 (F := Ideal) i = s
  unfold k3_pay3
  rw [hT, hs]
  pointwise
theorem kept4 (x0 : Vec Ideal S512x4096 .bf16) (x1 : Vec Ideal S512x128 .f32) (x2 : Vec Ideal S1x4096x512 .bf16)
    (x3 x4 : Vec Ideal S512x128 .f32) (i : grid4.Coords) (a : Fin 512) (n : Fin 512) (hj : ¬(i 1).val < 5) :
    k4_pay9 (F := Ideal) i x0 x2 x1 (ix2 a n)
      = mixRow (fun k => x0 (ix2 a k)) (fun l => x1 (ix2 a l)) (fun k n => x2 (ix3 (0 : Fin 1) k n)) (fun l => x3 (ix2 a l)) (fun l => x4 (ix2 a l))
        (i 1).val n := by
  unfold mixRow
  rw [if_neg hj]
  refine Eq.trans ?_ (congrArg₂ (fun p q : EReal => p * q) (product4 x0 x1 x2 a n) (factor4 i))
  generalize hT : k4_pay1 (F := Ideal) x0 x2 x1 = T
  generalize hs : k4_pay2 (F := Ideal) i = s
  unfold k4_pay9
  rw [hT, hs]
  pointwise

theorem factor7 (i : grid7.Coords) : k7_pay2 (F := Ideal) i = factor (i 1).val := factor3 i
theorem factor8 (i : grid8.Coords) : k8_pay2 (F := Ideal) i = factor (i 1).val := factor4 i

/-- A row of a block, as `mixRow` takes it. -/
def blockRow3 (x0 : Vec Ideal S2048x4096 .bf16) (x1 : Vec Ideal S2048x128 .f32) (x2 : Vec Ideal S1x4096x512 .bf16)
    (x3 x4 : Vec Ideal S2048x128 .f32) (j : ℕ) (y : S2048x512.Idx) : EReal :=
  mixRow (fun k => x0 (ix2 (⟨(y 0).val, (y 0).isLt⟩ : Fin 2048) k)) (fun l => x1 (ix2 (⟨(y 0).val, (y 0).isLt⟩ : Fin 2048) l))
    (fun k n => x2 (ix3 (0 : Fin 1) k n)) (fun l => x3 (ix2 (⟨(y 0).val, (y 0).isLt⟩ : Fin 2048) l))
    (fun l => x4 (ix2 (⟨(y 0).val, (y 0).isLt⟩ : Fin 2048) l)) j (⟨(y 1).val, (y 1).isLt⟩ : Fin 512)
def blockRow4 (x0 : Vec Ideal S512x4096 .bf16) (x1 : Vec Ideal S512x128 .f32) (x2 : Vec Ideal S1x4096x512 .bf16)
    (x3 x4 : Vec Ideal S512x128 .f32) (j : ℕ) (y : S512x512.Idx) : EReal :=
  mixRow (fun k => x0 (ix2 (⟨(y 0).val, (y 0).isLt⟩ : Fin 512) k)) (fun l => x1 (ix2 (⟨(y 0).val, (y 0).isLt⟩ : Fin 512) l))
    (fun k n => x2 (ix3 (0 : Fin 1) k n)) (fun l => x3 (ix2 (⟨(y 0).val, (y 0).isLt⟩ : Fin 512) l))
    (fun l => x4 (ix2 (⟨(y 0).val, (y 0).isLt⟩ : Fin 512) l)) j (⟨(y 1).val, (y 1).isLt⟩ : Fin 512)

variable (V : (c : Dev nD) → (b : Ref sig .tc) → Buf (Elt Ideal) ((c : Thread nD τ).loc b))

/-- What a point leaves in its block. -/
theorem point3 (c : Dev nD) (t : Fin cfg3.N) (y : S2048x512.Idx) : outsAt3 V c t.val t.isLt y
    = blockRow3 (iblk3 V c 0 t) (iblk3 V c 1 t) (iblk3 V c 2 t) (iblk3 V c 3 t) (iblk3 V c 4 t) (grid3.coords t 1).val y := by
  have hc := col3 t
  by_cases h0 : t.val % 18 ≤ 4
  · refine Eq.trans ?_ (rotated3 (iblk3 V c 0 t) (iblk3 V c 1 t) (iblk3 V c 2 t) (iblk3 V c 3 t) (iblk3 V c 4 t)
      (⟨(y 0).val, (y 0).isLt⟩ : Fin 2048) (⟨(y 1).val, (y 1).isLt⟩ : Fin 512) _ (by omega))
    rw [← factor3, outsAt3_A V c t h0 (by omega)]
    generalize iblk3 V c 0 t = x0
    generalize iblk3 V c 1 t = x1
    generalize iblk3 V c 2 t = x2
    generalize iblk3 V c 3 t = x3
    generalize iblk3 V c 4 t = x4
    unfold out3_A_5
    frame_out
    canon_tiles x h
    case piece3 => exact piece3 (k3_pay1 (F := Ideal) x0 x2 x1) x3 x4 _ y 0 0 x h0 (h1.trans (Nat.zero_add _).symm) slices_S2048x512_o0_0_S2048x128 rfl _ _ _
    case piece2 => exact piece3 (k3_pay1 (F := Ideal) x0 x2 x1) x3 x4 _ y 128 1 x h0 h1 slices_S2048x512_o0_128_S2048x128 rfl _ _ _
    case piece1 => exact piece3 (k3_pay1 (F := Ideal) x0 x2 x1) x3 x4 _ y 256 2 x h0 h1 slices_S2048x512_o0_256_S2048x128 rfl _ _ _
    case piece0 => exact piece3 (k3_pay1 (F := Ideal) x0 x2 x1) x3 x4 _ y 384 3 x h0 h1 slices_S2048x512_o0_384_S2048x128 rfl _ _ _
  · refine Eq.trans ?_ (kept3 (iblk3 V c 0 t) (iblk3 V c 1 t) (iblk3 V c 2 t) (iblk3 V c 3 t) (iblk3 V c 4 t) (grid3.coords t)
      (⟨(y 0).val, (y 0).isLt⟩ : Fin 2048) (⟨(y 1).val, (y 1).isLt⟩ : Fin 512) (by omega))
    rw [outsAt3_B V c t h0 (by omega)]
    unfold out3_B_5
    frame_out
    exact congrArg _ (by blk_ext [])
theorem point4 (c : Dev nD) (t : Fin cfg4.N) (y : S512x512.Idx) : outsAt4 V c t.val t.isLt y
    = blockRow4 (iblk4 V c 0 t) (iblk4 V c 1 t) (iblk4 V c 2 t) (iblk4 V c 3 t) (iblk4 V c 4 t) (grid4.coords t 1).val y := by
  have hc := col4 t
  by_cases h0 : t.val < 5
  · refine Eq.trans ?_ (rotated4 (iblk4 V c 0 t) (iblk4 V c 1 t) (iblk4 V c 2 t) (iblk4 V c 3 t) (iblk4 V c 4 t)
      (⟨(y 0).val, (y 0).isLt⟩ : Fin 512) (⟨(y 1).val, (y 1).isLt⟩ : Fin 512) _ (by omega))
    rw [← factor4, outsAt4_A V c t h0 (by omega)]
    generalize iblk4 V c 0 t = x0
    generalize iblk4 V c 1 t = x1
    generalize iblk4 V c 2 t = x2
    generalize iblk4 V c 3 t = x3
    generalize iblk4 V c 4 t = x4
    unfold out4_A_5
    frame_out
    canon_tiles x h
    case piece3 => exact piece4 (k4_pay1 (F := Ideal) x0 x2 x1) x3 x4 _ y 0 0 x h0 (h1.trans (Nat.zero_add _).symm) slices_S512x512_o0_0_S512x128 rfl _ _
    case piece2 => exact piece4 (k4_pay1 (F := Ideal) x0 x2 x1) x3 x4 _ y 128 1 x h0 h1 slices_S512x512_o0_128_S512x128 rfl _ _
    case piece1 => exact piece4 (k4_pay1 (F := Ideal) x0 x2 x1) x3 x4 _ y 256 2 x h0 h1 slices_S512x512_o0_256_S512x128 rfl _ _
    case piece0 => exact piece4 (k4_pay1 (F := Ideal) x0 x2 x1) x3 x4 _ y 384 3 x h0 h1 slices_S512x512_o0_384_S512x128 rfl _ _
  · refine Eq.trans ?_ (kept4 (iblk4 V c 0 t) (iblk4 V c 1 t) (iblk4 V c 2 t) (iblk4 V c 3 t) (iblk4 V c 4 t) (grid4.coords t)
      (⟨(y 0).val, (y 0).isLt⟩ : Fin 512) (⟨(y 1).val, (y 1).isLt⟩ : Fin 512) (by omega))
    rw [outsAt4_B V c t h0 (by omega)]
    unfold out4_B_5
    frame_out
    exact congrArg _ (by blk_ext [])

/-- A block of projections, once its inputs are read. -/
theorem mixed_block (X : FVec Ideal S16384x4096 .bf16) (Q : FVec Ideal S16384x128 .f32) (A : FVec Ideal S18x4096x512 .bf16) (C S : FVec Ideal S16384x128 .f32)
    (p q : ℕ) (hp : p < 8) (hq : q < 18) (x0 : Vec Ideal S2048x4096 .bf16) (x1 : Vec Ideal S2048x128 .f32) (x2 : Vec Ideal S1x4096x512 .bf16)
    (x3 x4 : Vec Ideal S2048x128 .f32)
    (h0 : ∀ (a : Fin 2048) (k : Fin 4096), x0 (ix2 a k) = X (ix2 (⟨p * 2048 + a.val, by omega⟩ : Fin 16384) k))
    (h1 : ∀ (a : Fin 2048) (l : Fin 128), x1 (ix2 a l) = Q (ix2 (⟨p * 2048 + a.val, by omega⟩ : Fin 16384) l))
    (h2 : ∀ (k : Fin 4096) (n : Fin 512), x2 (ix3 (0 : Fin 1) k n) = A (ix3 (⟨q, hq⟩ : Fin 18) k n))
    (h3 : ∀ (a : Fin 2048) (l : Fin 128), x3 (ix2 a l) = C (ix2 (⟨p * 2048 + a.val, by omega⟩ : Fin 16384) l))
    (h4 : ∀ (a : Fin 2048) (l : Fin 128), x4 (ix2 a l) = S (ix2 (⟨p * 2048 + a.val, by omega⟩ : Fin 16384) l))
    (y : S2048x512.Idx) (i : S16384x9216.Idx) (e0 : (i 0).val = p * 2048 + (y 0).val) (e1 : (i 1).val = q * 512 + (y 1).val) :
    blockRow3 x0 x1 x2 x3 x4 q y = mixed X Q A C S i := by
  have hy : (y 1).val < 512 := (y 1).isLt
  have er : (⟨p * 2048 + (y 0).val, by have : (y 0).val < 2048 := (y 0).isLt; omega⟩ : Fin 16384) = ⟨(i 0).val, (i 0).isLt⟩ := Fin.ext e0.symm
  have et : (⟨q, hq⟩ : Fin 18) = ⟨(i 1).val / 512, by have : (i 1).val < 9216 := (i 1).isLt; omega⟩ := Fin.ext (by dsimp only; omega)
  refine mixRow_congr (fun k => (h0 _ k).trans ?_) (fun l => (h1 _ l).trans ?_) (fun k n => (h2 k n).trans ?_) (fun l => (h3 _ l).trans ?_)
    (fun l => (h4 _ l).trans ?_) (by omega) (Fin.ext (by dsimp only; omega))
  · exact congrArg (fun r => X (ix2 r k)) er
  · exact congrArg (fun r => Q (ix2 r l)) er
  · exact congrArg (fun r => A (ix3 r k n)) et
  · exact congrArg (fun r => C (ix2 r l)) er
  · exact congrArg (fun r => S (ix2 r l)) er
theorem tail_block (X : FVec Ideal S512x4096 .bf16) (Q : FVec Ideal S512x128 .f32) (A : FVec Ideal S18x4096x512 .bf16) (C S : FVec Ideal S512x128 .f32)
    (q : ℕ) (hq : q < 18) (x0 : Vec Ideal S512x4096 .bf16) (x1 : Vec Ideal S512x128 .f32) (x2 : Vec Ideal S1x4096x512 .bf16)
    (x3 x4 : Vec Ideal S512x128 .f32)
    (h0 : ∀ (a : Fin 512) (k : Fin 4096), x0 (ix2 a k) = X (ix2 a k))
    (h1 : ∀ (a : Fin 512) (l : Fin 128), x1 (ix2 a l) = Q (ix2 a l))
    (h2 : ∀ (k : Fin 4096) (n : Fin 512), x2 (ix3 (0 : Fin 1) k n) = A (ix3 (⟨q, hq⟩ : Fin 18) k n))
    (h3 : ∀ (a : Fin 512) (l : Fin 128), x3 (ix2 a l) = C (ix2 a l))
    (h4 : ∀ (a : Fin 512) (l : Fin 128), x4 (ix2 a l) = S (ix2 a l))
    (y : S512x512.Idx) (i : S512x9216.Idx) (e0 : (i 0).val = (y 0).val) (e1 : (i 1).val = q * 512 + (y 1).val) :
    blockRow4 x0 x1 x2 x3 x4 q y = mixedTail X Q A C S i := by
  have hy : (y 1).val < 512 := (y 1).isLt
  have er : (⟨(y 0).val, (y 0).isLt⟩ : Fin 512) = ⟨(i 0).val, (i 0).isLt⟩ := Fin.ext e0.symm
  have et : (⟨q, hq⟩ : Fin 18) = ⟨(i 1).val / 512, by have : (i 1).val < 9216 := (i 1).isLt; omega⟩ := Fin.ext (by dsimp only; omega)
  refine mixRow_congr (fun k => (h0 _ k).trans ?_) (fun l => (h1 _ l).trans ?_) (fun k n => (h2 k n).trans ?_) (fun l => (h3 _ l).trans ?_)
    (fun l => (h4 _ l).trans ?_) (by omega) (Fin.ext (by dsimp only; omega))
  · exact congrArg (fun r => X (ix2 r k)) er
  · exact congrArg (fun r => Q (ix2 r l)) er
  · exact congrArg (fun r => A (ix3 r k n)) et
  · exact congrArg (fun r => C (ix2 r l)) er
  · exact congrArg (fun r => S (ix2 r l)) er

/-- The projections of each layer, and of its last rows. -/
theorem final3 (c : Dev nD) : (dat3 V c).arrAt 5 cfg3.N
    = mixed (V c main_v13_0) (V c main_v13_1) (V c main_v12) (V c main_v8_0) (V c main_v8_1) := by
  refine (dat3 V c).arrAt_eq_of_covers 5 _ (by decide +kernel) fun t hf y => ?_
  have := lt3 t
  blk_simp
  rw [after3_5, point3]
  exact mixed_block _ _ _ _ _ _ _ (lt3 t).1 (lt3 t).2 _ _ _ _ _ (fun a k => by blk_ext [iblk3, idx3 t]) (fun a l => by blk_ext [iblk3, idx3 t])
    (fun k n => by blk_ext [iblk3, idx3 t]) (fun a l => by blk_ext [iblk3, idx3 t]) (fun a l => by blk_ext [iblk3, idx3 t]) y _
    (by blk_simp [Pipeline.Window.cell_apply, idx3 t]) (by blk_simp [Pipeline.Window.cell_apply, idx3 t])
set_option maxHeartbeats 1000000 in
theorem final4 (c : Dev nD) : (dat4 V c).arrAt 5 cfg4.N
    = mixedTail (V c main_v15) (V c main_v16) (V c main_v12) (V c main_v17) (V c main_v18) := by
  refine (dat4 V c).arrAt_eq_of_covers 5 _ (by decide +kernel) fun t hf y => ?_
  have := lt4 t
  blk_simp
  rw [after4_5, point4]
  exact tail_block _ _ _ _ _ _ (lt4 t) _ _ _ _ _ (fun a k => by blk_ext [iblk4, idx4 t]) (fun a l => by blk_ext [iblk4, idx4 t])
    (fun k n => by blk_ext [iblk4, idx4 t]) (fun a l => by blk_ext [iblk4, idx4 t]) (fun a l => by blk_ext [iblk4, idx4 t]) y _
    (by blk_simp [Pipeline.Window.cell_apply, idx4 t]) (by blk_simp [Pipeline.Window.cell_apply, idx4 t])

/-- The same for the later layer. -/
theorem point7 (c : Dev nD) (t : Fin cfg7.N) (y : S2048x512.Idx) : outsAt7 V c t.val t.isLt y
    = blockRow3 (iblk7 V c 0 t) (iblk7 V c 1 t) (iblk7 V c 2 t) (iblk7 V c 3 t) (iblk7 V c 4 t) (grid7.coords t 1).val y := by
  have hc := col7 t
  by_cases h0 : t.val % 18 ≤ 4
  · refine Eq.trans ?_ (rotated3 (iblk7 V c 0 t) (iblk7 V c 1 t) (iblk7 V c 2 t) (iblk7 V c 3 t) (iblk7 V c 4 t)
      (⟨(y 0).val, (y 0).isLt⟩ : Fin 2048) (⟨(y 1).val, (y 1).isLt⟩ : Fin 512) _ (by omega))
    rw [← factor7, outsAt7_A V c t h0 (by omega)]
    generalize iblk7 V c 0 t = x0
    generalize iblk7 V c 1 t = x1
    generalize iblk7 V c 2 t = x2
    generalize iblk7 V c 3 t = x3
    generalize iblk7 V c 4 t = x4
    unfold out7_A_5
    frame_out
    canon_tiles x h
    case piece3 => exact piece3 (k3_pay1 (F := Ideal) x0 x2 x1) x3 x4 _ y 0 0 x h0 (h1.trans (Nat.zero_add _).symm) slices_S2048x512_o0_0_S2048x128 rfl _ _ _
    case piece2 => exact piece3 (k3_pay1 (F := Ideal) x0 x2 x1) x3 x4 _ y 128 1 x h0 h1 slices_S2048x512_o0_128_S2048x128 rfl _ _ _
    case piece1 => exact piece3 (k3_pay1 (F := Ideal) x0 x2 x1) x3 x4 _ y 256 2 x h0 h1 slices_S2048x512_o0_256_S2048x128 rfl _ _ _
    case piece0 => exact piece3 (k3_pay1 (F := Ideal) x0 x2 x1) x3 x4 _ y 384 3 x h0 h1 slices_S2048x512_o0_384_S2048x128 rfl _ _ _
  · refine Eq.trans ?_ (kept3 (iblk7 V c 0 t) (iblk7 V c 1 t) (iblk7 V c 2 t) (iblk7 V c 3 t) (iblk7 V c 4 t) (grid7.coords t)
      (⟨(y 0).val, (y 0).isLt⟩ : Fin 2048) (⟨(y 1).val, (y 1).isLt⟩ : Fin 512) (by omega))
    rw [outsAt7_B V c t h0 (by omega)]
    unfold out7_B_5
    frame_out
    exact congrArg _ (by blk_ext [])
theorem point8 (c : Dev nD) (t : Fin cfg8.N) (y : S512x512.Idx) : outsAt8 V c t.val t.isLt y
    = blockRow4 (iblk8 V c 0 t) (iblk8 V c 1 t) (iblk8 V c 2 t) (iblk8 V c 3 t) (iblk8 V c 4 t) (grid8.coords t 1).val y := by
  have hc := col8 t
  by_cases h0 : t.val < 5
  · refine Eq.trans ?_ (rotated4 (iblk8 V c 0 t) (iblk8 V c 1 t) (iblk8 V c 2 t) (iblk8 V c 3 t) (iblk8 V c 4 t)
      (⟨(y 0).val, (y 0).isLt⟩ : Fin 512) (⟨(y 1).val, (y 1).isLt⟩ : Fin 512) _ (by omega))
    rw [← factor8, outsAt8_A V c t h0 (by omega)]
    generalize iblk8 V c 0 t = x0
    generalize iblk8 V c 1 t = x1
    generalize iblk8 V c 2 t = x2
    generalize iblk8 V c 3 t = x3
    generalize iblk8 V c 4 t = x4
    unfold out8_A_5
    frame_out
    canon_tiles x h
    case piece3 => exact piece4 (k4_pay1 (F := Ideal) x0 x2 x1) x3 x4 _ y 0 0 x h0 (h1.trans (Nat.zero_add _).symm) slices_S512x512_o0_0_S512x128 rfl _ _
    case piece2 => exact piece4 (k4_pay1 (F := Ideal) x0 x2 x1) x3 x4 _ y 128 1 x h0 h1 slices_S512x512_o0_128_S512x128 rfl _ _
    case piece1 => exact piece4 (k4_pay1 (F := Ideal) x0 x2 x1) x3 x4 _ y 256 2 x h0 h1 slices_S512x512_o0_256_S512x128 rfl _ _
    case piece0 => exact piece4 (k4_pay1 (F := Ideal) x0 x2 x1) x3 x4 _ y 384 3 x h0 h1 slices_S512x512_o0_384_S512x128 rfl _ _
  · refine Eq.trans ?_ (kept4 (iblk8 V c 0 t) (iblk8 V c 1 t) (iblk8 V c 2 t) (iblk8 V c 3 t) (iblk8 V c 4 t) (grid8.coords t)
      (⟨(y 0).val, (y 0).isLt⟩ : Fin 512) (⟨(y 1).val, (y 1).isLt⟩ : Fin 512) (by omega))
    rw [outsAt8_B V c t h0 (by omega)]
    unfold out8_B_5
    frame_out
    exact congrArg _ (by blk_ext [])

/-- The same for the later layer. -/
theorem final7 (c : Dev nD) : (dat7 V c).arrAt 5 cfg7.N
    = mixed (V c main_v32_0) (V c main_v32_1) (V c main_v31) (V c main_v8_0) (V c main_v8_1) := by
  refine (dat7 V c).arrAt_eq_of_covers 5 _ (by decide +kernel) fun t hf y => ?_
  have := lt7 t
  blk_simp
  rw [after7_5, point7]
  exact mixed_block _ _ _ _ _ _ _ (lt7 t).1 (lt7 t).2 _ _ _ _ _ (fun a k => by blk_ext [iblk7, idx7 t]) (fun a l => by blk_ext [iblk7, idx7 t])
    (fun k n => by blk_ext [iblk7, idx7 t]) (fun a l => by blk_ext [iblk7, idx7 t]) (fun a l => by blk_ext [iblk7, idx7 t]) y _
    (by blk_simp [Pipeline.Window.cell_apply, idx7 t]) (by blk_simp [Pipeline.Window.cell_apply, idx7 t])
set_option maxHeartbeats 1000000 in
theorem final8 (c : Dev nD) : (dat8 V c).arrAt 5 cfg8.N
    = mixedTail (V c main_v34) (V c main_v35) (V c main_v31) (V c main_v36) (V c main_v37) := by
  refine (dat8 V c).arrAt_eq_of_covers 5 _ (by decide +kernel) fun t hf y => ?_
  have := lt8 t
  blk_simp
  rw [after8_5, point8]
  exact tail_block _ _ _ _ _ _ (lt8 t) _ _ _ _ _ (fun a k => by blk_ext [iblk8, idx8 t]) (fun a l => by blk_ext [iblk8, idx8 t])
    (fun k n => by blk_ext [iblk8, idx8 t]) (fun a l => by blk_ext [iblk8, idx8 t]) (fun a l => by blk_ext [iblk8, idx8 t]) y _
    (by blk_simp [Pipeline.Window.cell_apply, idx8 t]) (by blk_simp [Pipeline.Window.cell_apply, idx8 t])

end Cert.MixerIdeal.Parts

end
-- ==== Proof.MixerRun.lean ====
/- The run of mixers A and B's projection, its results named by the arguments. -/
module

public import proofs.«01_k».proof.Proof.MixerTiles
public import proofs.«01_k».proof.Proof.HeadsRun
public import Idealize.ShloMosaic.Lib.Claim

@[expose] public section

set_option maxRecDepth 16384

noncomputable section

namespace Cert.MixerIdeal.Run

open Cert.MixerIdeal Cert.MixerIdeal.Gen Cert.MixerIdeal.Parts Idealize.ShloMosaic Idealize.ShloMosaic.TcCoe Idealize.ShloMosaic.Tactic
open Cert.HeadsIdeal.Run (gain)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- The rotary frequencies, and twice in a row of 128 lanes. -/
def freq : FVec Ideal S64 .f32 :=
  Host.powf (broadcastInDim S64 ![] bcast_S_S64 (constant S_ .f32 0x461C4000#32 : FVec Ideal S_ .f32))
    (Host.divf (Host.negf (sitofp .f32 (iotaInDim S64 32 0))) (broadcastInDim S64 ![] bcast_S_S64 (constant S_ .f32 0x42800000#32 : FVec Ideal S_ .f32)))
def wave : FVec Ideal S1x128 .f32 :=
  shapeCast S1x128 (concatenate S128 0 [⟨S64, freq⟩, ⟨S64, freq⟩] concatenates_S64_S64_S128_d0 : FVec Ideal S128 .f32) shapeCasts_S128_S1x128

theorem gain0_eq (g : FVec Ideal S4x4096 .f32) :
    (shapeCast S4096x1 (shapeCast S4096 (extractStridedSlice S1x4096 ![0, 0] g slices_S4x4096_S1x4096_0_0) shapeCasts_S1x4096_S4096)
      shapeCasts_S4096_S4096x1 : FVec Ideal S4096x1 .f32) = gain 0 g := by
  funext y
  idx_vars y
  have : y1.val < 1 := y1.isLt
  pointwise [gain]
theorem gain2_eq (g : FVec Ideal S4x4096 .f32) :
    (shapeCast S4096x1 (shapeCast S4096 (extractStridedSlice S1x4096 ![2, 0] g slices_S4x4096_S1x4096_2_0) shapeCasts_S1x4096_S4096)
      shapeCasts_S4096_S4096x1 : FVec Ideal S4096x1 .f32) = gain 2 g := by
  funext y
  idx_vars y
  have : y1.val < 1 := y1.isLt
  pointwise [gain]

theorem entry0 (c : Dev nD) : V1 m ρ c main_v7 = wave := by
  show W1 m ρ c (Proc.devRef .tc main_v7) = _
  unfold W1
  after_results
  rfl
theorem entry1 (c : Dev nD) : V3 m ρ c main_v11 = gain 0 (m ((c : Thread nD τ).loc main_arg3)) := by
  refine Eq.trans ?_ (gain0_eq _)
  show W3 m ρ c (Proc.devRef .tc main_v11) = _
  unfold W3
  after_results
  rw [W2_args m ρ c main_arg3 (by decide)]
  rfl
theorem entry5 (c : Dev nD) : V9 m ρ c main_v30 = gain 2 (m ((c : Thread nD τ).loc main_arg3)) := by
  refine Eq.trans ?_ (gain2_eq _)
  show W9 m ρ c (Proc.devRef .tc main_v30) = _
  unfold W9
  after_results
  rw [W8_args m ρ c main_arg3 (by decide)]
  rfl

/-- The tables, each layer's gained tiles, residual and squares, where they are first left. -/
theorem cos_at (c : Dev nD) : W2 m ρ c (Proc.devRef .tc main_v8_0) = cosTable wave :=
  ((W2_arr m ρ c 1).trans (final0_1 (V1 m ρ) c)).trans (congrArg cosTable (entry0 m ρ c))
theorem sin_at (c : Dev nD) : W2 m ρ c (Proc.devRef .tc main_v8_1) = sinTable wave :=
  ((W2_arr m ρ c 2).trans (final0_2 (V1 m ρ) c)).trans (congrArg sinTable (entry0 m ρ c))
theorem tiles0 (c : Dev nD) : W4 m ρ c (Proc.devRef .tc main_v12)
    = gainedTiles (m ((c : Thread nD τ).loc main_arg2)) 0 (gain 0 (m ((c : Thread nD τ).loc main_arg3))) := by
  refine ((W4_arr m ρ c 2).trans (final1 (V3 m ρ) c)).trans ?_
  rw [entry1]
  exact congrArg (fun W => gainedTiles W 0 _) (W3_args m ρ c main_arg2 (by decide))
theorem rows0 (c : Dev nD) : W5 m ρ c (Proc.devRef .tc main_v13_0) = fun i : S16384x4096.Idx => (m ((c : Thread nD τ).loc main_arg0) i : EReal) :=
  ((W5_arr m ρ c 1).trans (final2_1 (V4 m ρ) c)).trans (W4_args m ρ c main_arg0 (by decide))
theorem squares0 (c : Dev nD) : W5 m ρ c (Proc.devRef .tc main_v13_1) = lanesOf (m ((c : Thread nD τ).loc main_arg0)) :=
  ((W5_arr m ρ c 2).trans (final2_2 (V4 m ρ) c)).trans (congrArg lanesOf (W4_args m ρ c main_arg0 (by decide)))
theorem tiles2 (c : Dev nD) : W10 m ρ c (Proc.devRef .tc main_v31)
    = gainedTiles (m ((c : Thread nD τ).loc main_arg2)) 1 (gain 2 (m ((c : Thread nD τ).loc main_arg3))) := by
  refine ((W10_arr m ρ c 2).trans (final5 (V9 m ρ) c)).trans ?_
  rw [entry5]
  exact congrArg (fun W => gainedTiles W 1 _) (W9_args m ρ c main_arg2 (by decide))
theorem rows2 (c : Dev nD) : W11 m ρ c (Proc.devRef .tc main_v32_0) = fun i : S16384x4096.Idx => (m ((c : Thread nD τ).loc main_arg1) i : EReal) :=
  ((W11_arr m ρ c 1).trans (final6_1 (V10 m ρ) c)).trans (W10_args m ρ c main_arg1 (by decide))
theorem squares2 (c : Dev nD) : W11 m ρ c (Proc.devRef .tc main_v32_1) = lanesOf (m ((c : Thread nD τ).loc main_arg1)) :=
  ((W11_arr m ρ c 2).trans (final6_2 (V10 m ρ) c)).trans (congrArg lanesOf (W10_args m ρ c main_arg1 (by decide)))

/-- The tables as the later calls find them. -/
theorem cos5 (c : Dev nD) : W5 m ρ c (Proc.devRef .tc main_v8_0) = cosTable wave :=
  (W5_of m ρ c main_v8_0 (by decide)).trans ((W4_of m ρ c main_v8_0 (by decide)).trans ((W3_of m ρ c main_v8_0 (by decide)).trans (cos_at m ρ c)))
theorem sin5 (c : Dev nD) : W5 m ρ c (Proc.devRef .tc main_v8_1) = sinTable wave :=
  (W5_of m ρ c main_v8_1 (by decide)).trans ((W4_of m ρ c main_v8_1 (by decide)).trans ((W3_of m ρ c main_v8_1 (by decide)).trans (sin_at m ρ c)))
theorem cos6 (c : Dev nD) : W6 m ρ c (Proc.devRef .tc main_v8_0) = cosTable wave := (W6_of m ρ c main_v8_0 (by decide)).trans (cos5 m ρ c)
theorem sin6 (c : Dev nD) : W6 m ρ c (Proc.devRef .tc main_v8_1) = sinTable wave := (W6_of m ρ c main_v8_1 (by decide)).trans (sin5 m ρ c)
theorem cos11 (c : Dev nD) : W11 m ρ c (Proc.devRef .tc main_v8_0) = cosTable wave :=
  (W11_of m ρ c main_v8_0 (by decide)).trans ((W10_of m ρ c main_v8_0 (by decide)).trans ((W9_of m ρ c main_v8_0 (by decide)).trans
    ((W8_of m ρ c main_v8_0 (by decide)).trans ((W7_of m ρ c main_v8_0 (by decide)).trans (cos6 m ρ c)))))
theorem sin11 (c : Dev nD) : W11 m ρ c (Proc.devRef .tc main_v8_1) = sinTable wave :=
  (W11_of m ρ c main_v8_1 (by decide)).trans ((W10_of m ρ c main_v8_1 (by decide)).trans ((W9_of m ρ c main_v8_1 (by decide)).trans
    ((W8_of m ρ c main_v8_1 (by decide)).trans ((W7_of m ρ c main_v8_1 (by decide)).trans (sin6 m ρ c)))))
theorem cos12 (c : Dev nD) : W12 m ρ c (Proc.devRef .tc main_v8_0) = cosTable wave := (W12_of m ρ c main_v8_0 (by decide)).trans (cos11 m ρ c)
theorem sin12 (c : Dev nD) : W12 m ρ c (Proc.devRef .tc main_v8_1) = sinTable wave := (W12_of m ρ c main_v8_1 (by decide)).trans (sin11 m ρ c)

/-- A layer's projections, and the last rows' among them. -/
def projected (x : FVec Ideal S16384x4096 .f32) (w : FVec Ideal S2x4096x9216 .f32) (s : Fin 2) (g : FVec Ideal S4x4096 .f32) (n : Fin 4)
    (i : S16384x9216.Idx) : EReal :=
  mixed (fun i => x i) (lanesOf x) (gainedTiles w s (gain n g)) (cosTable wave) (sinTable wave) i
def lastRows (M : S16384x9216.Idx → EReal) (i : S512x9216.Idx) : EReal :=
  M (ix2 (⟨15872 + (i 0).val, by have : (i 0).val < 512 := (i 0).isLt; omega⟩ : Fin 16384) (⟨(i 1).val, (i 1).isLt⟩ : Fin 9216))

/-- On the last rows of the inputs the call leaves the last rows of the projections. -/
theorem tail_eq (X : FVec Ideal S16384x4096 .bf16) (Q : FVec Ideal S16384x128 .f32) (A : FVec Ideal S18x4096x512 .bf16) (C S : FVec Ideal S16384x128 .f32) :
    mixedTail (extractStridedSlice S512x4096 ![15872, 0] X slices_S16384x4096_S512x4096_15872_0)
      (extractStridedSlice S512x128 ![15872, 0] Q slices_S16384x128_S512x128_15872_0) A
      (extractStridedSlice S512x128 ![15872, 0] C slices_S16384x128_S512x128_15872_0)
      (extractStridedSlice S512x128 ![15872, 0] S slices_S16384x128_S512x128_15872_0) = lastRows (mixed X Q A C S) := by
  funext i
  idx_vars i
  refine mixRow_congr (fun k => ?_) (fun l => ?_) (fun k n => rfl) (fun l => ?_) (fun l => ?_) rfl rfl <;> pointwise []

theorem proj0 (c : Dev nD) : W6 m ρ c (Proc.devRef .tc main_v14)
    = projected (m ((c : Thread nD τ).loc main_arg0)) (m ((c : Thread nD τ).loc main_arg2)) 0 (m ((c : Thread nD τ).loc main_arg3)) 0 := by
  refine ((W6_arr m ρ c 5).trans (final3 (V5 m ρ) c)).trans ?_
  have e0 : V5 m ρ c main_v13_0 = _ := rows0 m ρ c
  have e1 : V5 m ρ c main_v13_1 = _ := squares0 m ρ c
  have e2 : V5 m ρ c main_v12 = _ := (W5_of m ρ c main_v12 (by decide)).trans (tiles0 m ρ c)
  have e3 : V5 m ρ c main_v8_0 = _ := cos5 m ρ c
  have e4 : V5 m ρ c main_v8_1 = _ := sin5 m ρ c
  rw [e0, e1, e2, e3, e4]
  rfl
theorem proj2 (c : Dev nD) : W12 m ρ c (Proc.devRef .tc main_v33)
    = projected (m ((c : Thread nD τ).loc main_arg1)) (m ((c : Thread nD τ).loc main_arg2)) 1 (m ((c : Thread nD τ).loc main_arg3)) 2 := by
  refine ((W12_arr m ρ c 5).trans (final7 (V11 m ρ) c)).trans ?_
  have e0 : V11 m ρ c main_v32_0 = _ := rows2 m ρ c
  have e1 : V11 m ρ c main_v32_1 = _ := squares2 m ρ c
  have e2 : V11 m ρ c main_v31 = _ := (W11_of m ρ c main_v31 (by decide)).trans (tiles2 m ρ c)
  have e3 : V11 m ρ c main_v8_0 = _ := cos11 m ρ c
  have e4 : V11 m ρ c main_v8_1 = _ := sin11 m ρ c
  rw [e0, e1, e2, e3, e4]
  rfl

/-- What the last rows' calls read. -/
theorem tail0_rows (c : Dev nD) : V7 m ρ c main_v15 = extractStridedSlice S512x4096 ![15872, 0]
    (fun i : S16384x4096.Idx => (m ((c : Thread nD τ).loc main_arg0) i : EReal) : FVec Ideal S16384x4096 .bf16) slices_S16384x4096_S512x4096_15872_0 := by
  show W7 m ρ c (Proc.devRef .tc main_v15) = _
  unfold W7
  after_results
  rw [(W6_of m ρ c main_v13_0 (by decide)).trans (rows0 m ρ c)]
theorem tail0_squares (c : Dev nD) : V7 m ρ c main_v16 = extractStridedSlice S512x128 ![15872, 0]
    (lanesOf (m ((c : Thread nD τ).loc main_arg0)) : FVec Ideal S16384x128 .f32) slices_S16384x128_S512x128_15872_0 := by
  show W7 m ρ c (Proc.devRef .tc main_v16) = _
  unfold W7
  after_results
  rw [(W6_of m ρ c main_v13_1 (by decide)).trans (squares0 m ρ c)]
theorem tail0_cos (c : Dev nD) : V7 m ρ c main_v17 = extractStridedSlice S512x128 ![15872, 0]
    (cosTable wave : FVec Ideal S16384x128 .f32) slices_S16384x128_S512x128_15872_0 := by
  show W7 m ρ c (Proc.devRef .tc main_v17) = _
  unfold W7
  after_results
  rw [cos6]
theorem tail0_sin (c : Dev nD) : V7 m ρ c main_v18 = extractStridedSlice S512x128 ![15872, 0]
    (sinTable wave : FVec Ideal S16384x128 .f32) slices_S16384x128_S512x128_15872_0 := by
  show W7 m ρ c (Proc.devRef .tc main_v18) = _
  unfold W7
  after_results
  rw [sin6]
theorem tail2_rows (c : Dev nD) : V13 m ρ c main_v34 = extractStridedSlice S512x4096 ![15872, 0]
    (fun i : S16384x4096.Idx => (m ((c : Thread nD τ).loc main_arg1) i : EReal) : FVec Ideal S16384x4096 .bf16) slices_S16384x4096_S512x4096_15872_0 := by
  show W13 m ρ c (Proc.devRef .tc main_v34) = _
  unfold W13
  after_results
  rw [(W12_of m ρ c main_v32_0 (by decide)).trans (rows2 m ρ c)]
theorem tail2_squares (c : Dev nD) : V13 m ρ c main_v35 = extractStridedSlice S512x128 ![15872, 0]
    (lanesOf (m ((c : Thread nD τ).loc main_arg1)) : FVec Ideal S16384x128 .f32) slices_S16384x128_S512x128_15872_0 := by
  show W13 m ρ c (Proc.devRef .tc main_v35) = _
  unfold W13
  after_results
  rw [(W12_of m ρ c main_v32_1 (by decide)).trans (squares2 m ρ c)]
theorem tail2_cos (c : Dev nD) : V13 m ρ c main_v36 = extractStridedSlice S512x128 ![15872, 0]
    (cosTable wave : FVec Ideal S16384x128 .f32) slices_S16384x128_S512x128_15872_0 := by
  show W13 m ρ c (Proc.devRef .tc main_v36) = _
  unfold W13
  after_results
  rw [cos12]
theorem tail2_sin (c : Dev nD) : V13 m ρ c main_v37 = extractStridedSlice S512x128 ![15872, 0]
    (sinTable wave : FVec Ideal S16384x128 .f32) slices_S16384x128_S512x128_15872_0 := by
  show W13 m ρ c (Proc.devRef .tc main_v37) = _
  unfold W13
  after_results
  rw [sin12]

theorem last0 (c : Dev nD) : W8 m ρ c (Proc.devRef .tc main_v19)
    = lastRows (projected (m ((c : Thread nD τ).loc main_arg0)) (m ((c : Thread nD τ).loc main_arg2)) 0 (m ((c : Thread nD τ).loc main_arg3)) 0) := by
  refine ((W8_arr m ρ c 5).trans (final4 (V7 m ρ) c)).trans ?_
  have e2 : V7 m ρ c main_v12 = _ := (W7_of m ρ c main_v12 (by decide)).trans ((W6_of m ρ c main_v12 (by decide)).trans
    ((W5_of m ρ c main_v12 (by decide)).trans (tiles0 m ρ c)))
  rw [tail0_rows, tail0_squares, e2, tail0_cos, tail0_sin]
  exact tail_eq _ _ _ _ _
theorem last2 (c : Dev nD) : W14 m ρ c (Proc.devRef .tc main_v38)
    = lastRows (projected (m ((c : Thread nD τ).loc main_arg1)) (m ((c : Thread nD τ).loc main_arg2)) 1 (m ((c : Thread nD τ).loc main_arg3)) 2) := by
  refine ((W14_arr m ρ c 5).trans (final8 (V13 m ρ) c)).trans ?_
  have e2 : V13 m ρ c main_v31 = _ := (W13_of m ρ c main_v31 (by decide)).trans ((W12_of m ρ c main_v31 (by decide)).trans
    ((W11_of m ρ c main_v31 (by decide)).trans (tiles2 m ρ c)))
  rw [tail2_rows, tail2_squares, e2, tail2_cos, tail2_sin]
  exact tail_eq _ _ _ _ _

/-- The cached keys and values, cut from the last rows and laid out by head. -/
def keysA (M : FVec Ideal S512x9216 .f32) : FVec Ideal S1x128x4x128 .f32 :=
  shapeCast S1x128x4x128 (extractStridedSlice S128x512 ![384, 2048] M slices_S512x9216_S128x512_384_2048) shapeCasts_S128x512_S1x128x4x128
def valuesA (M : FVec Ideal S512x9216 .f32) : FVec Ideal S1x128x4x128 .f32 :=
  shapeCast S1x128x4x128 (extractStridedSlice S128x512 ![384, 2560] M slices_S512x9216_S128x512_384_2560) shapeCasts_S128x512_S1x128x4x128
def keysB (M : FVec Ideal S512x9216 .f32) : FVec Ideal S1x512x16x128 .f32 :=
  shapeCast S1x512x16x128 (extractStridedSlice S512x2048 ![0, 5120] M slices_S512x9216_S512x2048_0_5120) shapeCasts_S512x2048_S1x512x16x128
def valuesB (M : FVec Ideal S512x9216 .f32) : FVec Ideal S1x512x16x128 .f32 :=
  shapeCast S1x512x16x128 (extractStridedSlice S512x2048 ![0, 7168] M slices_S512x9216_S512x2048_0_7168) shapeCasts_S512x2048_S1x512x16x128

/-- Two layers' caches, stacked. -/
def stackA (p q : FVec Ideal S1x128x4x128 .f32) : FVec Ideal S2x1x128x4x128 .f32 :=
  concatenate S2x1x128x4x128 0
    [⟨S1x1x128x4x128, broadcastInDim S1x1x128x4x128 ![1, 2, 3, 4] bcast_S1x128x4x128_S1x1x128x4x128_1_2_3_4 p⟩,
     ⟨S1x1x128x4x128, broadcastInDim S1x1x128x4x128 ![1, 2, 3, 4] bcast_S1x128x4x128_S1x1x128x4x128_1_2_3_4 q⟩]
    concatenates_S1x1x128x4x128_S1x1x128x4x128_S2x1x128x4x128_d0
def stackB (p q : FVec Ideal S1x512x16x128 .f32) : FVec Ideal S2x1x512x16x128 .f32 :=
  concatenate S2x1x512x16x128 0
    [⟨S1x1x512x16x128, broadcastInDim S1x1x512x16x128 ![1, 2, 3, 4] bcast_S1x512x16x128_S1x1x512x16x128_1_2_3_4 p⟩,
     ⟨S1x1x512x16x128, broadcastInDim S1x1x512x16x128 ![1, 2, 3, 4] bcast_S1x512x16x128_S1x1x512x16x128_1_2_3_4 q⟩]
    concatenates_S1x1x512x16x128_S1x1x512x16x128_S2x1x512x16x128_d0

/-- The first layer's caches at the last call's exit. -/
theorem keysA0 (c : Dev nD) : W14 m ρ c (Proc.devRef .tc main_v21) = keysA (lastRows (projected (m ((c : Thread nD τ).loc main_arg0))
    (m ((c : Thread nD τ).loc main_arg2)) 0 (m ((c : Thread nD τ).loc main_arg3)) 0)) := by
  refine (W14_of m ρ c main_v21 (by decide)).trans ((W13_of m ρ c main_v21 (by decide)).trans ((W12_of m ρ c main_v21 (by decide)).trans
    ((W11_of m ρ c main_v21 (by decide)).trans ((W10_of m ρ c main_v21 (by decide)).trans ?_))))
  unfold W9
  after_results
  rw [last0]
  rfl
theorem valuesA0 (c : Dev nD) : W14 m ρ c (Proc.devRef .tc main_v23) = valuesA (lastRows (projected (m ((c : Thread nD τ).loc main_arg0))
    (m ((c : Thread nD τ).loc main_arg2)) 0 (m ((c : Thread nD τ).loc main_arg3)) 0)) := by
  refine (W14_of m ρ c main_v23 (by decide)).trans ((W13_of m ρ c main_v23 (by decide)).trans ((W12_of m ρ c main_v23 (by decide)).trans
    ((W11_of m ρ c main_v23 (by decide)).trans ((W10_of m ρ c main_v23 (by decide)).trans ?_))))
  unfold W9
  after_results
  rw [last0]
  rfl
theorem keysB0 (c : Dev nD) : W14 m ρ c (Proc.devRef .tc main_v25) = keysB (lastRows (projected (m ((c : Thread nD τ).loc main_arg0))
    (m ((c : Thread nD τ).loc main_arg2)) 0 (m ((c : Thread nD τ).loc main_arg3)) 0)) := by
  refine (W14_of m ρ c main_v25 (by decide)).trans ((W13_of m ρ c main_v25 (by decide)).trans ((W12_of m ρ c main_v25 (by decide)).trans
    ((W11_of m ρ c main_v25 (by decide)).trans ((W10_of m ρ c main_v25 (by decide)).trans ?_))))
  unfold W9
  after_results
  rw [last0]
  rfl
theorem valuesB0 (c : Dev nD) : W14 m ρ c (Proc.devRef .tc main_v27) = valuesB (lastRows (projected (m ((c : Thread nD τ).loc main_arg0))
    (m ((c : Thread nD τ).loc main_arg2)) 0 (m ((c : Thread nD τ).loc main_arg3)) 0)) := by
  refine (W14_of m ρ c main_v27 (by decide)).trans ((W13_of m ρ c main_v27 (by decide)).trans ((W12_of m ρ c main_v27 (by decide)).trans
    ((W11_of m ρ c main_v27 (by decide)).trans ((W10_of m ρ c main_v27 (by decide)).trans ?_))))
  unfold W9
  after_results
  rw [last0]
  rfl

/-- The six results at the end. -/
theorem proj0_end (c : Dev nD) : W15 m ρ c (Proc.devRef .tc main_v14)
    = projected (m ((c : Thread nD τ).loc main_arg0)) (m ((c : Thread nD τ).loc main_arg2)) 0 (m ((c : Thread nD τ).loc main_arg3)) 0 :=
  (W15_of m ρ c main_v14 (by decide)).trans ((W14_of m ρ c main_v14 (by decide)).trans ((W13_of m ρ c main_v14 (by decide)).trans
    ((W12_of m ρ c main_v14 (by decide)).trans ((W11_of m ρ c main_v14 (by decide)).trans ((W10_of m ρ c main_v14 (by decide)).trans
    ((W9_of m ρ c main_v14 (by decide)).trans ((W8_of m ρ c main_v14 (by decide)).trans ((W7_of m ρ c main_v14 (by decide)).trans (proj0 m ρ c)))))))))
theorem proj2_end (c : Dev nD) : W15 m ρ c (Proc.devRef .tc main_v33)
    = projected (m ((c : Thread nD τ).loc main_arg1)) (m ((c : Thread nD τ).loc main_arg2)) 1 (m ((c : Thread nD τ).loc main_arg3)) 2 :=
  (W15_of m ρ c main_v33 (by decide)).trans ((W14_of m ρ c main_v33 (by decide)).trans ((W13_of m ρ c main_v33 (by decide)).trans (proj2 m ρ c)))
theorem keysA_end (c : Dev nD) : W15 m ρ c (Proc.devRef .tc main_v49)
    = stackA (keysA (lastRows (projected (m ((c : Thread nD τ).loc main_arg0)) (m ((c : Thread nD τ).loc main_arg2)) 0 (m ((c : Thread nD τ).loc main_arg3)) 0)))
      (keysA (lastRows (projected (m ((c : Thread nD τ).loc main_arg1)) (m ((c : Thread nD τ).loc main_arg2)) 1 (m ((c : Thread nD τ).loc main_arg3)) 2))) := by
  unfold W15
  after_results
  rw [keysA0, last2]
  rfl
theorem valuesA_end (c : Dev nD) : W15 m ρ c (Proc.devRef .tc main_v52)
    = stackA (valuesA (lastRows (projected (m ((c : Thread nD τ).loc main_arg0)) (m ((c : Thread nD τ).loc main_arg2)) 0 (m ((c : Thread nD τ).loc main_arg3)) 0)))
      (valuesA (lastRows (projected (m ((c : Thread nD τ).loc main_arg1)) (m ((c : Thread nD τ).loc main_arg2)) 1 (m ((c : Thread nD τ).loc main_arg3)) 2))) := by
  unfold W15
  after_results
  rw [valuesA0, last2]
  rfl
theorem keysB_end (c : Dev nD) : W15 m ρ c (Proc.devRef .tc main_v55)
    = stackB (keysB (lastRows (projected (m ((c : Thread nD τ).loc main_arg0)) (m ((c : Thread nD τ).loc main_arg2)) 0 (m ((c : Thread nD τ).loc main_arg3)) 0)))
      (keysB (lastRows (projected (m ((c : Thread nD τ).loc main_arg1)) (m ((c : Thread nD τ).loc main_arg2)) 1 (m ((c : Thread nD τ).loc main_arg3)) 2))) := by
  unfold W15
  after_results
  rw [keysB0, last2]
  rfl
theorem valuesB_end (c : Dev nD) : W15 m ρ c (Proc.devRef .tc main_v58)
    = stackB (valuesB (lastRows (projected (m ((c : Thread nD τ).loc main_arg0)) (m ((c : Thread nD τ).loc main_arg2)) 0 (m ((c : Thread nD τ).loc main_arg3)) 0)))
      (valuesB (lastRows (projected (m ((c : Thread nD τ).loc main_arg1)) (m ((c : Thread nD τ).loc main_arg2)) 1 (m ((c : Thread nD τ).loc main_arg3)) 2))) := by
  unfold W15
  after_results
  rw [valuesB0, last2]
  rfl

set_option backward.isDefEq.respectTransparency.types false in
/-- Every final state has the arrays of the last boundary. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => h)

end Cert.MixerIdeal.Run

end
-- ==== Proof.MixerCell.lean ====
/- One projected element of mixers A and B in plain form: the normalised row's product, its rotary factors, and the attention's factor on the queries. -/
module

public import proofs.«01_k».proof.Proof.Row
public import Idealize.ShloMosaic.Lib.Pointwise

@[expose] public section

noncomputable section

namespace Cert.Cell

open Idealize.ShloMosaic
open Cert

/-- A product's columns with the rotary factors, head by head. -/
def rope (E : Fin 9216 → EReal) (C S : Fin 64 → EReal) (c : Fin 9216) : EReal :=
  if h : c.val % 128 < 64 then
    E c * C ⟨c.val % 128, h⟩ - E ⟨c.val + 64, by omega⟩ * S ⟨c.val % 128, h⟩
  else E c * C ⟨c.val % 128 - 64, by omega⟩ + E ⟨c.val - 64, by omega⟩ * S ⟨c.val % 128 - 64, by omega⟩

/-- One projected element. -/
def cell (E : Fin 9216 → EReal) (C S : Fin 64 → EReal) (c : Fin 9216) : EReal :=
  if c.val < 2048 then rope E C S c * Ideal.ofBits .f32 0x3DB504F3#32
  else if c.val < 2560 then rope E C S c
  else if c.val < 3072 then E c
  else if c.val < 5120 then E c * Ideal.ofBits .f32 0x3DB504F3#32
  else E c

/-- A column of mixer A's keys, and one that nothing is done to. -/
theorem cell_keys (E : Fin 9216 → EReal) (C S : Fin 64 → EReal) (c : Fin 9216) (h0 : 2048 ≤ c.val) (h1 : c.val < 2560) :
    cell E C S c = rope E C S c := by
  unfold cell
  rw [if_neg (by omega), if_pos h1]
theorem cell_plain (E : Fin 9216 → EReal) (C S : Fin 64 → EReal) (c : Fin 9216) (h : 2560 ≤ c.val ∧ c.val < 3072 ∨ 5120 ≤ c.val) :
    cell E C S c = E c := by
  unfold cell
  rw [if_neg (by omega), if_neg (by omega)]
  by_cases h2 : c.val < 3072
  · rw [if_pos h2]
  · rw [if_neg h2, if_neg (by omega)]

/-- A pair's first half takes the sine with its sign turned. -/
theorem turn (a b c s : EReal) : a * c + b * (0 - s) = a * c - b * s := by
  rw [sub_eq_add_neg 0 s, zero_add, sub_eq_add_neg, mul_comm b (-s), EReal.neg_mul, mul_comm s b]

/-- A column in its head's first half, and in its second. -/
theorem rope_low (E : Fin 9216 → EReal) (C S : Fin 64 → EReal) (c c' : Fin 9216) (l : Fin 64) (hl : c.val % 128 = l.val) (hc : c'.val = c.val + 64) :
    rope E C S c = E c * C l - E c' * S l := by
  have h : c.val % 128 < 64 := by omega
  have el : (⟨c.val % 128, h⟩ : Fin 64) = l := Fin.ext hl
  have ec : (⟨c.val + 64, by omega⟩ : Fin 9216) = c' := Fin.ext hc.symm
  unfold rope
  rw [dif_pos h, el, ec]
theorem rope_high (E : Fin 9216 → EReal) (C S : Fin 64 → EReal) (c c' : Fin 9216) (l : Fin 64) (hl : c.val % 128 = l.val + 64) (hc : c'.val + 64 = c.val) :
    rope E C S c = E c * C l + E c' * S l := by
  have h : ¬c.val % 128 < 64 := by omega
  have el : (⟨c.val % 128 - 64, by omega⟩ : Fin 64) = l := Fin.ext (by dsimp only; omega)
  have ec : (⟨c.val - 64, by omega⟩ : Fin 9216) = c' := Fin.ext (by dsimp only; omega)
  unfold rope
  rw [dif_neg h, el, ec]

end Cert.Cell

end
-- ==== Proof.MixerReference.lean ====
/- The plain statement of mixers A and B's projection, read at a place. -/
module

public import proofs.«01_k».proof.Proof.Gen.MixerReferenceIdeal.Read
public import proofs.«01_k».proof.Proof.UpReference
public import proofs.«01_k».proof.Proof.MixerCell
public import Idealize.ShloMosaic.Lib.Pointwise

@[expose] public section

set_option maxRecDepth 16384

noncomputable section

namespace Cert.MixerReferenceIdeal.At

open Cert.MixerReferenceIdeal Cert.MixerReferenceIdeal.Gen Cert.MixerReferenceIdeal.Read Idealize.ShloMosaic
open Cert Cert.Cell

/-- Sixteen heads with the rotary factors, and four. -/
def turned16 (T : FVec Ideal S16384x16x128 .f32) (C S : FVec Ideal S16384x64 .f32) : FVec Ideal S16384x16x128 .f32 :=
  concatenate S16384x16x128 2
    [⟨S16384x16x64, subf (mulf (extractStridedSlice S16384x16x64 ![0, 0, 0] T slices_S16384x16x128_S16384x16x64_0_0_0)
        (broadcastInDim S16384x16x64 ![0, 1, 2] bcast_S16384x1x64_S16384x16x64_0_1_2 (broadcastInDim S16384x1x64 ![0, 2] bcast_S16384x64_S16384x1x64_0_2 C)))
      (mulf (extractStridedSlice S16384x16x64 ![0, 0, 64] T slices_S16384x16x128_S16384x16x64_0_0_64)
        (broadcastInDim S16384x16x64 ![0, 1, 2] bcast_S16384x1x64_S16384x16x64_0_1_2 (broadcastInDim S16384x1x64 ![0, 2] bcast_S16384x64_S16384x1x64_0_2 S)))⟩,
     ⟨S16384x16x64, addf (mulf (extractStridedSlice S16384x16x64 ![0, 0, 64] T slices_S16384x16x128_S16384x16x64_0_0_64)
        (broadcastInDim S16384x16x64 ![0, 1, 2] bcast_S16384x1x64_S16384x16x64_0_1_2 (broadcastInDim S16384x1x64 ![0, 2] bcast_S16384x64_S16384x1x64_0_2 C)))
      (mulf (extractStridedSlice S16384x16x64 ![0, 0, 0] T slices_S16384x16x128_S16384x16x64_0_0_0)
        (broadcastInDim S16384x16x64 ![0, 1, 2] bcast_S16384x1x64_S16384x16x64_0_1_2 (broadcastInDim S16384x1x64 ![0, 2] bcast_S16384x64_S16384x1x64_0_2 S)))⟩]
    concatenates_S16384x16x64_S16384x16x64_S16384x16x128_d2
def turned4 (T : FVec Ideal S16384x4x128 .f32) (C S : FVec Ideal S16384x64 .f32) : FVec Ideal S16384x4x128 .f32 :=
  concatenate S16384x4x128 2
    [⟨S16384x4x64, subf (mulf (extractStridedSlice S16384x4x64 ![0, 0, 0] T slices_S16384x4x128_S16384x4x64_0_0_0)
        (broadcastInDim S16384x4x64 ![0, 1, 2] bcast_S16384x1x64_S16384x4x64_0_1_2 (broadcastInDim S16384x1x64 ![0, 2] bcast_S16384x64_S16384x1x64_0_2 C)))
      (mulf (extractStridedSlice S16384x4x64 ![0, 0, 64] T slices_S16384x4x128_S16384x4x64_0_0_64)
        (broadcastInDim S16384x4x64 ![0, 1, 2] bcast_S16384x1x64_S16384x4x64_0_1_2 (broadcastInDim S16384x1x64 ![0, 2] bcast_S16384x64_S16384x1x64_0_2 S)))⟩,
     ⟨S16384x4x64, addf (mulf (extractStridedSlice S16384x4x64 ![0, 0, 64] T slices_S16384x4x128_S16384x4x64_0_0_64)
        (broadcastInDim S16384x4x64 ![0, 1, 2] bcast_S16384x1x64_S16384x4x64_0_1_2 (broadcastInDim S16384x1x64 ![0, 2] bcast_S16384x64_S16384x1x64_0_2 C)))
      (mulf (extractStridedSlice S16384x4x64 ![0, 0, 0] T slices_S16384x4x128_S16384x4x64_0_0_0)
        (broadcastInDim S16384x4x64 ![0, 1, 2] bcast_S16384x1x64_S16384x4x64_0_1_2 (broadcastInDim S16384x1x64 ![0, 2] bcast_S16384x64_S16384x1x64_0_2 S)))⟩]
    concatenates_S16384x4x64_S16384x4x64_S16384x4x128_d2

/-- The product's columns as heads. -/
def heads16 (P : FVec Ideal S16384x9216 .f32) : FVec Ideal S16384x16x128 .f32 :=
  shapeCast S16384x16x128 (extractStridedSlice S16384x2048 ![0, 0] P slices_S16384x9216_S16384x2048_0_0) shapeCasts_S16384x2048_S16384x16x128
def heads4 (P : FVec Ideal S16384x9216 .f32) : FVec Ideal S16384x4x128 .f32 :=
  shapeCast S16384x4x128 (extractStridedSlice S16384x512 ![0, 2048] P slices_S16384x9216_S16384x512_0_2048) shapeCasts_S16384x512_S16384x4x128

/-- The attention's factor on 2048 columns. -/
def eased (Q : FVec Ideal S16384x2048 .f32) : FVec Ideal S16384x2048 .f32 :=
  mulf Q (broadcastInDim S16384x2048 ![] bcast_S_S16384x2048 (constant S_ .f32 0x3DB504F3#32 : FVec Ideal S_ .f32))

/-- Six arrays side by side. -/
def beside (a : FVec Ideal S16384x2048 .f32) (b c : FVec Ideal S16384x512 .f32) (d e f : FVec Ideal S16384x2048 .f32) : FVec Ideal S16384x9216 .f32 :=
  concatenate S16384x9216 1 [⟨S16384x2048, a⟩, ⟨S16384x512, b⟩, ⟨S16384x512, c⟩, ⟨S16384x2048, d⟩, ⟨S16384x2048, e⟩, ⟨S16384x2048, f⟩]
    concatenates_S16384x2048_S16384x512_S16384x512_S16384x2048_S16384x2048_S16384x2048_S16384x9216_d1

/-- The projections with their rotary factors and scale, from the product and the tables. -/
def joined (P : FVec Ideal S16384x9216 .f32) (C S : FVec Ideal S16384x64 .f32) : FVec Ideal S16384x9216 .f32 :=
  beside (eased (shapeCast S16384x2048 (turned16 (heads16 P) C S) shapeCasts_S16384x16x128_S16384x2048))
    (shapeCast S16384x512 (turned4 (heads4 P) C S) shapeCasts_S16384x4x128_S16384x512)
    (extractStridedSlice S16384x512 ![0, 2560] P slices_S16384x9216_S16384x512_0_2560)
    (eased (extractStridedSlice S16384x2048 ![0, 3072] P slices_S16384x9216_S16384x2048_0_3072))
    (extractStridedSlice S16384x2048 ![0, 5120] P slices_S16384x9216_S16384x2048_0_5120)
    (extractStridedSlice S16384x2048 ![0, 7168] P slices_S16384x9216_S16384x2048_0_7168)

variable (P : FVec Ideal S16384x9216 .f32) (C S : FVec Ideal S16384x64 .f32) (r : Fin 16384)

theorem heads16_at (h : Fin 16) (d : Fin 128) : heads16 P (ix3 r h d) = P (ix2 r (⟨h.val * 128 + d.val, by omega⟩ : Fin 9216)) := by
  pointwise [heads16]
theorem heads4_at (h : Fin 4) (d : Fin 128) : heads4 P (ix3 r h d) = P (ix2 r (⟨2048 + (h.val * 128 + d.val), by omega⟩ : Fin 9216)) := by
  pointwise [heads4]

/-- A rotated head's element. -/
theorem rotated16 (h : Fin 16) (d : Fin 128) : turned16 (heads16 P) C S (ix3 r h d)
    = rope (fun c => P (ix2 r c)) (fun l => C (ix2 r l)) (fun l => S (ix2 r l)) (⟨h.val * 128 + d.val, by omega⟩ : Fin 9216) := by
  have e := heads16_at P r h
  generalize heads16 P = T at e
  by_cases k : d.val < 64
  · refine Eq.trans ?_ (rope_low _ _ _ _ (⟨h.val * 128 + (64 + d.val), by omega⟩ : Fin 9216) (⟨d.val, k⟩ : Fin 64) (by dsimp only; omega) (by dsimp only; omega)).symm
    rw [← e d, ← e (⟨64 + d.val, by omega⟩ : Fin 128)]
    pointwise [turned16]
    exact dif_pos k
  · refine Eq.trans ?_ (rope_high _ _ _ _ (⟨h.val * 128 + (d.val - 64), by omega⟩ : Fin 9216) (⟨d.val - 64, by omega⟩ : Fin 64) (by dsimp only; omega) (by dsimp only; omega)).symm
    have ed : d = (⟨64 + (d.val - 64), by omega⟩ : Fin 128) := Fin.ext (by dsimp only; omega)
    rw [← e d, ← e (⟨d.val - 64, by omega⟩ : Fin 128)]
    pointwise [turned16]
    refine (dif_neg k).trans ?_
    rw [← ed]
theorem rotated4 (h : Fin 4) (d : Fin 128) : turned4 (heads4 P) C S (ix3 r h d)
    = rope (fun c => P (ix2 r c)) (fun l => C (ix2 r l)) (fun l => S (ix2 r l)) (⟨2048 + (h.val * 128 + d.val), by omega⟩ : Fin 9216) := by
  have e := heads4_at P r h
  generalize heads4 P = T at e
  by_cases k : d.val < 64
  · refine Eq.trans ?_ (rope_low _ _ _ _ (⟨2048 + (h.val * 128 + (64 + d.val)), by omega⟩ : Fin 9216) (⟨d.val, k⟩ : Fin 64) (by dsimp only; omega) (by dsimp only; omega)).symm
    rw [← e d, ← e (⟨64 + d.val, by omega⟩ : Fin 128)]
    pointwise [turned4]
    exact dif_pos k
  · refine Eq.trans ?_ (rope_high _ _ _ _ (⟨2048 + (h.val * 128 + (d.val - 64)), by omega⟩ : Fin 9216) (⟨d.val - 64, by omega⟩ : Fin 64) (by dsimp only; omega) (by dsimp only; omega)).symm
    have ed : d = (⟨64 + (d.val - 64), by omega⟩ : Fin 128) := Fin.ext (by dsimp only; omega)
    rw [← e d, ← e (⟨d.val - 64, by omega⟩ : Fin 128)]
    pointwise [turned4]
    refine (dif_neg k).trans ?_
    rw [← ed]

theorem beside_at (a : FVec Ideal S16384x2048 .f32) (b c : FVec Ideal S16384x512 .f32) (d e f : FVec Ideal S16384x2048 .f32) (j : Fin 9216) :
    beside a b c d e f (ix2 r j) = if h0 : j.val < 2048 then a (ix2 r ⟨j.val, h0⟩)
      else if h1 : j.val < 2560 then b (ix2 r ⟨j.val - 2048, by omega⟩)
      else if h2 : j.val < 3072 then c (ix2 r ⟨j.val - 2560, by omega⟩)
      else if h3 : j.val < 5120 then d (ix2 r ⟨j.val - 3072, by omega⟩)
      else if h4 : j.val < 7168 then e (ix2 r ⟨j.val - 5120, by omega⟩)
      else f (ix2 r ⟨j.val - 7168, by omega⟩) := by
  pointwise [beside]
  by_cases h0 : j.val < 2048
  · refine (dif_pos h0).trans ?_
    rw [dif_pos h0]
  refine (dif_neg h0).trans ?_
  rw [dif_neg h0]
  by_cases h1 : j.val < 2560
  · refine (dif_pos (by omega)).trans ?_
    rw [dif_pos h1]
  refine (dif_neg (by omega)).trans ?_
  rw [dif_neg h1]
  by_cases h2 : j.val < 3072
  · refine (dif_pos (by omega)).trans ?_
    rw [dif_pos h2]
    exact congrArg (fun k => c (ix2 r k)) (Fin.ext (by dsimp only; omega))
  refine (dif_neg (by omega)).trans ?_
  rw [dif_neg h2]
  by_cases h3 : j.val < 5120
  · refine (dif_pos (by omega)).trans ?_
    rw [dif_pos h3]
    exact congrArg (fun k => d (ix2 r k)) (Fin.ext (by dsimp only; omega))
  refine (dif_neg (by omega)).trans ?_
  rw [dif_neg h3]
  by_cases h4 : j.val < 7168
  · refine (dif_pos (by omega)).trans ?_
    rw [dif_pos h4]
    exact congrArg (fun k => e (ix2 r k)) (Fin.ext (by dsimp only; omega))
  refine (dif_neg (by omega)).trans ?_
  rw [dif_neg h4]
  exact congrArg (fun k => f (ix2 r k)) (Fin.ext (by dsimp only; omega))

theorem eased16_at (T : FVec Ideal S16384x16x128 .f32) (j : Fin 2048) :
    eased (shapeCast S16384x2048 T shapeCasts_S16384x16x128_S16384x2048) (ix2 r j)
    = (show EReal from T (ix3 r (⟨j.val / 128, by omega⟩ : Fin 16) (⟨j.val % 128, by omega⟩ : Fin 128))) * Ideal.ofBits .f32 0x3DB504F3#32 := by
  pointwise [eased]
theorem flat4_at (T : FVec Ideal S16384x4x128 .f32) (j : Fin 512) :
    (shapeCast S16384x512 T shapeCasts_S16384x4x128_S16384x512 : FVec Ideal S16384x512 .f32) (ix2 r j)
    = T (ix3 r (⟨j.val / 128, by omega⟩ : Fin 4) (⟨j.val % 128, by omega⟩ : Fin 128)) := by
  pointwise []
theorem easedB_at (j : Fin 2048) : eased (extractStridedSlice S16384x2048 ![0, 3072] P slices_S16384x9216_S16384x2048_0_3072) (ix2 r j)
    = (show EReal from P (ix2 r (⟨3072 + j.val, by omega⟩ : Fin 9216))) * Ideal.ofBits .f32 0x3DB504F3#32 := by
  pointwise [eased]
theorem valuesA_at (j : Fin 512) : (extractStridedSlice S16384x512 ![0, 2560] P slices_S16384x9216_S16384x512_0_2560 : FVec Ideal S16384x512 .f32) (ix2 r j)
    = P (ix2 r (⟨2560 + j.val, by omega⟩ : Fin 9216)) := by
  pointwise []
theorem keysB_at (j : Fin 2048) : (extractStridedSlice S16384x2048 ![0, 5120] P slices_S16384x9216_S16384x2048_0_5120 : FVec Ideal S16384x2048 .f32) (ix2 r j)
    = P (ix2 r (⟨5120 + j.val, by omega⟩ : Fin 9216)) := by
  pointwise []
theorem valuesB_at (j : Fin 2048) : (extractStridedSlice S16384x2048 ![0, 7168] P slices_S16384x9216_S16384x2048_0_7168 : FVec Ideal S16384x2048 .f32) (ix2 r j)
    = P (ix2 r (⟨7168 + j.val, by omega⟩ : Fin 9216)) := by
  pointwise []

/-- A projected element in plain form. -/
theorem joined_at (j : Fin 9216) : joined P C S (ix2 r j) = cell (fun c => P (ix2 r c)) (fun l => C (ix2 r l)) (fun l => S (ix2 r l)) j := by
  unfold joined cell
  rw [beside_at]
  by_cases h0 : j.val < 2048
  · rw [dif_pos h0, if_pos h0, eased16_at, rotated16]
    exact congrArg (fun k => rope _ _ _ k * _) (Fin.ext (by dsimp only; omega))
  rw [dif_neg h0, if_neg h0]
  by_cases h1 : j.val < 2560
  · rw [dif_pos h1, if_pos h1, flat4_at, rotated4]
    exact congrArg (fun k => rope _ _ _ k) (Fin.ext (by dsimp only; omega))
  rw [dif_neg h1, if_neg h1]
  by_cases h2 : j.val < 3072
  · rw [dif_pos h2, if_pos h2, valuesA_at]
    exact congrArg (fun k => P (ix2 r k)) (Fin.ext (by dsimp only; omega))
  rw [dif_neg h2, if_neg h2]
  by_cases h3 : j.val < 5120
  · rw [dif_pos h3, if_pos h3, easedB_at]
    exact congrArg (fun k => (show EReal from P (ix2 r k)) * _) (Fin.ext (by dsimp only; omega))
  rw [dif_neg h3, if_neg h3]
  by_cases h4 : j.val < 7168
  · rw [dif_pos h4, keysB_at]
    exact congrArg (fun k => P (ix2 r k)) (Fin.ext (by dsimp only; omega))
  rw [dif_neg h4, valuesB_at]
  exact congrArg (fun k => P (ix2 r k)) (Fin.ext (by dsimp only; omega))

/-- The caches, from the product and the tables. -/
def cachedKeysA (P : FVec Ideal S16384x9216 .f32) (C S : FVec Ideal S16384x64 .f32) : FVec Ideal S1x128x4x128 .f32 :=
  shapeCast S1x128x4x128 (extractStridedSlice S128x4x128 ![16256, 0, 0] (turned4 (heads4 P) C S) slices_S16384x4x128_S128x4x128_16256_0_0)
    shapeCasts_S128x4x128_S1x128x4x128
def cachedValuesA (P : FVec Ideal S16384x9216 .f32) : FVec Ideal S1x128x4x128 .f32 :=
  shapeCast S1x128x4x128 (extractStridedSlice S128x512 ![16256, 0]
    (extractStridedSlice S16384x512 ![0, 2560] P slices_S16384x9216_S16384x512_0_2560) slices_S16384x512_S128x512_16256_0)
    shapeCasts_S128x512_S1x128x4x128
def cachedKeysB (P : FVec Ideal S16384x9216 .f32) : FVec Ideal S1x512x16x128 .f32 :=
  shapeCast S1x512x16x128 (extractStridedSlice S512x2048 ![15872, 0]
    (extractStridedSlice S16384x2048 ![0, 5120] P slices_S16384x9216_S16384x2048_0_5120) slices_S16384x2048_S512x2048_15872_0)
    shapeCasts_S512x2048_S1x512x16x128
def cachedValuesB (P : FVec Ideal S16384x9216 .f32) : FVec Ideal S1x512x16x128 .f32 :=
  shapeCast S1x512x16x128 (extractStridedSlice S512x2048 ![15872, 0]
    (extractStridedSlice S16384x2048 ![0, 7168] P slices_S16384x9216_S16384x2048_0_7168) slices_S16384x2048_S512x2048_15872_0)
    shapeCasts_S512x2048_S1x512x16x128

/-- Each cache holds elements of the projections. -/
theorem cachedKeysA_at (z : Fin 1) (p : Fin 128) (h : Fin 4) (d : Fin 128) : cachedKeysA P C S (ix4 z p h d)
    = joined P C S (ix2 (⟨16256 + p.val, by omega⟩ : Fin 16384) (⟨2048 + (h.val * 128 + d.val), by omega⟩ : Fin 9216)) := by
  rw [joined_at, cell_keys _ _ _ _ (by dsimp only; omega) (by dsimp only; omega), ← rotated4]
  unfold cachedKeysA
  generalize turned4 (heads4 P) C S = T
  pointwise []
theorem cachedValuesA_at (z : Fin 1) (p : Fin 128) (h : Fin 4) (d : Fin 128) : cachedValuesA P (ix4 z p h d)
    = joined P C S (ix2 (⟨16256 + p.val, by omega⟩ : Fin 16384) (⟨2560 + (h.val * 128 + d.val), by omega⟩ : Fin 9216)) := by
  rw [joined_at, cell_plain _ _ _ _ (by dsimp only; omega)]
  pointwise [cachedValuesA]
theorem cachedKeysB_at (z : Fin 1) (p : Fin 512) (h : Fin 16) (d : Fin 128) : cachedKeysB P (ix4 z p h d)
    = joined P C S (ix2 (⟨15872 + p.val, by omega⟩ : Fin 16384) (⟨5120 + (h.val * 128 + d.val), by omega⟩ : Fin 9216)) := by
  rw [joined_at, cell_plain _ _ _ _ (by dsimp only; omega)]
  pointwise [cachedKeysB]
theorem cachedValuesB_at (z : Fin 1) (p : Fin 512) (h : Fin 16) (d : Fin 128) : cachedValuesB P (ix4 z p h d)
    = joined P C S (ix2 (⟨15872 + p.val, by omega⟩ : Fin 16384) (⟨7168 + (h.val * 128 + d.val), by omega⟩ : Fin 9216)) := by
  rw [joined_at, cell_plain _ _ _ _ (by dsimp only; omega)]
  pointwise [cachedValuesB]

/-- A row's angle. -/
def theta (l : Fin 64) : EReal :=
  (show EReal from FloatOps.sitofp (F := Ideal) .f32 (BitVec.ofNat 32 r.val)) * (show EReal from val_main_v30 (F := Ideal) (ix1 l))
theorem angles (l : Fin 64) : val_main_v37 (F := Ideal) (ix2 r l) = theta r l := by
  unfold theta val_main_v37 val_main_v36 val_main_v34
  generalize val_main_v30 (F := Ideal) = v
  pointwise [val_main_v35, val_main_v33, val_main_v32, val_main_v31]
theorem cosines (l : Fin 64) : val_main_v38 (F := Ideal) (ix2 r l) = Ideal.cos (theta r l) := congrArg Ideal.cos (angles r l)
theorem sines (l : Fin 64) : val_main_v40 (F := Ideal) (ix2 r l) = Ideal.sin (theta r l) := congrArg Ideal.sin (angles r l)

variable (x : FVec Ideal S16384x4096 .f32) (w : FVec Ideal S2x4096x9216 .f32) (g : FVec Ideal S4x4096 .f32)

/-- Each layer's normalised and gained row. -/
theorem normed0 (k : Fin 4096) : val_main_v14 (F := Ideal) x g (ix2 r k)
    = (show EReal from x (ix2 r k)) * Norm.rstd (∑ k : Fin 4096, (show EReal from x (ix2 r k)) * (show EReal from x (ix2 r k)))
      * (show EReal from g (ix2 (0 : Fin 4) k)) := by
  have root : val_main_v9 (F := Ideal) x (ix2 r (0 : Fin 1)) = _ := UpReferenceIdeal.At.root x r
  rw [← root]
  unfold val_main_v14 val_main_v11 val_main_v10
  generalize val_main_v9 (F := Ideal) x = s
  pointwise [val_main_v13, val_main_v12, val_main_v1, val_main_v0]
theorem normed2 (k : Fin 4096) : val_main_v116 (F := Ideal) x g (ix2 r k)
    = (show EReal from x (ix2 r k)) * Norm.rstd (∑ k : Fin 4096, (show EReal from x (ix2 r k)) * (show EReal from x (ix2 r k)))
      * (show EReal from g (ix2 (2 : Fin 4) k)) := by
  have root : val_main_v111 (F := Ideal) x (ix2 r (0 : Fin 1)) = _ := UpReferenceIdeal.At.root x r
  rw [← root]
  unfold val_main_v116 val_main_v113 val_main_v112
  generalize val_main_v111 (F := Ideal) x = s
  pointwise [val_main_v115, val_main_v114, val_main_v103, val_main_v102]

/-- One element of a layer's product. -/
def element (s : Fin 2) (n : Fin 4) (j : Fin 9216) : EReal :=
  Norm.plain (fun k => x (ix2 r k)) (fun k => g (ix2 n k)) (fun k => w (ix3 s k j))

theorem product0 (j : Fin 9216) : val_main_v17 (F := Ideal) x w g (ix2 r j) = element r x w g 0 0 j := by
  have e : val_main_v17 (F := Ideal) x w g (ix2 r j)
      = ∑ k : Fin 4096, (show EReal from val_main_v14 (F := Ideal) x g (ix2 r k)) * (show EReal from w (ix3 (0 : Fin 2) k j)) := by
    unfold val_main_v17
    generalize val_main_v14 (F := Ideal) x g = s
    pointwise [val_main_v16, val_main_v15]
  rw [e]
  exact Finset.sum_congr rfl fun k _ => congrArg (· * _) (normed0 r x g k)
theorem product2 (j : Fin 9216) : val_main_v119 (F := Ideal) x w g (ix2 r j) = element r x w g 1 2 j := by
  have e : val_main_v119 (F := Ideal) x w g (ix2 r j)
      = ∑ k : Fin 4096, (show EReal from val_main_v116 (F := Ideal) x g (ix2 r k)) * (show EReal from w (ix3 (1 : Fin 2) k j)) := by
    unfold val_main_v119
    generalize val_main_v116 (F := Ideal) x g = s
    pointwise [val_main_v118, val_main_v117]
  rw [e]
  exact Finset.sum_congr rfl fun k _ => congrArg (· * _) (normed2 r x g k)

/-- One projected element in plain form. -/
def plainCell (s : Fin 2) (n : Fin 4) (j : Fin 9216) : EReal :=
  cell (element r x w g s n) (fun l => Ideal.cos (theta r l)) (fun l => Ideal.sin (theta r l)) j

theorem joined0 (j : Fin 9216) : joined (val_main_v17 (F := Ideal) x w g) (val_main_v38 (F := Ideal)) (val_main_v40 (F := Ideal)) (ix2 r j)
    = plainCell r x w g 0 0 j := by
  rw [joined_at, funext (product0 r x w g), funext (cosines r), funext (sines r)]
  rfl
theorem joined2 (j : Fin 9216) : joined (val_main_v119 (F := Ideal) x w g) (val_main_v38 (F := Ideal)) (val_main_v40 (F := Ideal)) (ix2 r j)
    = plainCell r x w g 1 2 j := by
  rw [joined_at, funext (product2 r x w g), funext (cosines r), funext (sines r)]
  rfl

/-- The reference's arrays are these. -/
theorem layer0_eq : val_main_v93 (F := Ideal) x w g = joined (val_main_v17 (F := Ideal) x w g) (val_main_v38 (F := Ideal)) (val_main_v40 (F := Ideal)) := rfl
theorem layer2_eq : val_main_v195 (F := Ideal) x w g = joined (val_main_v119 (F := Ideal) x w g) (val_main_v38 (F := Ideal)) (val_main_v40 (F := Ideal)) := rfl
theorem keysA0_eq : val_main_v95 (F := Ideal) x w g = cachedKeysA (val_main_v17 (F := Ideal) x w g) (val_main_v38 (F := Ideal)) (val_main_v40 (F := Ideal)) := rfl
theorem keysA2_eq : val_main_v197 (F := Ideal) x w g = cachedKeysA (val_main_v119 (F := Ideal) x w g) (val_main_v38 (F := Ideal)) (val_main_v40 (F := Ideal)) := rfl
theorem valuesA0_eq : val_main_v97 (F := Ideal) x w g = cachedValuesA (val_main_v17 (F := Ideal) x w g) := rfl
theorem valuesA2_eq : val_main_v199 (F := Ideal) x w g = cachedValuesA (val_main_v119 (F := Ideal) x w g) := rfl
theorem keysB0_eq : val_main_v99 (F := Ideal) x w g = cachedKeysB (val_main_v17 (F := Ideal) x w g) := rfl
theorem keysB2_eq : val_main_v201 (F := Ideal) x w g = cachedKeysB (val_main_v119 (F := Ideal) x w g) := rfl
theorem valuesB0_eq : val_main_v101 (F := Ideal) x w g = cachedValuesB (val_main_v17 (F := Ideal) x w g) := rfl
theorem valuesB2_eq : val_main_v203 (F := Ideal) x w g = cachedValuesB (val_main_v119 (F := Ideal) x w g) := rfl

end Cert.MixerReferenceIdeal.At

end
-- ==== Proof.MixerValue.lean ====
/- The kernel's projections of mixers A and B are the plain ones, and so are the caches cut from them. -/
module

public import proofs.«01_k».proof.Proof.MixerRun
public import proofs.«01_k».proof.Proof.MixerReference

@[expose] public section

set_option maxRecDepth 16384

noncomputable section

namespace Cert.MixerIdeal.Value

open Cert.MixerIdeal Cert.MixerIdeal.Gen Cert.MixerIdeal.Parts Idealize.ShloMosaic
open Cert Cert.Cell
open Cert.MixerReferenceIdeal.At (theta element plainCell joined joined_at)

/-- A tile's lane as a column. -/
def col (q : Fin 18) (n : Fin 512) : Fin 9216 := ⟨q.val * 512 + n.val, by omega⟩

/-- A rotated row of a tile in plain form. -/
theorem turned_eq (E : Fin 9216 → EReal) (t : Fin 64 → EReal) (C S : Fin 128 → EReal) (q : Fin 18) (n : Fin 512)
    (hC : ∀ (l : Fin 128) (m : Fin 64), l.val % 64 = m.val → C l = Ideal.cos (t m))
    (hS : ∀ (l : Fin 128) (m : Fin 64), l.val % 64 = m.val → S l = if l.val < 64 then 0 - Ideal.sin (t m) else Ideal.sin (t m)) :
    turned (fun n => E (col q n)) C S n = rope E (fun l => Ideal.cos (t l)) (fun l => Ideal.sin (t l)) (col q n) := by
  have hl : (inner n).val = n.val % 128 := rfl
  have ho : (other n).val = n.val / 128 * 128 + (n.val % 128 + 64) % 128 := rfl
  have hc : ∀ n : Fin 512, (col q n).val = q.val * 512 + n.val := fun _ => rfl
  unfold turned
  by_cases k : n.val % 128 < 64
  · have hm : (inner n).val % 64 = (⟨n.val % 128, k⟩ : Fin 64).val := by dsimp only; omega
    rw [rope_low E _ _ (col q n) (col q (other n)) (⟨n.val % 128, k⟩ : Fin 64) (by rw [hc]; dsimp only; omega) (by rw [hc, hc]; omega),
      hC _ _ hm, hS _ _ hm, if_pos (by omega), turn]
  · have hm : (inner n).val % 64 = (⟨n.val % 128 - 64, by omega⟩ : Fin 64).val := by dsimp only; omega
    rw [rope_high E _ _ (col q n) (col q (other n)) (⟨n.val % 128 - 64, by omega⟩ : Fin 64) (by rw [hc]; dsimp only; omega) (by rw [hc, hc]; omega),
      hC _ _ hm, hS _ _ hm, if_neg (by omega)]

/-- A tile's number gives the kind of its columns. -/
theorem kind (E : Fin 9216 → EReal) (C S : Fin 64 → EReal) (q : Fin 18) (n : Fin 512) :
    (if q.val < 5 then rope E C S (col q n) else E (col q n)) * factor q.val = cell E C S (col q n) := by
  have hc : (col q n).val = q.val * 512 + n.val := rfl
  unfold factor cell
  by_cases h0 : q.val < 4
  · rw [if_pos (by omega), if_pos (Or.inl h0), if_pos (by omega)]
  rw [if_neg (show ¬(col q n).val < 2048 by omega)]
  by_cases h1 : q.val < 5
  · rw [if_pos h1, if_neg (by omega), if_pos (by omega), Ideal.ofBits_one_f32, mul_one]
  rw [if_neg h1, if_neg (show ¬(col q n).val < 2560 by omega)]
  by_cases h2 : q.val < 6
  · rw [if_neg (by omega), if_pos (by omega), Ideal.ofBits_one_f32, mul_one]
  rw [if_neg (show ¬(col q n).val < 3072 by omega)]
  by_cases h3 : q.val < 10
  · rw [if_pos (Or.inr ⟨by omega, h3⟩), if_pos (by omega)]
  · rw [if_neg (by omega), if_neg (by omega), Ideal.ofBits_one_f32, mul_one]

/-- The rows of lanes hold the frequencies twice. -/
theorem freq_eq : Run.freq = MixerReferenceIdeal.Read.val_main_v30 (F := Ideal) := rfl
theorem wave_at (l : Fin 128) (m : Fin 64) (h : l.val % 64 = m.val) : Run.wave (ix2 (0 : Fin 1) l) = Run.freq (ix1 m) := by
  unfold Run.wave
  generalize Run.freq = v
  pointwise []
  by_cases k : l.val < 64
  · exact (dif_pos k).trans (congrArg (fun m => v (ix1 m)) (Fin.ext (by dsimp only; omega)))
  · exact (dif_neg k).trans (congrArg (fun m => v (ix1 m)) (Fin.ext (by dsimp only; omega)))
theorem angle_eq (r : Fin 16384) (l : Fin 128) (m : Fin 64) (h : l.val % 64 = m.val) : angle Run.wave r.val l = theta r m := by
  unfold angle theta
  rw [wave_at l m h, freq_eq]

variable (x y : FVec Ideal S16384x4096 .f32) (w : FVec Ideal S2x4096x9216 .f32) (g : FVec Ideal S4x4096 .f32)

/-- A projected element is the plain one. -/
theorem projected_col (s : Fin 2) (n : Fin 4) (r : Fin 16384) (q : Fin 18) (a : Fin 512) :
    mixRow (fun k => x (ix2 r k)) (fun l => lanesOf x (ix2 r l)) (fun k b => gainedTiles w s (HeadsIdeal.Run.gain n g) (ix3 q k b))
      (fun l => cosTable Run.wave (ix2 r l)) (fun l => sinTable Run.wave (ix2 r l)) q.val a = plainCell r x w g s n (col q a) := by
  have hE : ∀ b : Fin 512, (∑ k : Fin 4096, (show EReal from x (ix2 r k)) * gainedTiles w s (HeadsIdeal.Run.gain n g) (ix3 q k b))
      * Norm.rstd (∑ l : Fin 128, lanesOf x (ix2 r l)) = element r x w g s n (col q b) := fun b =>
    Norm.scaled_eq (fun k => x (ix2 r k)) (fun k => g (ix2 n k)) (fun k => w (ix3 s k (col q b)))
  unfold mixRow plainCell
  rw [← kind, ← turned_eq (element r x w g s n) (theta r) (fun l => cosTable Run.wave (ix2 r l)) (fun l => sinTable Run.wave (ix2 r l)) q a
    (fun l m h => congrArg Ideal.cos (angle_eq r l m h))
    (fun l m h => by rw [← angle_eq r l m h]; rfl)]
  refine congrArg (· * factor q.val) ?_
  by_cases k : q.val < 5
  · rw [if_pos k, if_pos k]
    exact congrArg (fun T => turned T _ _ a) (funext hE)
  · rw [if_neg k, if_neg k]
    exact hE a

theorem projected_eq (s : Fin 2) (n : Fin 4) (r : Fin 16384) (j : Fin 9216) :
    Run.projected x w s g n (ix2 r j) = plainCell r x w g s n j := by
  have e : col (⟨j.val / 512, by omega⟩ : Fin 18) (⟨j.val % 512, by omega⟩ : Fin 512) = j :=
    Fin.ext (by show j.val / 512 * 512 + j.val % 512 = j.val; omega)
  refine Eq.trans ?_ (congrArg (plainCell r x w g s n) e)
  exact projected_col x w g s n r (⟨j.val / 512, by omega⟩ : Fin 18) (⟨j.val % 512, by omega⟩ : Fin 512)

/-- The caches cut from the last rows of an array. -/
theorem keysA_at (A : S16384x9216.Idx → EReal) (z : Fin 1) (p : Fin 128) (h : Fin 4) (d : Fin 128) : Run.keysA (Run.lastRows A) (ix4 z p h d)
    = A (ix2 (⟨16256 + p.val, by omega⟩ : Fin 16384) (⟨2048 + (h.val * 128 + d.val), by omega⟩ : Fin 9216)) := by
  have e : ∀ M : FVec Ideal S512x9216 .f32, Run.keysA M (ix4 z p h d)
      = M (ix2 (⟨384 + p.val, by omega⟩ : Fin 512) (⟨2048 + (h.val * 128 + d.val), by omega⟩ : Fin 9216)) := fun M => by
    pointwise [Run.keysA]
  exact (e _).trans (congrArg (fun r => A (ix2 r _)) (Fin.ext (by show 15872 + (384 + p.val) = 16256 + p.val; omega)))
theorem valuesA_at (A : S16384x9216.Idx → EReal) (z : Fin 1) (p : Fin 128) (h : Fin 4) (d : Fin 128) : Run.valuesA (Run.lastRows A) (ix4 z p h d)
    = A (ix2 (⟨16256 + p.val, by omega⟩ : Fin 16384) (⟨2560 + (h.val * 128 + d.val), by omega⟩ : Fin 9216)) := by
  have e : ∀ M : FVec Ideal S512x9216 .f32, Run.valuesA M (ix4 z p h d)
      = M (ix2 (⟨384 + p.val, by omega⟩ : Fin 512) (⟨2560 + (h.val * 128 + d.val), by omega⟩ : Fin 9216)) := fun M => by
    pointwise [Run.valuesA]
  exact (e _).trans (congrArg (fun r => A (ix2 r _)) (Fin.ext (by show 15872 + (384 + p.val) = 16256 + p.val; omega)))
theorem keysB_at (A : S16384x9216.Idx → EReal) (z : Fin 1) (p : Fin 512) (h : Fin 16) (d : Fin 128) : Run.keysB (Run.lastRows A) (ix4 z p h d)
    = A (ix2 (⟨15872 + p.val, by omega⟩ : Fin 16384) (⟨5120 + (h.val * 128 + d.val), by omega⟩ : Fin 9216)) := by
  have e : ∀ M : FVec Ideal S512x9216 .f32, Run.keysB M (ix4 z p h d)
      = M (ix2 p (⟨5120 + (h.val * 128 + d.val), by omega⟩ : Fin 9216)) := fun M => by
    pointwise [Run.keysB]
  exact e _
theorem valuesB_at (A : S16384x9216.Idx → EReal) (z : Fin 1) (p : Fin 512) (h : Fin 16) (d : Fin 128) : Run.valuesB (Run.lastRows A) (ix4 z p h d)
    = A (ix2 (⟨15872 + p.val, by omega⟩ : Fin 16384) (⟨7168 + (h.val * 128 + d.val), by omega⟩ : Fin 9216)) := by
  have e : ∀ M : FVec Ideal S512x9216 .f32, Run.valuesB M (ix4 z p h d)
      = M (ix2 p (⟨7168 + (h.val * 128 + d.val), by omega⟩ : Fin 9216)) := fun M => by
    pointwise [Run.valuesB]
  exact e _

/-- A projection agreeing with the reference's at every place has the reference's caches. -/
theorem caches (A : S16384x9216.Idx → EReal) (P : FVec Ideal S16384x9216 .f32) (C S : FVec Ideal MixerReferenceIdeal.S16384x64 .f32)
    (hA : ∀ (r : Fin 16384) (j : Fin 9216), A (ix2 r j) = joined P C S (ix2 r j)) :
    Run.keysA (Run.lastRows A) = MixerReferenceIdeal.At.cachedKeysA P C S ∧ Run.valuesA (Run.lastRows A) = MixerReferenceIdeal.At.cachedValuesA P
    ∧ Run.keysB (Run.lastRows A) = MixerReferenceIdeal.At.cachedKeysB P ∧ Run.valuesB (Run.lastRows A) = MixerReferenceIdeal.At.cachedValuesB P := by
  refine ⟨?_, ?_, ?_, ?_⟩ <;> funext i <;> idx_vars i
  · exact (keysA_at A _ _ _ _).trans ((hA _ _).trans (MixerReferenceIdeal.At.cachedKeysA_at P C S _ _ _ _).symm)
  · exact (valuesA_at A _ _ _ _).trans ((hA _ _).trans (MixerReferenceIdeal.At.cachedValuesA_at P C S _ _ _ _).symm)
  · exact (keysB_at A _ _ _ _).trans ((hA _ _).trans (MixerReferenceIdeal.At.cachedKeysB_at P C S _ _ _ _).symm)
  · exact (valuesB_at A _ _ _ _).trans ((hA _ _).trans (MixerReferenceIdeal.At.cachedValuesB_at P C S _ _ _ _).symm)

theorem at0 (r : Fin 16384) (j : Fin 9216) : Run.projected x w 0 g 0 (ix2 r j)
    = joined (MixerReferenceIdeal.Read.val_main_v17 (F := Ideal) x w g) (MixerReferenceIdeal.Read.val_main_v38 (F := Ideal))
      (MixerReferenceIdeal.Read.val_main_v40 (F := Ideal)) (ix2 r j) :=
  (projected_eq x w g 0 0 r j).trans (MixerReferenceIdeal.At.joined0 r x w g j).symm
theorem at2 (r : Fin 16384) (j : Fin 9216) : Run.projected x w 1 g 2 (ix2 r j)
    = joined (MixerReferenceIdeal.Read.val_main_v119 (F := Ideal) x w g) (MixerReferenceIdeal.Read.val_main_v38 (F := Ideal))
      (MixerReferenceIdeal.Read.val_main_v40 (F := Ideal)) (ix2 r j) :=
  (projected_eq x w g 1 2 r j).trans (MixerReferenceIdeal.At.joined2 r x w g j).symm

/-- The six results. -/
theorem layer0 : Run.projected x w 0 g 0 = MixerReferenceIdeal.Read.val_main_v93 (F := Ideal) x w g := by
  rw [MixerReferenceIdeal.At.layer0_eq]
  funext i
  idx_vars i
  exact at0 x w g _ _
theorem layer2 : Run.projected x w 1 g 2 = MixerReferenceIdeal.Read.val_main_v195 (F := Ideal) x w g := by
  rw [MixerReferenceIdeal.At.layer2_eq]
  funext i
  idx_vars i
  exact at2 x w g _ _
theorem keysA : Run.stackA (Run.keysA (Run.lastRows (Run.projected x w 0 g 0))) (Run.keysA (Run.lastRows (Run.projected y w 1 g 2)))
    = MixerReferenceIdeal.Read.val_main_v206 (F := Ideal) x y w g := by
  rw [(caches _ _ _ _ (at0 x w g)).1, (caches _ _ _ _ (at2 y w g)).1, ← MixerReferenceIdeal.At.keysA0_eq, ← MixerReferenceIdeal.At.keysA2_eq]
  rfl
theorem valuesA : Run.stackA (Run.valuesA (Run.lastRows (Run.projected x w 0 g 0))) (Run.valuesA (Run.lastRows (Run.projected y w 1 g 2)))
    = MixerReferenceIdeal.Read.val_main_v209 (F := Ideal) x y w g := by
  rw [(caches _ _ _ _ (at0 x w g)).2.1, (caches _ _ _ _ (at2 y w g)).2.1, ← MixerReferenceIdeal.At.valuesA0_eq, ← MixerReferenceIdeal.At.valuesA2_eq]
  rfl
theorem keysB : Run.stackB (Run.keysB (Run.lastRows (Run.projected x w 0 g 0))) (Run.keysB (Run.lastRows (Run.projected y w 1 g 2)))
    = MixerReferenceIdeal.Read.val_main_v212 (F := Ideal) x y w g := by
  rw [(caches _ _ _ _ (at0 x w g)).2.2.1, (caches _ _ _ _ (at2 y w g)).2.2.1, ← MixerReferenceIdeal.At.keysB0_eq, ← MixerReferenceIdeal.At.keysB2_eq]
  rfl
theorem valuesB : Run.stackB (Run.valuesB (Run.lastRows (Run.projected x w 0 g 0))) (Run.valuesB (Run.lastRows (Run.projected y w 1 g 2)))
    = MixerReferenceIdeal.Read.val_main_v215 (F := Ideal) x y w g := by
  rw [(caches _ _ _ _ (at0 x w g)).2.2.2, (caches _ _ _ _ (at2 y w g)).2.2.2, ← MixerReferenceIdeal.At.valuesB0_eq, ← MixerReferenceIdeal.At.valuesB2_eq]
  rfl

end Cert.MixerIdeal.Value

end
-- ==== Proof.MixerClaims.lean ====
/- The claims about mixers A and B's projection: its frames, and that kernel and reference leave the same projections and caches. -/
module

public import proofs.«01_k».proof.Defs
public import proofs.«01_k».proof.Proof.Gen.Mixer
public import proofs.«01_k».proof.Proof.Gen.Mixer.Frame
public import proofs.«01_k».proof.Proof.Gen.MixerIdeal
public import proofs.«01_k».proof.Proof.Gen.MixerReferenceIdeal
public import proofs.«01_k».proof.Proof.Gen.MixerReferenceIdeal.Run
public import proofs.«01_k».proof.Proof.MixerRun
public import proofs.«01_k».proof.Proof.MixerValue

@[expose] public section

set_option maxRecDepth 16384

noncomputable section

namespace Cert.Proof.Mixer

open Idealize.ShloMosaic Idealize.SL.Sem
open Cert Cert.MixerIdeal

theorem algebraic : Cert.algebraic_MixerIdeal_MixerReferenceIdeal := by
  intro m ρ m' ρ' _ hagree
  refine ⟨fun c => Gen.W15 m ρ c (Proc.devRef .tc main_v14), fun c => Gen.W15 m ρ c (Proc.devRef .tc main_v33),
    fun c => Gen.W15 m ρ c (Proc.devRef .tc main_v49), fun c => Gen.W15 m ρ c (Proc.devRef .tc main_v52),
    fun c => Gen.W15 m ρ c (Proc.devRef .tc main_v55), fun c => Gen.W15 m ρ c (Proc.devRef .tc main_v58), ?_, ?_⟩
  · exact (θ_run Cert.MixerIdeal.defs _ _).mono (fun _ h c => ⟨h c _ (Gen.mem_uc main_v14 (by decide)), h c _ (Gen.mem_uc main_v33 (by decide)),
      h c _ (Gen.mem_uc main_v49 (by decide)), h c _ (Gen.mem_uc main_v52 (by decide)),
      h c _ (Gen.mem_uc main_v55 (by decide)), h c _ (Gen.mem_uc main_v58 (by decide)),
      (h c _ (Gen.mem_uc main_arg0 (by decide))).trans (Gen.W15_args m ρ c main_arg0 (by decide)),
      (h c _ (Gen.mem_uc main_arg1 (by decide))).trans (Gen.W15_args m ρ c main_arg1 (by decide)),
      (h c _ (Gen.mem_uc main_arg2 (by decide))).trans (Gen.W15_args m ρ c main_arg2 (by decide)),
      (h c _ (Gen.mem_uc main_arg3 (by decide))).trans (Gen.W15_args m ρ c main_arg3 (by decide))⟩) (Run.run m ρ)
  · refine (θ_run Cert.MixerReferenceIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
      (Cert.MixerReferenceIdeal.Value.run (F := Ideal) m' ρ')
    · rw [MixerReferenceIdeal.Read.val_main_v93_eq]
      refine Eq.trans (congr (congr (congrArg (MixerReferenceIdeal.Read.val_main_v93 (F := Ideal)) (hagree c).1) (hagree c).2.2.1) (hagree c).2.2.2) ?_
      exact ((Run.proj0_end m ρ c).trans (Value.layer0 _ _ _)).symm
    · rw [MixerReferenceIdeal.Read.val_main_v195_eq]
      refine Eq.trans (congr (congr (congrArg (MixerReferenceIdeal.Read.val_main_v195 (F := Ideal)) (hagree c).2.1) (hagree c).2.2.1) (hagree c).2.2.2) ?_
      exact ((Run.proj2_end m ρ c).trans (Value.layer2 _ _ _)).symm
    · rw [MixerReferenceIdeal.Read.val_main_v206_eq]
      refine Eq.trans (congr (congr (congr (congrArg (MixerReferenceIdeal.Read.val_main_v206 (F := Ideal)) (hagree c).1) (hagree c).2.1) (hagree c).2.2.1) (hagree c).2.2.2) ?_
      exact ((Run.keysA_end m ρ c).trans (Value.keysA _ _ _ _)).symm
    · rw [MixerReferenceIdeal.Read.val_main_v209_eq]
      refine Eq.trans (congr (congr (congr (congrArg (MixerReferenceIdeal.Read.val_main_v209 (F := Ideal)) (hagree c).1) (hagree c).2.1) (hagree c).2.2.1) (hagree c).2.2.2) ?_
      exact ((Run.valuesA_end m ρ c).trans (Value.valuesA _ _ _ _)).symm
    · rw [MixerReferenceIdeal.Read.val_main_v212_eq]
      refine Eq.trans (congr (congr (congr (congrArg (MixerReferenceIdeal.Read.val_main_v212 (F := Ideal)) (hagree c).1) (hagree c).2.1) (hagree c).2.2.1) (hagree c).2.2.2) ?_
      exact ((Run.keysB_end m ρ c).trans (Value.keysB _ _ _ _)).symm
    · rw [MixerReferenceIdeal.Read.val_main_v215_eq]
      refine Eq.trans (congr (congr (congr (congrArg (MixerReferenceIdeal.Read.val_main_v215 (F := Ideal)) (hagree c).1) (hagree c).2.1) (hagree c).2.2.1) (hagree c).2.2.2) ?_
      exact ((Run.valuesB_end m ρ c).trans (Value.valuesB _ _ _ _)).symm

theorem frame_kernel : Cert.quiescent_Mixer := fun m ρ _ => Cert.Mixer.Gen.frame m ρ
theorem frame_ideal : Cert.quiescent_MixerIdeal := fun m ρ _ => Cert.MixerIdeal.Gen.frame m ρ
theorem frame_ref : Cert.quiescent_MixerReferenceIdeal := fun m ρ _ =>
  (θ_run Cert.MixerReferenceIdeal.defs _ _).mono (fun r h => ⟨fun c => (h c).2.2.2.2.2.2, sem_eq_zero_of_no_sems (by decide) r.2⟩)
    (Cert.MixerReferenceIdeal.Value.run (F := Ideal) m ρ)

end Cert.Proof.Mixer

end
-- ==== Proof.OutCValue.lean ====
/- The output projection of mixer C: what the kernel adds to the residual. -/
module

public import proofs.«01_k».proof.Proof.Gen.OutCIdeal.Value
public import proofs.«01_k».proof.Proof.Gen.OutCReferenceIdeal.Read
public import Idealize.ShloMosaic.Lib.Pipeline.ValueKit
public import Idealize.ShloMosaic.Lib.Pointwise

@[expose] public section

set_option maxRecDepth 16384

noncomputable section

namespace Cert.OutCIdeal.Out

open Cert.OutCIdeal Cert.OutCIdeal.Gen Idealize.ShloMosaic Idealize.ShloMosaic.TcCoe Idealize.SL.Sem
open Idealize.ShloMosaic.Pipeline (Dat)

variable (m : (ℓ : Loc nD τ sig) → Buf (Elt Ideal) ℓ)

/-- One element of the payload. -/
theorem payload (v0 : Vec Ideal S1024x512 .f32) (v1 : Vec Ideal S1024x2048 .bf16) (v2 : Vec Ideal S2048x512 .bf16) (r : Fin 1024) (d : Fin 512) :
    k0_pay1 (F := Ideal) v0 v1 v2 (ix2 r d)
    = (show EReal from v0 (ix2 r d)) + ∑ k : Fin 2048, (show EReal from v1 (ix2 r k)) * (show EReal from v2 (ix2 k d)) := by
  pointwise [k0_pay1]

theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

theorem lt0 (t : Fin cfg0.N) : (grid0.coords t 0).val < 16 := (grid0.coords t 0).isLt
theorem lt1 (t : Fin cfg0.N) : (grid0.coords t 1).val < 8 := (grid0.coords t 1).isLt

/-- The residual with the projection added, as an array. -/
def added (X : FVec Ideal S16384x2048 .bf16) (W : FVec Ideal S2048x4096 .bf16) (Y : FVec Ideal S16384x4096 .f32)
    (i : S16384x4096.Idx) : EReal :=
  (show EReal from Y i) + ∑ k : Fin 2048, (show EReal from X (ix2 (⟨(i 0).val, (i 0).isLt⟩ : Fin 16384) k))
    * (show EReal from W (ix2 k (⟨(i 1).val, (i 1).isLt⟩ : Fin 4096)))

/-- At every point the block is left at the payload. -/
theorem left (c : Dev nD) (t : Fin cfg0.N) (y : S1024x512.Idx) :
    (outsAt0 m c t.val t.isLt).1 y = k0_pay1 (F := Ideal) (iblk m c 2 t) (iblk m c 0 t) (iblk m c 1 t) y := by
  by_cases h0 : t.val % 8 = 0
  · rw [outsAt0_A m c t h0 (by omega)]
    dsimp only
    unfold out0_A_3
    frame_out
  · rw [outsAt0_B m c t h0 (by omega)]
    dsimp only
    unfold out0_B_3
    frame_out

/-- What a point leaves in its block. -/
theorem point (c : Dev nD) (t : Fin cfg0.N) (r : Fin 1024) (d : Fin 512) : (outsAt0 m c t.val t.isLt).1 (ix2 r d)
    = added (m ((c : Thread nD τ).loc main_arg0)) (m ((c : Thread nD τ).loc main_arg1)) (m ((c : Thread nD τ).loc main_arg2))
      (ix2 (⟨(grid0.coords t 0).val * 1024 + r.val, by have := lt0 t; omega⟩ : Fin 16384)
        (⟨(grid0.coords t 1).val * 512 + d.val, by have := lt1 t; omega⟩ : Fin 4096)) := by
  rw [left, payload]
  have r0 : ∀ k : Fin 2048, iblk m c 0 t (ix2 r k)
      = m ((c : Thread nD τ).loc main_arg0) (ix2 (⟨(grid0.coords t 0).val * 1024 + r.val, by have := lt0 t; omega⟩ : Fin 16384) k) := fun k => by
    blk_ext [iblk, V, idx t]
  have r1 : ∀ k : Fin 2048, iblk m c 1 t (ix2 k d)
      = m ((c : Thread nD τ).loc main_arg1) (ix2 k (⟨(grid0.coords t 1).val * 512 + d.val, by have := lt1 t; omega⟩ : Fin 4096)) := fun k => by
    blk_ext [iblk, V, idx t]
  have r2 : iblk m c 2 t (ix2 r d)
      = m ((c : Thread nD τ).loc main_arg2) (ix2 (⟨(grid0.coords t 0).val * 1024 + r.val, by have := lt0 t; omega⟩ : Fin 16384)
        (⟨(grid0.coords t 1).val * 512 + d.val, by have := lt1 t; omega⟩ : Fin 4096)) := by
    blk_ext [iblk, V, idx t]
  simp only [r0, r1, r2]
  rfl

/-- The residual's array after the last point. -/
theorem final (c : Dev nD) : (dats m 0 c).arrAt 3 cfg0.N
    = added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have e : (win0_3.blk t).view.emb y = (ix2
      (⟨(grid0.coords t 0).val * 1024 + (y 0).val, by have := lt0 t; have : (y 0).val < 1024 := (y 0).isLt; omega⟩ : Fin 16384)
      (⟨(grid0.coords t 1).val * 512 + (y 1).val, by have := lt1 t; have : (y 1).val < 512 := (y 1).isLt; omega⟩ : Fin 4096) : S16384x4096.Idx) := by
    blk_ext [idx t]
  have ey : y = (ix2 (⟨(y 0).val, (y 0).isLt⟩ : Fin 1024) (⟨(y 1).val, (y 1).isLt⟩ : Fin 512) : S1024x512.Idx) := by blk_ext []
  rw [e, after0_3]
  exact (congrArg (outsAt0 m c t.val t.isLt).1 ey).trans (point m c t _ _)

/-- The reference read at a place. -/
theorem reference (X : FVec Ideal S16384x2048 .bf16) (W : FVec Ideal S2048x4096 .bf16) (Y : FVec Ideal S16384x4096 .f32)
    (i : S16384x4096.Idx) : OutCReferenceIdeal.Read.val_main_v3 (F := Ideal) X W Y i = added X W Y i := by
  idx_vars i
  pointwise [OutCReferenceIdeal.Read.val_main_v3, OutCReferenceIdeal.Read.val_main_v2, OutCReferenceIdeal.Read.val_main_v1,
    OutCReferenceIdeal.Read.val_main_v0]
  rfl

end Cert.OutCIdeal.Out

end
-- ==== Proof.OutCClaims.lean ====
/- The claims about the output projection of mixer C: its frames, and that kernel and reference leave the same residual. -/
module

public import proofs.«01_k».proof.Defs
public import proofs.«01_k».proof.Proof.Gen.OutC
public import proofs.«01_k».proof.Proof.Gen.OutC.Frame
public import proofs.«01_k».proof.Proof.Gen.OutCIdeal.Frame
public import proofs.«01_k».proof.Proof.Gen.OutCReferenceIdeal
public import proofs.«01_k».proof.Proof.Gen.OutCReferenceIdeal.Run
public import proofs.«01_k».proof.Proof.OutCValue

@[expose] public section

set_option maxRecDepth 16384

noncomputable section

namespace Cert.Proof.OutC

open Idealize.ShloMosaic Idealize.SL.Sem
open Cert Cert.OutCIdeal

theorem algebraic : Cert.algebraic_OutCIdeal_OutCReferenceIdeal := by
  intro m ρ m' ρ' _ hagree
  refine ⟨fun c => Out.added (m ((c.tc : Thread nD τ).loc main_arg0)) (m ((c.tc : Thread nD τ).loc main_arg1))
    (m ((c.tc : Thread nD τ).loc main_arg2)), ?_, ?_⟩
  · exact (θ_run Cert.OutCIdeal.defs _ _).mono (fun _ h c => ⟨(h c).1.trans (Out.final m c), (h c).2.2.2⟩)
      (Cert.OutCIdeal.Value.run_blocks m ρ)
  · refine (θ_run Cert.OutCReferenceIdeal.defs _ _).mono (fun _ h c => ⟨(h c).1.trans ?_, (h c).2⟩)
      (Cert.OutCReferenceIdeal.Value.run (F := Ideal) m' ρ')
    rw [OutCReferenceIdeal.Read.val_main_v3_eq, (hagree c).1, (hagree c).2.1, (hagree c).2.2]
    exact funext fun i => Out.reference _ _ _ i

theorem frame_kernel : Cert.quiescent_OutC := fun m ρ _ => Cert.OutC.Gen.frame m ρ
theorem frame_ideal : Cert.quiescent_OutCIdeal := fun m ρ _ => Cert.OutCIdeal.Gen.frame m ρ
theorem frame_ref : Cert.quiescent_OutCReferenceIdeal := fun m ρ _ =>
  (θ_run Cert.OutCReferenceIdeal.defs _ _).mono (fun r h => ⟨fun c => (h c).2, sem_eq_zero_of_no_sems (by decide) r.2⟩)
    (Cert.OutCReferenceIdeal.Value.run (F := Ideal) m ρ)

end Cert.Proof.OutC

end
-- ==== Proof.OutABValue.lean ====
/- The output projection of mixers A and B: what the kernel adds to the residual. -/
module

public import proofs.«01_k».proof.Proof.Gen.OutABIdeal.Value
public import proofs.«01_k».proof.Proof.Gen.OutABReferenceIdeal.Read
public import Idealize.ShloMosaic.Lib.Pipeline.ValueKit
public import Idealize.ShloMosaic.Lib.Pointwise

@[expose] public section

set_option maxRecDepth 16384

noncomputable section

namespace Cert.OutABIdeal.Out

open Cert.OutABIdeal Cert.OutABIdeal.Gen Idealize.ShloMosaic Idealize.ShloMosaic.TcCoe Idealize.SL.Sem
open Idealize.ShloMosaic.Pipeline (Dat)

variable (m : (ℓ : Loc nD τ sig) → Buf (Elt Ideal) ℓ)

/-- One element of the payload: each head group against its half of the weights' rows. -/
theorem payload (v0 : Vec Ideal S1024x2048 .bf16) (v1 : Vec Ideal S1x2048x512 .bf16) (v4 : Vec Ideal S1024x2048 .bf16) (v5 : Vec Ideal S1x2048x512 .bf16)
    (v9 : Vec Ideal S1024x512 .f32) (r : Fin 1024) (d : Fin 512) :
    k0_pay1 (F := Ideal) v0 v1 v4 v5 v9 (ix2 r d)
    = (show EReal from v9 (ix2 r d)) + ((∑ k : Fin 2048, (show EReal from v0 (ix2 r k)) * (show EReal from v1 (ix3 (0 : Fin 1) k d)))
      + ∑ k : Fin 2048, (show EReal from v4 (ix2 r k)) * (show EReal from v5 (ix3 (0 : Fin 1) k d))) := by
  pointwise [k0_pay1]

theorem idx : ∀ t : Fin cfg0.N, win0_0.index t = ![(grid0.coords t 0).val, 0]
    ∧ win0_1.index t = ![(grid0.coords t 0).val, 0]
    ∧ win0_2.index t = ![(grid0.coords t 1).val, 0, 0]
    ∧ win0_3.index t = ![(grid0.coords t 0).val, (grid0.coords t 1).val]
    ∧ win0_4.index t = ![(grid0.coords t 0).val, (grid0.coords t 1).val] :=
  (by decide +kernel : ∀ t : Fin grid0.N, _)

theorem lt0 (t : Fin cfg0.N) : (grid0.coords t 0).val < 16 := (grid0.coords t 0).isLt
theorem lt1 (t : Fin cfg0.N) : (grid0.coords t 1).val < 8 := (grid0.coords t 1).isLt

/-- The residual with the projection added, one place. -/
def element (A B : FVec Ideal S16384x2048 .bf16) (W : FVec Ideal S8x4096x512 .bf16) (Y : FVec Ideal S16384x4096 .f32)
    (i : Fin 16384) (j : Fin 8) (d : Fin 512) : EReal :=
  (show EReal from Y (ix2 i (⟨j.val * 512 + d.val, by omega⟩ : Fin 4096)))
  + ((∑ k : Fin 2048, (show EReal from A (ix2 i k)) * (show EReal from W (ix3 j (⟨k.val, by omega⟩ : Fin 4096) d)))
    + ∑ k : Fin 2048, (show EReal from B (ix2 i k)) * (show EReal from W (ix3 j (⟨2048 + k.val, by omega⟩ : Fin 4096) d)))

/-- The residual with the projection added, as an array. -/
def added (A B : FVec Ideal S16384x2048 .bf16) (W : FVec Ideal S8x4096x512 .bf16) (Y : FVec Ideal S16384x4096 .f32)
    (i : S16384x4096.Idx) : EReal :=
  element A B W Y (⟨(i 0).val, (i 0).isLt⟩ : Fin 16384)
    (⟨(i 1).val / 512, by have : (i 1).val < 4096 := (i 1).isLt; omega⟩ : Fin 8) (⟨(i 1).val % 512, Nat.mod_lt _ (by decide)⟩ : Fin 512)

theorem element_congr (A B : FVec Ideal S16384x2048 .bf16) (W : FVec Ideal S8x4096x512 .bf16) (Y : FVec Ideal S16384x4096 .f32)
    {i i' : Fin 16384} {j j' : Fin 8} {d d' : Fin 512} (h0 : i.val = i'.val) (h1 : j.val = j'.val) (h2 : d.val = d'.val) :
    element A B W Y i j d = element A B W Y i' j' d' := by
  rw [Fin.ext h0, Fin.ext h1, Fin.ext h2]

/-- The first half of a weights' tile. -/
theorem low (x : Vec Ideal S1x4096x512 .bf16) (k : Fin 2048) (d : Fin 512) :
    View.ld x (Rect.unit ![0, 0, 0] ![1, 2048, 512] inb_S1x4096x512_S1x2048x512_0_0_0) (ix3 (0 : Fin 1) k d)
    = x (ix3 (0 : Fin 1) (⟨k.val, by omega⟩ : Fin 4096) d) := by
  refine View.ld_unit_apply_of _ _ _ _ _ _ fun a => ?_
  match a with
  | ⟨0, _⟩ => rfl
  | ⟨1, _⟩ => exact (Nat.zero_add _).symm
  | ⟨2, _⟩ => exact (Nat.zero_add _).symm

/-- The second half of a weights' tile. -/
theorem high (x : Vec Ideal S1x4096x512 .bf16) (k : Fin 2048) (d : Fin 512) :
    View.ld x (Rect.unit ![0, 2048, 0] ![1, 2048, 512] inb_S1x4096x512_S1x2048x512_0_2048_0) (ix3 (0 : Fin 1) k d)
    = x (ix3 (0 : Fin 1) (⟨2048 + k.val, by omega⟩ : Fin 4096) d) := by
  refine View.ld_unit_apply_of _ _ _ _ _ _ fun a => ?_
  match a with
  | ⟨0, _⟩ => rfl
  | ⟨1, _⟩ => rfl
  | ⟨2, _⟩ => exact (Nat.zero_add _).symm

/-- What a point leaves in its block. -/
theorem point (c : Dev nD) (t : Fin cfg0.N) (r : Fin 1024) (d : Fin 512) : (outsAt0 m c t.val t.isLt).1 (ix2 r d)
    = element (m ((c : Thread nD τ).loc main_arg0)) (m ((c : Thread nD τ).loc main_arg1)) (m ((c : Thread nD τ).loc main_arg2))
      (m ((c : Thread nD τ).loc main_arg3))
      (⟨(grid0.coords t 0).val * 1024 + r.val, by have := lt0 t; omega⟩ : Fin 16384) (⟨(grid0.coords t 1).val, lt1 t⟩ : Fin 8) d := by
  have r0 : ∀ k : Fin 2048, iblk m c 0 t (ix2 r k)
      = m ((c : Thread nD τ).loc main_arg0) (ix2 (⟨(grid0.coords t 0).val * 1024 + r.val, by have := lt0 t; omega⟩ : Fin 16384) k) := fun k => by
    blk_ext [iblk, V, idx t]
  have r1 : ∀ k : Fin 2048, iblk m c 1 t (ix2 r k)
      = m ((c : Thread nD τ).loc main_arg1) (ix2 (⟨(grid0.coords t 0).val * 1024 + r.val, by have := lt0 t; omega⟩ : Fin 16384) k) := fun k => by
    blk_ext [iblk, V, idx t]
  have r2 : ∀ k : Fin 4096, iblk m c 2 t (ix3 (0 : Fin 1) k d)
      = m ((c : Thread nD τ).loc main_arg2) (ix3 (⟨(grid0.coords t 1).val, lt1 t⟩ : Fin 8) k d) := fun k => by
    blk_ext [iblk, V, idx t]
  have r3 : iblk m c 3 t (ix2 r d)
      = m ((c : Thread nD τ).loc main_arg3) (ix2 (⟨(grid0.coords t 0).val * 1024 + r.val, by have := lt0 t; omega⟩ : Fin 16384)
        (⟨(grid0.coords t 1).val * 512 + d.val, by have := lt1 t; omega⟩ : Fin 4096)) := by
    blk_ext [iblk, V, idx t]
  have whole : ∀ (a b w1 w2 : Fin 2048 → EReal), (a = fun k => iblk m c 0 t (ix2 r k)) → (b = fun k => iblk m c 1 t (ix2 r k))
      → (w1 = fun k => View.ld (iblk m c 2 t) (Rect.unit ![0, 0, 0] ![1, 2048, 512] inb_S1x4096x512_S1x2048x512_0_0_0) (ix3 (0 : Fin 1) k d))
      → (w2 = fun k => View.ld (iblk m c 2 t) (Rect.unit ![0, 2048, 0] ![1, 2048, 512] inb_S1x4096x512_S1x2048x512_0_2048_0) (ix3 (0 : Fin 1) k d))
      → (show EReal from iblk m c 3 t (ix2 r d)) + ((∑ k, a k * w1 k) + ∑ k, b k * w2 k)
      = element (m ((c : Thread nD τ).loc main_arg0)) (m ((c : Thread nD τ).loc main_arg1)) (m ((c : Thread nD τ).loc main_arg2))
        (m ((c : Thread nD τ).loc main_arg3))
        (⟨(grid0.coords t 0).val * 1024 + r.val, by have := lt0 t; omega⟩ : Fin 16384) (⟨(grid0.coords t 1).val, lt1 t⟩ : Fin 8) d := by
    intro a b w1 w2 ha hb h1 h2
    subst ha hb h1 h2
    unfold element
    refine congrArg₂ (fun p q : EReal => p + q) r3 (congrArg₂ (fun p q : EReal => p + q) (Finset.sum_congr rfl fun k _ => Ideal.mul_congr (r0 k) ?_)
      (Finset.sum_congr rfl fun k _ => Ideal.mul_congr (r1 k) ?_))
    · exact (low _ k d).trans (r2 _)
    · exact (high _ k d).trans (r2 _)
  by_cases h0 : t.val % 8 = 0
  · rw [outsAt0_A m c t h0 (by omega)]
    dsimp only
    unfold out0_A_4
    frame_out
    rw [payload]
    exact whole _ _ _ _ rfl rfl rfl rfl
  · rw [outsAt0_B m c t h0 (by omega)]
    dsimp only
    unfold out0_B_4
    frame_out
    rw [payload]
    exact whole _ _ _ _ rfl rfl rfl rfl

/-- The residual's array after the last point. -/
theorem final (c : Dev nD) : (dats m 0 c).arrAt 4 cfg0.N
    = added (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  have e : (win0_4.blk t).view.emb y = (ix2
      (⟨(grid0.coords t 0).val * 1024 + (y 0).val, by have := lt0 t; have : (y 0).val < 1024 := (y 0).isLt; omega⟩ : Fin 16384)
      (⟨(grid0.coords t 1).val * 512 + (y 1).val, by have := lt1 t; have : (y 1).val < 512 := (y 1).isLt; omega⟩ : Fin 4096) : S16384x4096.Idx) := by
    blk_ext [idx t]
  have ey : y = (ix2 (⟨(y 0).val, (y 0).isLt⟩ : Fin 1024) (⟨(y 1).val, (y 1).isLt⟩ : Fin 512) : S1024x512.Idx) := by blk_ext []
  have hy : (y 1).val < 512 := (y 1).isLt
  rw [e, after0_4]
  refine (congrArg (outsAt0 m c t.val t.isLt).1 ey).trans ((point m c t _ _).trans ?_)
  refine element_congr _ _ _ _ rfl ?_ ?_
  · show (grid0.coords t 1).val = ((grid0.coords t 1).val * 512 + (y 1).val) / 512
    omega
  · show (y 1).val = ((grid0.coords t 1).val * 512 + (y 1).val) % 512
    omega

/-- The reference read at a place. -/
theorem reference (A B : FVec Ideal S16384x2048 .bf16) (W : FVec Ideal S8x4096x512 .bf16) (Y : FVec Ideal S16384x4096 .f32)
    (i : S16384x4096.Idx) : OutABReferenceIdeal.Read.val_main_v6 (F := Ideal) A B W Y i = added A B W Y i := by
  idx_vars i
  pointwise [OutABReferenceIdeal.Read.val_main_v6, OutABReferenceIdeal.Read.val_main_v5, OutABReferenceIdeal.Read.val_main_v4,
    OutABReferenceIdeal.Read.val_main_v3, OutABReferenceIdeal.Read.val_main_v2, OutABReferenceIdeal.Read.val_main_v1,
    OutABReferenceIdeal.Read.val_main_v0]
  unfold added element
  refine congrArg (· + _) (congrArg (fun j => Y (ix2 i0 j)) (Fin.ext ?_))
  show i1.val = i1.val / 512 * 512 + i1.val % 512
  omega

end Cert.OutABIdeal.Out

end
-- ==== Proof.OutABClaims.lean ====
/- The claims about the output projection of mixers A and B: its frames, and that kernel and reference leave the same residual. -/
module

public import proofs.«01_k».proof.Defs
public import proofs.«01_k».proof.Proof.Gen.OutAB
public import proofs.«01_k».proof.Proof.Gen.OutAB.Frame
public import proofs.«01_k».proof.Proof.Gen.OutABIdeal.Frame
public import proofs.«01_k».proof.Proof.Gen.OutABReferenceIdeal
public import proofs.«01_k».proof.Proof.Gen.OutABReferenceIdeal.Run
public import proofs.«01_k».proof.Proof.OutABValue

@[expose] public section

set_option maxRecDepth 16384

noncomputable section

namespace Cert.Proof.OutAB

open Idealize.ShloMosaic Idealize.SL.Sem
open Cert Cert.OutABIdeal

theorem algebraic : Cert.algebraic_OutABIdeal_OutABReferenceIdeal := by
  intro m ρ m' ρ' _ hagree
  refine ⟨fun c => Out.added (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run Cert.OutABIdeal.defs _ _).mono (fun _ h c => ⟨(h c).1.trans (Out.final m c), (h c).2.2.2⟩)
      (Cert.OutABIdeal.Value.run_blocks m ρ)
  · refine (θ_run Cert.OutABReferenceIdeal.defs _ _).mono (fun _ h c => ⟨(h c).1.trans ?_, (h c).2⟩)
      (Cert.OutABReferenceIdeal.Value.run (F := Ideal) m' ρ')
    rw [OutABReferenceIdeal.Read.val_main_v6_eq, (hagree c).1, (hagree c).2.1, (hagree c).2.2.1, (hagree c).2.2.2]
    exact funext fun i => Out.reference _ _ _ _ i

theorem frame_kernel : Cert.quiescent_OutAB := fun m ρ _ => Cert.OutAB.Gen.frame m ρ
theorem frame_ideal : Cert.quiescent_OutABIdeal := fun m ρ _ => Cert.OutABIdeal.Gen.frame m ρ
theorem frame_ref : Cert.quiescent_OutABReferenceIdeal := fun m ρ _ =>
  (θ_run Cert.OutABReferenceIdeal.defs _ _).mono (fun r h => ⟨fun c => (h c).2, sem_eq_zero_of_no_sems (by decide) r.2⟩)
    (Cert.OutABReferenceIdeal.Value.run (F := Ideal) m ρ)

end Cert.Proof.OutAB

end
-- ==== Proof.lean ====
module

public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.Heads
public import proofs.«01_k».proof.Proof.Gen.Heads.Frame
public import proofs.«01_k».proof.Proof.Gen.HeadsIdeal
public import proofs.«01_k».proof.Proof.Gen.HeadsIdeal.Frame
public import proofs.«01_k».proof.Proof.Gen.Rows
public import proofs.«01_k».proof.Proof.Gen.Rows.Frame
public import proofs.«01_k».proof.Proof.Gen.RowsIdeal
public import proofs.«01_k».proof.Proof.Gen.RowsIdeal.Frame
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.OutC
public import proofs.«01_k».proof.Proof.Gen.OutC.Frame
public import proofs.«01_k».proof.Proof.Gen.OutCIdeal
public import proofs.«01_k».proof.Proof.Gen.OutCIdeal.Frame
public import proofs.«01_k».proof.Proof.Gen.OutAB
public import proofs.«01_k».proof.Proof.Gen.OutAB.Frame
public import proofs.«01_k».proof.Proof.Gen.OutABIdeal
public import proofs.«01_k».proof.Proof.Gen.OutABIdeal.Frame
public import proofs.«01_k».proof.Proof.Gen.FinalReferenceIdeal
public import proofs.«01_k».proof.Proof.Gen.FinalReferenceIdeal.Run
public import proofs.«01_k».proof.Proof.Gen.FinalReferenceIdeal.Read
public import proofs.«01_k».proof.Proof.Gen.HeadsReferenceIdeal
public import proofs.«01_k».proof.Proof.Gen.HeadsReferenceIdeal.Run
public import proofs.«01_k».proof.Proof.Gen.HeadsReferenceIdeal.Read
public import proofs.«01_k».proof.Proof.Gen.RowsReferenceIdeal
public import proofs.«01_k».proof.Proof.Gen.RowsReferenceIdeal.Run
public import proofs.«01_k».proof.Proof.Gen.RowsReferenceIdeal.Read
public import proofs.«01_k».proof.Proof.Gen.MixerReferenceIdeal
public import proofs.«01_k».proof.Proof.Gen.MixerReferenceIdeal.Run
public import proofs.«01_k».proof.Proof.Gen.MixerReferenceIdeal.Read
public import proofs.«01_k».proof.Proof.Gen.OutCReferenceIdeal
public import proofs.«01_k».proof.Proof.Gen.OutCReferenceIdeal.Run
public import proofs.«01_k».proof.Proof.Gen.OutCReferenceIdeal.Read
public import proofs.«01_k».proof.Proof.Gen.OutABReferenceIdeal
public import proofs.«01_k».proof.Proof.Gen.OutABReferenceIdeal.Run
public import proofs.«01_k».proof.Proof.Gen.OutABReferenceIdeal.Read
public import proofs.«01_k».proof.Proof.Gen.OutCIdeal.Value
public import proofs.«01_k».proof.Proof.Gen.OutABIdeal.Value
public import proofs.«01_k».proof.Proof.Attention
public import proofs.«01_k».proof.Proof.UpClaims
public import proofs.«01_k».proof.Proof.DownClaims
public import proofs.«01_k».proof.Proof.FinalClaims
public import proofs.«01_k».proof.Proof.HeadsClaims
public import proofs.«01_k».proof.Proof.RowsClaims
public import proofs.«01_k».proof.Proof.MixerClaims
public import proofs.«01_k».proof.Proof.OutCClaims
public import proofs.«01_k».proof.Proof.OutABClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.Final.Gen.facts, Cert.FinalIdeal.Gen.facts, Cert.FinalReferenceIdeal.Gen.facts,
    Cert.Heads.Gen.facts, Cert.HeadsIdeal.Gen.facts, Cert.HeadsReferenceIdeal.Gen.facts,
    Cert.Rows.Gen.facts, Cert.RowsIdeal.Gen.facts, Cert.RowsReferenceIdeal.Gen.facts,
    Cert.Mixer.Gen.facts, Cert.MixerIdeal.Gen.facts, Cert.MixerReferenceIdeal.Gen.facts,
    Cert.OutC.Gen.facts, Cert.OutCIdeal.Gen.facts, Cert.OutCReferenceIdeal.Gen.facts,
    Cert.OutAB.Gen.facts, Cert.OutABIdeal.Gen.facts, Cert.OutABReferenceIdeal.Gen.facts, Attention.pre_facts,
    Attention.frame_kernel, Attention.frame_ideal, Attention.frame_ideal_pre, Attention.frame_ref, Attention.frame_ref_pre,
    Up.frame_kernel, Up.frame_ideal, Up.frame_ref, Down.frame_kernel, Down.frame_ideal, Down.frame_ref,
    Final.frame_kernel, Final.frame_ideal, Final.frame_ref,
    Heads.frame_kernel, Heads.frame_ideal, Heads.frame_ref,
    Rows.frame_kernel, Rows.frame_ideal, Rows.frame_ref,
    Mixer.frame_kernel, Mixer.frame_ideal, Mixer.frame_ref,
    OutC.frame_kernel, OutC.frame_ideal, OutC.frame_ref,
    OutAB.frame_kernel, OutAB.frame_ideal, OutAB.frame_ref,
    IdealRules.named_const.statement Cert.KernelIdeal.κ "mask" .f32 0xF149F2CA#32 ⊥ rfl, Attention.algebraic,
    trivial, Up.algebraic, trivial, Down.algebraic, trivial, Final.algebraic, trivial, Heads.algebraic, trivial, Rows.algebraic, trivial, Mixer.algebraic, trivial, OutC.algebraic, trivial, OutAB.algebraic⟩

end Cert.Proof

end
